-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2 = (fun _ => 1#1)

def Pre_WgradGateUp (m : (ℓ : Loc Cert.WgradGateUp.nD Cert.WgradGateUp.τ Cert.WgradGateUp.sig) → Buf (Elt Bits) ℓ) : Prop :=
  True

def Pre_WgradGateUpIdeal (m : (ℓ : Loc Cert.WgradGateUpIdeal.nD Cert.WgradGateUpIdeal.τ Cert.WgradGateUpIdeal.sig) → Buf (Elt Ideal) ℓ) : Prop :=
  True

def Pre_RefWgradGateUpIdeal (m : (ℓ : Loc Cert.RefWgradGateUpIdeal.nD Cert.RefWgradGateUpIdeal.τ Cert.RefWgradGateUpIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_RefWgradDownIdeal (m : (ℓ : Loc Cert.RefWgradDownIdeal.nD Cert.RefWgradDownIdeal.τ Cert.RefWgradDownIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_RefWgradOutIdeal (m : (ℓ : Loc Cert.RefWgradOutIdeal.nD Cert.RefWgradOutIdeal.τ Cert.RefWgradOutIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_RefWgradInIdeal (m : (ℓ : Loc Cert.RefWgradInIdeal.nD Cert.RefWgradInIdeal.τ Cert.RefWgradInIdeal.sig) → Buf (Elt Ideal) ℓ) : Prop :=
  True

def Pre_LnProj (m : (ℓ : Loc Cert.LnProj.nD Cert.LnProj.τ Cert.LnProj.sig) → Buf (Elt Bits) ℓ) : Prop :=
  True

def Pre_LnProjIdeal (m : (ℓ : Loc Cert.LnProjIdeal.nD Cert.LnProjIdeal.τ Cert.LnProjIdeal.sig) → Buf (Elt Ideal) ℓ) : Prop :=
  True

def Pre_RefLnProjIdeal (m : (ℓ : Loc Cert.RefLnProjIdeal.nD Cert.RefLnProjIdeal.τ Cert.RefLnProjIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_RefAdamwInIdeal (m : (ℓ : Loc Cert.RefAdamwInIdeal.nD Cert.RefAdamwInIdeal.τ Cert.RefAdamwInIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_RefAdamwOutIdeal (m : (ℓ : Loc Cert.RefAdamwOutIdeal.nD Cert.RefAdamwOutIdeal.τ Cert.RefAdamwOutIdeal.sig) → Buf (Elt Ideal) ℓ) : Prop :=
  True

def Pre_AdamwGateUp (m : (ℓ : Loc Cert.AdamwGateUp.nD Cert.AdamwGateUp.τ Cert.AdamwGateUp.sig) → Buf (Elt Bits) ℓ) : Prop :=
  True

def Pre_AdamwGateUpIdeal (m : (ℓ : Loc Cert.AdamwGateUpIdeal.nD Cert.AdamwGateUpIdeal.τ Cert.AdamwGateUpIdeal.sig) → Buf (Elt Ideal) ℓ) : Prop :=
  True

def Pre_RefAdamwGateUpIdeal (m : (ℓ : Loc Cert.RefAdamwGateUpIdeal.nD Cert.RefAdamwGateUpIdeal.τ Cert.RefAdamwGateUpIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_RefAdamwDownIdeal (m : (ℓ : Loc Cert.RefAdamwDownIdeal.nD Cert.RefAdamwDownIdeal.τ Cert.RefAdamwDownIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_RefAdamwSmallIdeal (m : (ℓ : Loc Cert.RefAdamwSmallIdeal.nD Cert.RefAdamwSmallIdeal.τ Cert.RefAdamwSmallIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite_proj [hPre_finite_proj : Cert.Pre_finite_proj.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.2.2.2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))).2.2.2.2.2.2.2.2.2 = (fun _ => 1#1)

def Pre_RefProjBwdIdeal (m : (ℓ : Loc Cert.RefProjBwdIdeal.nD Cert.RefProjBwdIdeal.τ Cert.RefProjBwdIdeal.sig) → Buf (Elt Ideal) ℓ) : Prop :=
  True

def Pre_RefProjBwdIdeal_finite_proj [hPre_finite_proj : Cert.Pre_finite_proj.Facts] (m : (ℓ : Loc Cert.RefProjBwdIdeal.nD Cert.RefProjBwdIdeal.τ Cert.RefProjBwdIdeal.sig) → Buf (Elt Ideal) ℓ) : Prop :=
  ∀ c : Dev Cert.RefProjBwdIdeal.nD,
    (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.2.2.2.2.1 = (fun _ => 1#1)
    ∧ (Cert.Pre_finite_proj.fn (F := Ideal) (m ((c.tc : Thread Cert.RefProjBwdIdeal.nD Cert.RefProjBwdIdeal.τ).loc Cert.RefProjBwdIdeal.main_arg0)) (m ((c.tc : Thread Cert.RefProjBwdIdeal.nD Cert.RefProjBwdIdeal.τ).loc Cert.RefProjBwdIdeal.main_arg1)) (m ((c.tc : Thread Cert.RefProjBwdIdeal.nD Cert.RefProjBwdIdeal.τ).loc Cert.RefProjBwdIdeal.main_arg2)) (m ((c.tc : Thread Cert.RefProjBwdIdeal.nD Cert.RefProjBwdIdeal.τ).loc Cert.RefProjBwdIdeal.main_arg3)) (m ((c.tc : Thread Cert.RefProjBwdIdeal.nD Cert.RefProjBwdIdeal.τ).loc Cert.RefProjBwdIdeal.main_arg4)) (m ((c.tc : Thread Cert.RefProjBwdIdeal.nD Cert.RefProjBwdIdeal.τ).loc Cert.RefProjBwdIdeal.main_arg5)) (m ((c.tc : Thread Cert.RefProjBwdIdeal.nD Cert.RefProjBwdIdeal.τ).loc Cert.RefProjBwdIdeal.main_arg6)) (m ((c.tc : Thread Cert.RefProjBwdIdeal.nD Cert.RefProjBwdIdeal.τ).loc Cert.RefProjBwdIdeal.main_arg7)) (m ((c.tc : Thread Cert.RefProjBwdIdeal.nD Cert.RefProjBwdIdeal.τ).loc Cert.RefProjBwdIdeal.main_arg8)) (m ((c.tc : Thread Cert.RefProjBwdIdeal.nD Cert.RefProjBwdIdeal.τ).loc Cert.RefProjBwdIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_WgradGateUp [hWgradGateUp : Cert.WgradGateUp.Facts] : Prop :=
  ∀ (m : (ℓ : Loc Cert.WgradGateUp.nD Cert.WgradGateUp.τ Cert.WgradGateUp.sig) → Buf (Elt Bits) ℓ) (g : Dev Cert.WgradGateUp.nD → PrngReg), Pre_WgradGateUp m →
    θ_run (Cert.WgradGateUp.defs (F := Bits)) (onTc (τ := Cert.WgradGateUp.τ) (Cert.WgradGateUp.main (F := Bits))) ⟨m, fun _ => 0, g⟩ (fun r => (∀ c : Dev Cert.WgradGateUp.nD,
      r.2.mem ((c.tc : Thread Cert.WgradGateUp.nD Cert.WgradGateUp.τ).loc Cert.WgradGateUp.main_arg0) = m ((c.tc : Thread Cert.WgradGateUp.nD Cert.WgradGateUp.τ).loc Cert.WgradGateUp.main_arg0)
      ∧ r.2.mem ((c.tc : Thread Cert.WgradGateUp.nD Cert.WgradGateUp.τ).loc Cert.WgradGateUp.main_arg1) = m ((c.tc : Thread Cert.WgradGateUp.nD Cert.WgradGateUp.τ).loc Cert.WgradGateUp.main_arg1))
      ∧ r.2.sem = fun _ => 0)

def quiescent_WgradGateUpIdeal [hWgradGateUpIdeal : Cert.WgradGateUpIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg), Pre_WgradGateUpIdeal m →
    θ_run (Cert.WgradGateUpIdeal.defs (F := Ideal)) (onTc (τ := Cert.WgradGateUpIdeal.τ) (Cert.WgradGateUpIdeal.main (F := Ideal))) ⟨m, fun _ => 0, g⟩ (fun r => (∀ c : Dev Cert.WgradGateUpIdeal.nD,
      r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
      ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1))
      ∧ r.2.sem = fun _ => 0)

def quiescent_RefWgradGateUpIdeal [hRefWgradGateUpIdeal : Cert.RefWgradGateUpIdeal.Facts] : Prop :=
  ∀ (m : (ℓ : Loc Cert.RefWgradGateUpIdeal.nD Cert.RefWgradGateUpIdeal.τ Cert.RefWgradGateUpIdeal.sig) → Buf (Elt Ideal) ℓ) (g : Dev Cert.RefWgradGateUpIdeal.nD → PrngReg), Pre_RefWgradGateUpIdeal m →
    θ_run (Cert.RefWgradGateUpIdeal.defs (F := Ideal)) (onTc (τ := Cert.RefWgradGateUpIdeal.τ) (Cert.RefWgradGateUpIdeal.main (F := Ideal))) ⟨m, fun _ => 0, g⟩ (fun r => (∀ c : Dev Cert.RefWgradGateUpIdeal.nD,
      r.2.mem ((c.tc : Thread Cert.RefWgradGateUpIdeal.nD Cert.RefWgradGateUpIdeal.τ).loc Cert.RefWgradGateUpIdeal.main_arg0) = m ((c.tc : Thread Cert.RefWgradGateUpIdeal.nD Cert.RefWgradGateUpIdeal.τ).loc Cert.RefWgradGateUpIdeal.main_arg0)
      ∧ r.2.mem ((c.tc : Thread Cert.RefWgradGateUpIdeal.nD Cert.RefWgradGateUpIdeal.τ).loc Cert.RefWgradGateUpIdeal.main_arg1) = m ((c.tc : Thread Cert.RefWgradGateUpIdeal.nD Cert.RefWgradGateUpIdeal.τ).loc Cert.RefWgradGateUpIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_RefWgradDownIdeal [hRefWgradDownIdeal : Cert.RefWgradDownIdeal.Facts] : Prop :=
  ∀ (m : (ℓ : Loc Cert.RefWgradDownIdeal.nD Cert.RefWgradDownIdeal.τ Cert.RefWgradDownIdeal.sig) → Buf (Elt Ideal) ℓ) (g : Dev Cert.RefWgradDownIdeal.nD → PrngReg), Pre_RefWgradDownIdeal m →
    θ_run (Cert.RefWgradDownIdeal.defs (F := Ideal)) (onTc (τ := Cert.RefWgradDownIdeal.τ) (Cert.RefWgradDownIdeal.main (F := Ideal))) ⟨m, fun _ => 0, g⟩ (fun r => (∀ c : Dev Cert.RefWgradDownIdeal.nD,
      r.2.mem ((c.tc : Thread Cert.RefWgradDownIdeal.nD Cert.RefWgradDownIdeal.τ).loc Cert.RefWgradDownIdeal.main_arg0) = m ((c.tc : Thread Cert.RefWgradDownIdeal.nD Cert.RefWgradDownIdeal.τ).loc Cert.RefWgradDownIdeal.main_arg0)
      ∧ r.2.mem ((c.tc : Thread Cert.RefWgradDownIdeal.nD Cert.RefWgradDownIdeal.τ).loc Cert.RefWgradDownIdeal.main_arg1) = m ((c.tc : Thread Cert.RefWgradDownIdeal.nD Cert.RefWgradDownIdeal.τ).loc Cert.RefWgradDownIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_RefWgradOutIdeal [hRefWgradOutIdeal : Cert.RefWgradOutIdeal.Facts] : Prop :=
  ∀ (m : (ℓ : Loc Cert.RefWgradOutIdeal.nD Cert.RefWgradOutIdeal.τ Cert.RefWgradOutIdeal.sig) → Buf (Elt Ideal) ℓ) (g : Dev Cert.RefWgradOutIdeal.nD → PrngReg), Pre_RefWgradOutIdeal m →
    θ_run (Cert.RefWgradOutIdeal.defs (F := Ideal)) (onTc (τ := Cert.RefWgradOutIdeal.τ) (Cert.RefWgradOutIdeal.main (F := Ideal))) ⟨m, fun _ => 0, g⟩ (fun r => (∀ c : Dev Cert.RefWgradOutIdeal.nD,
      r.2.mem ((c.tc : Thread Cert.RefWgradOutIdeal.nD Cert.RefWgradOutIdeal.τ).loc Cert.RefWgradOutIdeal.main_arg0) = m ((c.tc : Thread Cert.RefWgradOutIdeal.nD Cert.RefWgradOutIdeal.τ).loc Cert.RefWgradOutIdeal.main_arg0)
      ∧ r.2.mem ((c.tc : Thread Cert.RefWgradOutIdeal.nD Cert.RefWgradOutIdeal.τ).loc Cert.RefWgradOutIdeal.main_arg1) = m ((c.tc : Thread Cert.RefWgradOutIdeal.nD Cert.RefWgradOutIdeal.τ).loc Cert.RefWgradOutIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2)
      ∧ r.2.mem ((c.tc : Thread Cert.WgradIn.nD Cert.WgradIn.τ).loc Cert.WgradIn.main_arg3) = m ((c.tc : Thread Cert.WgradIn.nD Cert.WgradIn.τ).loc Cert.WgradIn.main_arg3)
      ∧ r.2.mem ((c.tc : Thread Cert.WgradIn.nD Cert.WgradIn.τ).loc Cert.WgradIn.main_arg4) = m ((c.tc : Thread Cert.WgradIn.nD Cert.WgradIn.τ).loc Cert.WgradIn.main_arg4)
      ∧ r.2.mem ((c.tc : Thread Cert.WgradIn.nD Cert.WgradIn.τ).loc Cert.WgradIn.main_arg5) = m ((c.tc : Thread Cert.WgradIn.nD Cert.WgradIn.τ).loc Cert.WgradIn.main_arg5)
      ∧ r.2.mem ((c.tc : Thread Cert.WgradIn.nD Cert.WgradIn.τ).loc Cert.WgradIn.main_arg6) = m ((c.tc : Thread Cert.WgradIn.nD Cert.WgradIn.τ).loc Cert.WgradIn.main_arg6))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
      ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3)
      ∧ r.2.mem ((c.tc : Thread Cert.WgradInIdeal.nD Cert.WgradInIdeal.τ).loc Cert.WgradInIdeal.main_arg4) = m ((c.tc : Thread Cert.WgradInIdeal.nD Cert.WgradInIdeal.τ).loc Cert.WgradInIdeal.main_arg4)
      ∧ r.2.mem ((c.tc : Thread Cert.WgradInIdeal.nD Cert.WgradInIdeal.τ).loc Cert.WgradInIdeal.main_arg5) = m ((c.tc : Thread Cert.WgradInIdeal.nD Cert.WgradInIdeal.τ).loc Cert.WgradInIdeal.main_arg5)
      ∧ r.2.mem ((c.tc : Thread Cert.WgradInIdeal.nD Cert.WgradInIdeal.τ).loc Cert.WgradInIdeal.main_arg6) = m ((c.tc : Thread Cert.WgradInIdeal.nD Cert.WgradInIdeal.τ).loc Cert.WgradInIdeal.main_arg6))
      ∧ r.2.sem = fun _ => 0)

def quiescent_RefWgradInIdeal [hRefWgradInIdeal : Cert.RefWgradInIdeal.Facts] : Prop :=
  ∀ (m : (ℓ : Loc Cert.RefWgradInIdeal.nD Cert.RefWgradInIdeal.τ Cert.RefWgradInIdeal.sig) → Buf (Elt Ideal) ℓ) (g : Dev Cert.RefWgradInIdeal.nD → PrngReg), Pre_RefWgradInIdeal m →
    θ_run (Cert.RefWgradInIdeal.defs (F := Ideal)) (onTc (τ := Cert.RefWgradInIdeal.τ) (Cert.RefWgradInIdeal.main (F := Ideal))) ⟨m, fun _ => 0, g⟩ (fun r => (∀ c : Dev Cert.RefWgradInIdeal.nD,
      r.2.mem ((c.tc : Thread Cert.RefWgradInIdeal.nD Cert.RefWgradInIdeal.τ).loc Cert.RefWgradInIdeal.main_arg0) = m ((c.tc : Thread Cert.RefWgradInIdeal.nD Cert.RefWgradInIdeal.τ).loc Cert.RefWgradInIdeal.main_arg0)
      ∧ r.2.mem ((c.tc : Thread Cert.RefWgradInIdeal.nD Cert.RefWgradInIdeal.τ).loc Cert.RefWgradInIdeal.main_arg1) = m ((c.tc : Thread Cert.RefWgradInIdeal.nD Cert.RefWgradInIdeal.τ).loc Cert.RefWgradInIdeal.main_arg1)
      ∧ r.2.mem ((c.tc : Thread Cert.RefWgradInIdeal.nD Cert.RefWgradInIdeal.τ).loc Cert.RefWgradInIdeal.main_arg2) = m ((c.tc : Thread Cert.RefWgradInIdeal.nD Cert.RefWgradInIdeal.τ).loc Cert.RefWgradInIdeal.main_arg2)
      ∧ r.2.mem ((c.tc : Thread Cert.RefWgradInIdeal.nD Cert.RefWgradInIdeal.τ).loc Cert.RefWgradInIdeal.main_arg3) = m ((c.tc : Thread Cert.RefWgradInIdeal.nD Cert.RefWgradInIdeal.τ).loc Cert.RefWgradInIdeal.main_arg3)
      ∧ r.2.mem ((c.tc : Thread Cert.RefWgradInIdeal.nD Cert.RefWgradInIdeal.τ).loc Cert.RefWgradInIdeal.main_arg4) = m ((c.tc : Thread Cert.RefWgradInIdeal.nD Cert.RefWgradInIdeal.τ).loc Cert.RefWgradInIdeal.main_arg4)
      ∧ r.2.mem ((c.tc : Thread Cert.RefWgradInIdeal.nD Cert.RefWgradInIdeal.τ).loc Cert.RefWgradInIdeal.main_arg5) = m ((c.tc : Thread Cert.RefWgradInIdeal.nD Cert.RefWgradInIdeal.τ).loc Cert.RefWgradInIdeal.main_arg5)
      ∧ r.2.mem ((c.tc : Thread Cert.RefWgradInIdeal.nD Cert.RefWgradInIdeal.τ).loc Cert.RefWgradInIdeal.main_arg6) = m ((c.tc : Thread Cert.RefWgradInIdeal.nD Cert.RefWgradInIdeal.τ).loc Cert.RefWgradInIdeal.main_arg6))
      ∧ r.2.sem = fun _ => 0)

def quiescent_LnProj [hLnProj : Cert.LnProj.Facts] : Prop :=
  ∀ (m : (ℓ : Loc Cert.LnProj.nD Cert.LnProj.τ Cert.LnProj.sig) → Buf (Elt Bits) ℓ) (g : Dev Cert.LnProj.nD → PrngReg), Pre_LnProj m →
    θ_run (Cert.LnProj.defs (F := Bits)) (onTc (τ := Cert.LnProj.τ) (Cert.LnProj.main (F := Bits))) ⟨m, fun _ => 0, g⟩ (fun r => (∀ c : Dev Cert.LnProj.nD,
      r.2.mem ((c.tc : Thread Cert.LnProj.nD Cert.LnProj.τ).loc Cert.LnProj.main_arg0) = m ((c.tc : Thread Cert.LnProj.nD Cert.LnProj.τ).loc Cert.LnProj.main_arg0)
      ∧ r.2.mem ((c.tc : Thread Cert.LnProj.nD Cert.LnProj.τ).loc Cert.LnProj.main_arg1) = m ((c.tc : Thread Cert.LnProj.nD Cert.LnProj.τ).loc Cert.LnProj.main_arg1)
      ∧ r.2.mem ((c.tc : Thread Cert.LnProj.nD Cert.LnProj.τ).loc Cert.LnProj.main_arg2) = m ((c.tc : Thread Cert.LnProj.nD Cert.LnProj.τ).loc Cert.LnProj.main_arg2)
      ∧ r.2.mem ((c.tc : Thread Cert.LnProj.nD Cert.LnProj.τ).loc Cert.LnProj.main_arg3) = m ((c.tc : Thread Cert.LnProj.nD Cert.LnProj.τ).loc Cert.LnProj.main_arg3))
      ∧ r.2.sem = fun _ => 0)

def quiescent_LnProjIdeal [hLnProjIdeal : Cert.LnProjIdeal.Facts] : Prop :=
  ∀ (m : (ℓ : Loc Cert.LnProjIdeal.nD Cert.LnProjIdeal.τ Cert.LnProjIdeal.sig) → Buf (Elt Ideal) ℓ) (g : Dev Cert.LnProjIdeal.nD → PrngReg), Pre_LnProjIdeal m →
    θ_run (Cert.LnProjIdeal.defs (F := Ideal)) (onTc (τ := Cert.LnProjIdeal.τ) (Cert.LnProjIdeal.main (F := Ideal))) ⟨m, fun _ => 0, g⟩ (fun r => (∀ c : Dev Cert.LnProjIdeal.nD,
      r.2.mem ((c.tc : Thread Cert.LnProjIdeal.nD Cert.LnProjIdeal.τ).loc Cert.LnProjIdeal.main_arg0) = m ((c.tc : Thread Cert.LnProjIdeal.nD Cert.LnProjIdeal.τ).loc Cert.LnProjIdeal.main_arg0)
      ∧ r.2.mem ((c.tc : Thread Cert.LnProjIdeal.nD Cert.LnProjIdeal.τ).loc Cert.LnProjIdeal.main_arg1) = m ((c.tc : Thread Cert.LnProjIdeal.nD Cert.LnProjIdeal.τ).loc Cert.LnProjIdeal.main_arg1)
      ∧ r.2.mem ((c.tc : Thread Cert.LnProjIdeal.nD Cert.LnProjIdeal.τ).loc Cert.LnProjIdeal.main_arg2) = m ((c.tc : Thread Cert.LnProjIdeal.nD Cert.LnProjIdeal.τ).loc Cert.LnProjIdeal.main_arg2)
      ∧ r.2.mem ((c.tc : Thread Cert.LnProjIdeal.nD Cert.LnProjIdeal.τ).loc Cert.LnProjIdeal.main_arg3) = m ((c.tc : Thread Cert.LnProjIdeal.nD Cert.LnProjIdeal.τ).loc Cert.LnProjIdeal.main_arg3))
      ∧ r.2.sem = fun _ => 0)

def quiescent_RefLnProjIdeal [hRefLnProjIdeal : Cert.RefLnProjIdeal.Facts] : Prop :=
  ∀ (m : (ℓ : Loc Cert.RefLnProjIdeal.nD Cert.RefLnProjIdeal.τ Cert.RefLnProjIdeal.sig) → Buf (Elt Ideal) ℓ) (g : Dev Cert.RefLnProjIdeal.nD → PrngReg), Pre_RefLnProjIdeal m →
    θ_run (Cert.RefLnProjIdeal.defs (F := Ideal)) (onTc (τ := Cert.RefLnProjIdeal.τ) (Cert.RefLnProjIdeal.main (F := Ideal))) ⟨m, fun _ => 0, g⟩ (fun r => (∀ c : Dev Cert.RefLnProjIdeal.nD,
      r.2.mem ((c.tc : Thread Cert.RefLnProjIdeal.nD Cert.RefLnProjIdeal.τ).loc Cert.RefLnProjIdeal.main_arg0) = m ((c.tc : Thread Cert.RefLnProjIdeal.nD Cert.RefLnProjIdeal.τ).loc Cert.RefLnProjIdeal.main_arg0)
      ∧ r.2.mem ((c.tc : Thread Cert.RefLnProjIdeal.nD Cert.RefLnProjIdeal.τ).loc Cert.RefLnProjIdeal.main_arg1) = m ((c.tc : Thread Cert.RefLnProjIdeal.nD Cert.RefLnProjIdeal.τ).loc Cert.RefLnProjIdeal.main_arg1)
      ∧ r.2.mem ((c.tc : Thread Cert.RefLnProjIdeal.nD Cert.RefLnProjIdeal.τ).loc Cert.RefLnProjIdeal.main_arg2) = m ((c.tc : Thread Cert.RefLnProjIdeal.nD Cert.RefLnProjIdeal.τ).loc Cert.RefLnProjIdeal.main_arg2)
      ∧ r.2.mem ((c.tc : Thread Cert.RefLnProjIdeal.nD Cert.RefLnProjIdeal.τ).loc Cert.RefLnProjIdeal.main_arg3) = m ((c.tc : Thread Cert.RefLnProjIdeal.nD Cert.RefLnProjIdeal.τ).loc Cert.RefLnProjIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_RefAdamwInIdeal [hRefAdamwInIdeal : Cert.RefAdamwInIdeal.Facts] : Prop :=
  ∀ (m : (ℓ : Loc Cert.RefAdamwInIdeal.nD Cert.RefAdamwInIdeal.τ Cert.RefAdamwInIdeal.sig) → Buf (Elt Ideal) ℓ) (g : Dev Cert.RefAdamwInIdeal.nD → PrngReg), Pre_RefAdamwInIdeal m →
    θ_run (Cert.RefAdamwInIdeal.defs (F := Ideal)) (onTc (τ := Cert.RefAdamwInIdeal.τ) (Cert.RefAdamwInIdeal.main (F := Ideal))) ⟨m, fun _ => 0, g⟩ (fun r => (∀ c : Dev Cert.RefAdamwInIdeal.nD,
      r.2.mem ((c.tc : Thread Cert.RefAdamwInIdeal.nD Cert.RefAdamwInIdeal.τ).loc Cert.RefAdamwInIdeal.main_arg0) = m ((c.tc : Thread Cert.RefAdamwInIdeal.nD Cert.RefAdamwInIdeal.τ).loc Cert.RefAdamwInIdeal.main_arg0)
      ∧ r.2.mem ((c.tc : Thread Cert.RefAdamwInIdeal.nD Cert.RefAdamwInIdeal.τ).loc Cert.RefAdamwInIdeal.main_arg1) = m ((c.tc : Thread Cert.RefAdamwInIdeal.nD Cert.RefAdamwInIdeal.τ).loc Cert.RefAdamwInIdeal.main_arg1)
      ∧ r.2.mem ((c.tc : Thread Cert.RefAdamwInIdeal.nD Cert.RefAdamwInIdeal.τ).loc Cert.RefAdamwInIdeal.main_arg2) = m ((c.tc : Thread Cert.RefAdamwInIdeal.nD Cert.RefAdamwInIdeal.τ).loc Cert.RefAdamwInIdeal.main_arg2)
      ∧ r.2.mem ((c.tc : Thread Cert.RefAdamwInIdeal.nD Cert.RefAdamwInIdeal.τ).loc Cert.RefAdamwInIdeal.main_arg3) = m ((c.tc : Thread Cert.RefAdamwInIdeal.nD Cert.RefAdamwInIdeal.τ).loc Cert.RefAdamwInIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_RefAdamwOutIdeal [hRefAdamwOutIdeal : Cert.RefAdamwOutIdeal.Facts] : Prop :=
  ∀ (m : (ℓ : Loc Cert.RefAdamwOutIdeal.nD Cert.RefAdamwOutIdeal.τ Cert.RefAdamwOutIdeal.sig) → Buf (Elt Ideal) ℓ) (g : Dev Cert.RefAdamwOutIdeal.nD → PrngReg), Pre_RefAdamwOutIdeal m →
    θ_run (Cert.RefAdamwOutIdeal.defs (F := Ideal)) (onTc (τ := Cert.RefAdamwOutIdeal.τ) (Cert.RefAdamwOutIdeal.main (F := Ideal))) ⟨m, fun _ => 0, g⟩ (fun r => (∀ c : Dev Cert.RefAdamwOutIdeal.nD,
      r.2.mem ((c.tc : Thread Cert.RefAdamwOutIdeal.nD Cert.RefAdamwOutIdeal.τ).loc Cert.RefAdamwOutIdeal.main_arg0) = m ((c.tc : Thread Cert.RefAdamwOutIdeal.nD Cert.RefAdamwOutIdeal.τ).loc Cert.RefAdamwOutIdeal.main_arg0)
      ∧ r.2.mem ((c.tc : Thread Cert.RefAdamwOutIdeal.nD Cert.RefAdamwOutIdeal.τ).loc Cert.RefAdamwOutIdeal.main_arg1) = m ((c.tc : Thread Cert.RefAdamwOutIdeal.nD Cert.RefAdamwOutIdeal.τ).loc Cert.RefAdamwOutIdeal.main_arg1)
      ∧ r.2.mem ((c.tc : Thread Cert.RefAdamwOutIdeal.nD Cert.RefAdamwOutIdeal.τ).loc Cert.RefAdamwOutIdeal.main_arg2) = m ((c.tc : Thread Cert.RefAdamwOutIdeal.nD Cert.RefAdamwOutIdeal.τ).loc Cert.RefAdamwOutIdeal.main_arg2)
      ∧ r.2.mem ((c.tc : Thread Cert.RefAdamwOutIdeal.nD Cert.RefAdamwOutIdeal.τ).loc Cert.RefAdamwOutIdeal.main_arg3) = m ((c.tc : Thread Cert.RefAdamwOutIdeal.nD Cert.RefAdamwOutIdeal.τ).loc Cert.RefAdamwOutIdeal.main_arg3))
      ∧ r.2.sem = fun _ => 0)

def quiescent_AdamwGateUp [hAdamwGateUp : Cert.AdamwGateUp.Facts] : Prop :=
  ∀ (m : (ℓ : Loc Cert.AdamwGateUp.nD Cert.AdamwGateUp.τ Cert.AdamwGateUp.sig) → Buf (Elt Bits) ℓ) (g : Dev Cert.AdamwGateUp.nD → PrngReg), Pre_AdamwGateUp m →
    θ_run (Cert.AdamwGateUp.defs (F := Bits)) (onTc (τ := Cert.AdamwGateUp.τ) (Cert.AdamwGateUp.main (F := Bits))) ⟨m, fun _ => 0, g⟩ (fun r => (∀ c : Dev Cert.AdamwGateUp.nD,
      r.2.mem ((c.tc : Thread Cert.AdamwGateUp.nD Cert.AdamwGateUp.τ).loc Cert.AdamwGateUp.main_arg0) = m ((c.tc : Thread Cert.AdamwGateUp.nD Cert.AdamwGateUp.τ).loc Cert.AdamwGateUp.main_arg0)
      ∧ r.2.mem ((c.tc : Thread Cert.AdamwGateUp.nD Cert.AdamwGateUp.τ).loc Cert.AdamwGateUp.main_arg1) = m ((c.tc : Thread Cert.AdamwGateUp.nD Cert.AdamwGateUp.τ).loc Cert.AdamwGateUp.main_arg1)
      ∧ r.2.mem ((c.tc : Thread Cert.AdamwGateUp.nD Cert.AdamwGateUp.τ).loc Cert.AdamwGateUp.main_arg2) = m ((c.tc : Thread Cert.AdamwGateUp.nD Cert.AdamwGateUp.τ).loc Cert.AdamwGateUp.main_arg2)
      ∧ r.2.mem ((c.tc : Thread Cert.AdamwGateUp.nD Cert.AdamwGateUp.τ).loc Cert.AdamwGateUp.main_arg3) = m ((c.tc : Thread Cert.AdamwGateUp.nD Cert.AdamwGateUp.τ).loc Cert.AdamwGateUp.main_arg3))
      ∧ r.2.sem = fun _ => 0)

def quiescent_AdamwGateUpIdeal [hAdamwGateUpIdeal : Cert.AdamwGateUpIdeal.Facts] : Prop :=
  ∀ (m : (ℓ : Loc Cert.AdamwGateUpIdeal.nD Cert.AdamwGateUpIdeal.τ Cert.AdamwGateUpIdeal.sig) → Buf (Elt Ideal) ℓ) (g : Dev Cert.AdamwGateUpIdeal.nD → PrngReg), Pre_AdamwGateUpIdeal m →
    θ_run (Cert.AdamwGateUpIdeal.defs (F := Ideal)) (onTc (τ := Cert.AdamwGateUpIdeal.τ) (Cert.AdamwGateUpIdeal.main (F := Ideal))) ⟨m, fun _ => 0, g⟩ (fun r => (∀ c : Dev Cert.AdamwGateUpIdeal.nD,
      r.2.mem ((c.tc : Thread Cert.AdamwGateUpIdeal.nD Cert.AdamwGateUpIdeal.τ).loc Cert.AdamwGateUpIdeal.main_arg0) = m ((c.tc : Thread Cert.AdamwGateUpIdeal.nD Cert.AdamwGateUpIdeal.τ).loc Cert.AdamwGateUpIdeal.main_arg0)
      ∧ r.2.mem ((c.tc : Thread Cert.AdamwGateUpIdeal.nD Cert.AdamwGateUpIdeal.τ).loc Cert.AdamwGateUpIdeal.main_arg1) = m ((c.tc : Thread Cert.AdamwGateUpIdeal.nD Cert.AdamwGateUpIdeal.τ).loc Cert.AdamwGateUpIdeal.main_arg1)
      ∧ r.2.mem ((c.tc : Thread Cert.AdamwGateUpIdeal.nD Cert.AdamwGateUpIdeal.τ).loc Cert.AdamwGateUpIdeal.main_arg2) = m ((c.tc : Thread Cert.AdamwGateUpIdeal.nD Cert.AdamwGateUpIdeal.τ).loc Cert.AdamwGateUpIdeal.main_arg2)
      ∧ r.2.mem ((c.tc : Thread Cert.AdamwGateUpIdeal.nD Cert.AdamwGateUpIdeal.τ).loc Cert.AdamwGateUpIdeal.main_arg3) = m ((c.tc : Thread Cert.AdamwGateUpIdeal.nD Cert.AdamwGateUpIdeal.τ).loc Cert.AdamwGateUpIdeal.main_arg3))
      ∧ r.2.sem = fun _ => 0)

def quiescent_RefAdamwGateUpIdeal [hRefAdamwGateUpIdeal : Cert.RefAdamwGateUpIdeal.Facts] : Prop :=
  ∀ (m : (ℓ : Loc Cert.RefAdamwGateUpIdeal.nD Cert.RefAdamwGateUpIdeal.τ Cert.RefAdamwGateUpIdeal.sig) → Buf (Elt Ideal) ℓ) (g : Dev Cert.RefAdamwGateUpIdeal.nD → PrngReg), Pre_RefAdamwGateUpIdeal m →
    θ_run (Cert.RefAdamwGateUpIdeal.defs (F := Ideal)) (onTc (τ := Cert.RefAdamwGateUpIdeal.τ) (Cert.RefAdamwGateUpIdeal.main (F := Ideal))) ⟨m, fun _ => 0, g⟩ (fun r => (∀ c : Dev Cert.RefAdamwGateUpIdeal.nD,
      r.2.mem ((c.tc : Thread Cert.RefAdamwGateUpIdeal.nD Cert.RefAdamwGateUpIdeal.τ).loc Cert.RefAdamwGateUpIdeal.main_arg0) = m ((c.tc : Thread Cert.RefAdamwGateUpIdeal.nD Cert.RefAdamwGateUpIdeal.τ).loc Cert.RefAdamwGateUpIdeal.main_arg0)
      ∧ r.2.mem ((c.tc : Thread Cert.RefAdamwGateUpIdeal.nD Cert.RefAdamwGateUpIdeal.τ).loc Cert.RefAdamwGateUpIdeal.main_arg1) = m ((c.tc : Thread Cert.RefAdamwGateUpIdeal.nD Cert.RefAdamwGateUpIdeal.τ).loc Cert.RefAdamwGateUpIdeal.main_arg1)
      ∧ r.2.mem ((c.tc : Thread Cert.RefAdamwGateUpIdeal.nD Cert.RefAdamwGateUpIdeal.τ).loc Cert.RefAdamwGateUpIdeal.main_arg2) = m ((c.tc : Thread Cert.RefAdamwGateUpIdeal.nD Cert.RefAdamwGateUpIdeal.τ).loc Cert.RefAdamwGateUpIdeal.main_arg2)
      ∧ r.2.mem ((c.tc : Thread Cert.RefAdamwGateUpIdeal.nD Cert.RefAdamwGateUpIdeal.τ).loc Cert.RefAdamwGateUpIdeal.main_arg3) = m ((c.tc : Thread Cert.RefAdamwGateUpIdeal.nD Cert.RefAdamwGateUpIdeal.τ).loc Cert.RefAdamwGateUpIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_RefAdamwDownIdeal [hRefAdamwDownIdeal : Cert.RefAdamwDownIdeal.Facts] : Prop :=
  ∀ (m : (ℓ : Loc Cert.RefAdamwDownIdeal.nD Cert.RefAdamwDownIdeal.τ Cert.RefAdamwDownIdeal.sig) → Buf (Elt Ideal) ℓ) (g : Dev Cert.RefAdamwDownIdeal.nD → PrngReg), Pre_RefAdamwDownIdeal m →
    θ_run (Cert.RefAdamwDownIdeal.defs (F := Ideal)) (onTc (τ := Cert.RefAdamwDownIdeal.τ) (Cert.RefAdamwDownIdeal.main (F := Ideal))) ⟨m, fun _ => 0, g⟩ (fun r => (∀ c : Dev Cert.RefAdamwDownIdeal.nD,
      r.2.mem ((c.tc : Thread Cert.RefAdamwDownIdeal.nD Cert.RefAdamwDownIdeal.τ).loc Cert.RefAdamwDownIdeal.main_arg0) = m ((c.tc : Thread Cert.RefAdamwDownIdeal.nD Cert.RefAdamwDownIdeal.τ).loc Cert.RefAdamwDownIdeal.main_arg0)
      ∧ r.2.mem ((c.tc : Thread Cert.RefAdamwDownIdeal.nD Cert.RefAdamwDownIdeal.τ).loc Cert.RefAdamwDownIdeal.main_arg1) = m ((c.tc : Thread Cert.RefAdamwDownIdeal.nD Cert.RefAdamwDownIdeal.τ).loc Cert.RefAdamwDownIdeal.main_arg1)
      ∧ r.2.mem ((c.tc : Thread Cert.RefAdamwDownIdeal.nD Cert.RefAdamwDownIdeal.τ).loc Cert.RefAdamwDownIdeal.main_arg2) = m ((c.tc : Thread Cert.RefAdamwDownIdeal.nD Cert.RefAdamwDownIdeal.τ).loc Cert.RefAdamwDownIdeal.main_arg2)
      ∧ r.2.mem ((c.tc : Thread Cert.RefAdamwDownIdeal.nD Cert.RefAdamwDownIdeal.τ).loc Cert.RefAdamwDownIdeal.main_arg3) = m ((c.tc : Thread Cert.RefAdamwDownIdeal.nD Cert.RefAdamwDownIdeal.τ).loc Cert.RefAdamwDownIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_RefAdamwSmallIdeal [hRefAdamwSmallIdeal : Cert.RefAdamwSmallIdeal.Facts] : Prop :=
  ∀ (m : (ℓ : Loc Cert.RefAdamwSmallIdeal.nD Cert.RefAdamwSmallIdeal.τ Cert.RefAdamwSmallIdeal.sig) → Buf (Elt Ideal) ℓ) (g : Dev Cert.RefAdamwSmallIdeal.nD → PrngReg), Pre_RefAdamwSmallIdeal m →
    θ_run (Cert.RefAdamwSmallIdeal.defs (F := Ideal)) (onTc (τ := Cert.RefAdamwSmallIdeal.τ) (Cert.RefAdamwSmallIdeal.main (F := Ideal))) ⟨m, fun _ => 0, g⟩ (fun r => (∀ c : Dev Cert.RefAdamwSmallIdeal.nD,
      r.2.mem ((c.tc : Thread Cert.RefAdamwSmallIdeal.nD Cert.RefAdamwSmallIdeal.τ).loc Cert.RefAdamwSmallIdeal.main_arg0) = m ((c.tc : Thread Cert.RefAdamwSmallIdeal.nD Cert.RefAdamwSmallIdeal.τ).loc Cert.RefAdamwSmallIdeal.main_arg0)
      ∧ r.2.mem ((c.tc : Thread Cert.RefAdamwSmallIdeal.nD Cert.RefAdamwSmallIdeal.τ).loc Cert.RefAdamwSmallIdeal.main_arg1) = m ((c.tc : Thread Cert.RefAdamwSmallIdeal.nD Cert.RefAdamwSmallIdeal.τ).loc Cert.RefAdamwSmallIdeal.main_arg1)
      ∧ r.2.mem ((c.tc : Thread Cert.RefAdamwSmallIdeal.nD Cert.RefAdamwSmallIdeal.τ).loc Cert.RefAdamwSmallIdeal.main_arg2) = m ((c.tc : Thread Cert.RefAdamwSmallIdeal.nD Cert.RefAdamwSmallIdeal.τ).loc Cert.RefAdamwSmallIdeal.main_arg2)
      ∧ r.2.mem ((c.tc : Thread Cert.RefAdamwSmallIdeal.nD Cert.RefAdamwSmallIdeal.τ).loc Cert.RefAdamwSmallIdeal.main_arg3) = m ((c.tc : Thread Cert.RefAdamwSmallIdeal.nD Cert.RefAdamwSmallIdeal.τ).loc Cert.RefAdamwSmallIdeal.main_arg3))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ r.2.sem = fun _ => 0)

def quiescent_ProjBwdIdeal_pre_finite_proj [hProjBwdIdeal : Cert.ProjBwdIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite_proj m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ r.2.sem = fun _ => 0)

def quiescent_RefProjBwdIdeal [hRefProjBwdIdeal : Cert.RefProjBwdIdeal.Facts] : Prop :=
  ∀ (m : (ℓ : Loc Cert.RefProjBwdIdeal.nD Cert.RefProjBwdIdeal.τ Cert.RefProjBwdIdeal.sig) → Buf (Elt Ideal) ℓ) (g : Dev Cert.RefProjBwdIdeal.nD → PrngReg), Pre_RefProjBwdIdeal m →
    θ_run (Cert.RefProjBwdIdeal.defs (F := Ideal)) (onTc (τ := Cert.RefProjBwdIdeal.τ) (Cert.RefProjBwdIdeal.main (F := Ideal))) ⟨m, fun _ => 0, g⟩ (fun r => (∀ c : Dev Cert.RefProjBwdIdeal.nD,
      r.2.mem ((c.tc : Thread Cert.RefProjBwdIdeal.nD Cert.RefProjBwdIdeal.τ).loc Cert.RefProjBwdIdeal.main_arg0) = m ((c.tc : Thread Cert.RefProjBwdIdeal.nD Cert.RefProjBwdIdeal.τ).loc Cert.RefProjBwdIdeal.main_arg0)
      ∧ r.2.mem ((c.tc : Thread Cert.RefProjBwdIdeal.nD Cert.RefProjBwdIdeal.τ).loc Cert.RefProjBwdIdeal.main_arg1) = m ((c.tc : Thread Cert.RefProjBwdIdeal.nD Cert.RefProjBwdIdeal.τ).loc Cert.RefProjBwdIdeal.main_arg1)
      ∧ r.2.mem ((c.tc : Thread Cert.RefProjBwdIdeal.nD Cert.RefProjBwdIdeal.τ).loc Cert.RefProjBwdIdeal.main_arg2) = m ((c.tc : Thread Cert.RefProjBwdIdeal.nD Cert.RefProjBwdIdeal.τ).loc Cert.RefProjBwdIdeal.main_arg2)
      ∧ r.2.mem ((c.tc : Thread Cert.RefProjBwdIdeal.nD Cert.RefProjBwdIdeal.τ).loc Cert.RefProjBwdIdeal.main_arg3) = m ((c.tc : Thread Cert.RefProjBwdIdeal.nD Cert.RefProjBwdIdeal.τ).loc Cert.RefProjBwdIdeal.main_arg3)
      ∧ r.2.mem ((c.tc : Thread Cert.RefProjBwdIdeal.nD Cert.RefProjBwdIdeal.τ).loc Cert.RefProjBwdIdeal.main_arg4) = m ((c.tc : Thread Cert.RefProjBwdIdeal.nD Cert.RefProjBwdIdeal.τ).loc Cert.RefProjBwdIdeal.main_arg4)
      ∧ r.2.mem ((c.tc : Thread Cert.RefProjBwdIdeal.nD Cert.RefProjBwdIdeal.τ).loc Cert.RefProjBwdIdeal.main_arg5) = m ((c.tc : Thread Cert.RefProjBwdIdeal.nD Cert.RefProjBwdIdeal.τ).loc Cert.RefProjBwdIdeal.main_arg5)
      ∧ r.2.mem ((c.tc : Thread Cert.RefProjBwdIdeal.nD Cert.RefProjBwdIdeal.τ).loc Cert.RefProjBwdIdeal.main_arg6) = m ((c.tc : Thread Cert.RefProjBwdIdeal.nD Cert.RefProjBwdIdeal.τ).loc Cert.RefProjBwdIdeal.main_arg6)
      ∧ r.2.mem ((c.tc : Thread Cert.RefProjBwdIdeal.nD Cert.RefProjBwdIdeal.τ).loc Cert.RefProjBwdIdeal.main_arg7) = m ((c.tc : Thread Cert.RefProjBwdIdeal.nD Cert.RefProjBwdIdeal.τ).loc Cert.RefProjBwdIdeal.main_arg7)
      ∧ r.2.mem ((c.tc : Thread Cert.RefProjBwdIdeal.nD Cert.RefProjBwdIdeal.τ).loc Cert.RefProjBwdIdeal.main_arg8) = m ((c.tc : Thread Cert.RefProjBwdIdeal.nD Cert.RefProjBwdIdeal.τ).loc Cert.RefProjBwdIdeal.main_arg8)
      ∧ r.2.mem ((c.tc : Thread Cert.RefProjBwdIdeal.nD Cert.RefProjBwdIdeal.τ).loc Cert.RefProjBwdIdeal.main_arg9) = m ((c.tc : Thread Cert.RefProjBwdIdeal.nD Cert.RefProjBwdIdeal.τ).loc Cert.RefProjBwdIdeal.main_arg9))
      ∧ r.2.sem = fun _ => 0)

def quiescent_RefProjBwdIdeal_pre_finite_proj [hRefProjBwdIdeal : Cert.RefProjBwdIdeal.Facts] [hPre_finite_proj : Cert.Pre_finite_proj.Facts] : Prop :=
  ∀ (m : (ℓ : Loc Cert.RefProjBwdIdeal.nD Cert.RefProjBwdIdeal.τ Cert.RefProjBwdIdeal.sig) → Buf (Elt Ideal) ℓ) (g : Dev Cert.RefProjBwdIdeal.nD → PrngReg), Pre_RefProjBwdIdeal_finite_proj m →
    θ_run (Cert.RefProjBwdIdeal.defs (F := Ideal)) (onTc (τ := Cert.RefProjBwdIdeal.τ) (Cert.RefProjBwdIdeal.main (F := Ideal))) ⟨m, fun _ => 0, g⟩ (fun r => (∀ c : Dev Cert.RefProjBwdIdeal.nD,
      r.2.mem ((c.tc : Thread Cert.RefProjBwdIdeal.nD Cert.RefProjBwdIdeal.τ).loc Cert.RefProjBwdIdeal.main_arg0) = m ((c.tc : Thread Cert.RefProjBwdIdeal.nD Cert.RefProjBwdIdeal.τ).loc Cert.RefProjBwdIdeal.main_arg0)
      ∧ r.2.mem ((c.tc : Thread Cert.RefProjBwdIdeal.nD Cert.RefProjBwdIdeal.τ).loc Cert.RefProjBwdIdeal.main_arg1) = m ((c.tc : Thread Cert.RefProjBwdIdeal.nD Cert.RefProjBwdIdeal.τ).loc Cert.RefProjBwdIdeal.main_arg1)
      ∧ r.2.mem ((c.tc : Thread Cert.RefProjBwdIdeal.nD Cert.RefProjBwdIdeal.τ).loc Cert.RefProjBwdIdeal.main_arg2) = m ((c.tc : Thread Cert.RefProjBwdIdeal.nD Cert.RefProjBwdIdeal.τ).loc Cert.RefProjBwdIdeal.main_arg2)
      ∧ r.2.mem ((c.tc : Thread Cert.RefProjBwdIdeal.nD Cert.RefProjBwdIdeal.τ).loc Cert.RefProjBwdIdeal.main_arg3) = m ((c.tc : Thread Cert.RefProjBwdIdeal.nD Cert.RefProjBwdIdeal.τ).loc Cert.RefProjBwdIdeal.main_arg3)
      ∧ r.2.mem ((c.tc : Thread Cert.RefProjBwdIdeal.nD Cert.RefProjBwdIdeal.τ).loc Cert.RefProjBwdIdeal.main_arg4) = m ((c.tc : Thread Cert.RefProjBwdIdeal.nD Cert.RefProjBwdIdeal.τ).loc Cert.RefProjBwdIdeal.main_arg4)
      ∧ r.2.mem ((c.tc : Thread Cert.RefProjBwdIdeal.nD Cert.RefProjBwdIdeal.τ).loc Cert.RefProjBwdIdeal.main_arg5) = m ((c.tc : Thread Cert.RefProjBwdIdeal.nD Cert.RefProjBwdIdeal.τ).loc Cert.RefProjBwdIdeal.main_arg5)
      ∧ r.2.mem ((c.tc : Thread Cert.RefProjBwdIdeal.nD Cert.RefProjBwdIdeal.τ).loc Cert.RefProjBwdIdeal.main_arg6) = m ((c.tc : Thread Cert.RefProjBwdIdeal.nD Cert.RefProjBwdIdeal.τ).loc Cert.RefProjBwdIdeal.main_arg6)
      ∧ r.2.mem ((c.tc : Thread Cert.RefProjBwdIdeal.nD Cert.RefProjBwdIdeal.τ).loc Cert.RefProjBwdIdeal.main_arg7) = m ((c.tc : Thread Cert.RefProjBwdIdeal.nD Cert.RefProjBwdIdeal.τ).loc Cert.RefProjBwdIdeal.main_arg7)
      ∧ r.2.mem ((c.tc : Thread Cert.RefProjBwdIdeal.nD Cert.RefProjBwdIdeal.τ).loc Cert.RefProjBwdIdeal.main_arg8) = m ((c.tc : Thread Cert.RefProjBwdIdeal.nD Cert.RefProjBwdIdeal.τ).loc Cert.RefProjBwdIdeal.main_arg8)
      ∧ r.2.mem ((c.tc : Thread Cert.RefProjBwdIdeal.nD Cert.RefProjBwdIdeal.τ).loc Cert.RefProjBwdIdeal.main_arg9) = m ((c.tc : Thread Cert.RefProjBwdIdeal.nD Cert.RefProjBwdIdeal.τ).loc Cert.RefProjBwdIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)) (v7 : (c : Dev Cert.KernelIdeal.nD) → Buf (Elt Ideal) ((c.tc : Thread Cert.KernelIdeal.nD Cert.KernelIdeal.τ).loc Cert.KernelIdeal.main_v6_7)) (v8 : (c : Dev Cert.KernelIdeal.nD) → Buf (Elt Ideal) ((c.tc : Thread Cert.KernelIdeal.nD Cert.KernelIdeal.τ).loc Cert.KernelIdeal.main_v6_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_v6_7) = v7 c
          ∧ r.2.mem ((c.tc : Thread Cert.KernelIdeal.nD Cert.KernelIdeal.τ).loc Cert.KernelIdeal.main_v6_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v279) = v1 c
          ∧ r.2.mem ((c.tc : Thread Cert.ReferenceIdeal.nD Cert.ReferenceIdeal.τ).loc Cert.ReferenceIdeal.main_v280) = v2 c
          ∧ r.2.mem ((c.tc : Thread Cert.ReferenceIdeal.nD Cert.ReferenceIdeal.τ).loc Cert.ReferenceIdeal.main_v281) = v3 c
          ∧ r.2.mem ((c.tc : Thread Cert.ReferenceIdeal.nD Cert.ReferenceIdeal.τ).loc Cert.ReferenceIdeal.main_v282) = v4 c
          ∧ r.2.mem ((c.tc : Thread Cert.ReferenceIdeal.nD Cert.ReferenceIdeal.τ).loc Cert.ReferenceIdeal.main_v283) = v5 c
          ∧ r.2.mem ((c.tc : Thread Cert.ReferenceIdeal.nD Cert.ReferenceIdeal.τ).loc Cert.ReferenceIdeal.main_v284) = v6 c
          ∧ r.2.mem ((c.tc : Thread Cert.ReferenceIdeal.nD Cert.ReferenceIdeal.τ).loc Cert.ReferenceIdeal.main_v285) = v7 c
          ∧ r.2.mem ((c.tc : Thread Cert.ReferenceIdeal.nD Cert.ReferenceIdeal.τ).loc Cert.ReferenceIdeal.main_v278) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_WgradGateUp_WgradGateUpIdeal : Prop :=
  True

def algebraic_WgradGateUpIdeal_RefWgradGateUpIdeal [hWgradGateUpIdeal : Cert.WgradGateUpIdeal.Facts] [hRefWgradGateUpIdeal : Cert.RefWgradGateUpIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg)
    (m' : (ℓ : Loc Cert.RefWgradGateUpIdeal.nD Cert.RefWgradGateUpIdeal.τ Cert.RefWgradGateUpIdeal.sig) → Buf (Elt Ideal) ℓ) (g' : Dev Cert.RefWgradGateUpIdeal.nD → PrngReg), Pre_WgradGateUpIdeal m →
    (∀ c : Dev Cert.WgradGateUpIdeal.nD,
      m' ((c.tc : Thread Cert.RefWgradGateUpIdeal.nD Cert.RefWgradGateUpIdeal.τ).loc Cert.RefWgradGateUpIdeal.main_arg0) = m ((c.tc : Thread Cert.WgradGateUpIdeal.nD Cert.WgradGateUpIdeal.τ).loc Cert.WgradGateUpIdeal.main_arg0)
      ∧ m' ((c.tc : Thread Cert.RefWgradGateUpIdeal.nD Cert.RefWgradGateUpIdeal.τ).loc Cert.RefWgradGateUpIdeal.main_arg1) = m ((c.tc : Thread Cert.WgradGateUpIdeal.nD Cert.WgradGateUpIdeal.τ).loc Cert.WgradGateUpIdeal.main_arg1)) →
    ∃ (v0 : (c : Dev Cert.WgradGateUpIdeal.nD) → Buf (Elt Ideal) ((c.tc : Thread Cert.WgradGateUpIdeal.nD Cert.WgradGateUpIdeal.τ).loc Cert.WgradGateUpIdeal.main_v0)),
      θ_run (Cert.WgradGateUpIdeal.defs (F := Ideal)) (onTc (τ := Cert.WgradGateUpIdeal.τ) (Cert.WgradGateUpIdeal.main (F := Ideal))) ⟨m, fun _ => 0, g⟩ (fun r => ∀ c : Dev Cert.WgradGateUpIdeal.nD,
          r.2.mem ((c.tc : Thread Cert.WgradGateUpIdeal.nD Cert.WgradGateUpIdeal.τ).loc Cert.WgradGateUpIdeal.main_v0) = v0 c
          ∧ r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
          ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1))
      ∧ θ_run (Cert.RefWgradGateUpIdeal.defs (F := Ideal)) (onTc (τ := Cert.RefWgradGateUpIdeal.τ) (Cert.RefWgradGateUpIdeal.main (F := Ideal))) ⟨m', fun _ => 0, g'⟩ (fun r => ∀ c : Dev Cert.RefWgradGateUpIdeal.nD,
          r.2.mem ((c.tc : Thread Cert.RefWgradGateUpIdeal.nD Cert.RefWgradGateUpIdeal.τ).loc Cert.RefWgradGateUpIdeal.main_v7) = v0 c
          ∧ r.2.mem ((c.tc : Thread Cert.RefWgradGateUpIdeal.nD Cert.RefWgradGateUpIdeal.τ).loc Cert.RefWgradGateUpIdeal.main_arg0) = m' ((c.tc : Thread Cert.RefWgradGateUpIdeal.nD Cert.RefWgradGateUpIdeal.τ).loc Cert.RefWgradGateUpIdeal.main_arg0)
          ∧ r.2.mem ((c.tc : Thread Cert.RefWgradGateUpIdeal.nD Cert.RefWgradGateUpIdeal.τ).loc Cert.RefWgradGateUpIdeal.main_arg1) = m' ((c.tc : Thread Cert.RefWgradGateUpIdeal.nD Cert.RefWgradGateUpIdeal.τ).loc Cert.RefWgradGateUpIdeal.main_arg1))

def preserves_WgradDown_WgradDownIdeal : Prop :=
  True

def algebraic_WgradDownIdeal_RefWgradDownIdeal [hWgradDownIdeal : Cert.WgradDownIdeal.Facts] [hRefWgradDownIdeal : Cert.RefWgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.RefWgradDownIdeal.nD Cert.RefWgradDownIdeal.τ Cert.RefWgradDownIdeal.sig) → Buf (Elt Ideal) ℓ) (g' : Dev Cert.RefWgradDownIdeal.nD → PrngReg), Pre_WgradDownIdeal m →
    (∀ c : Dev Cert.WgradDownIdeal.nD,
      m' ((c.tc : Thread Cert.RefWgradDownIdeal.nD Cert.RefWgradDownIdeal.τ).loc Cert.RefWgradDownIdeal.main_arg0) = m ((c.tc : Thread Cert.WgradDownIdeal.nD Cert.WgradDownIdeal.τ).loc Cert.WgradDownIdeal.main_arg0)
      ∧ m' ((c.tc : Thread Cert.RefWgradDownIdeal.nD Cert.RefWgradDownIdeal.τ).loc Cert.RefWgradDownIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.RefWgradDownIdeal.defs (F := Ideal)) (onTc (τ := Cert.RefWgradDownIdeal.τ) (Cert.RefWgradDownIdeal.main (F := Ideal))) ⟨m', fun _ => 0, g'⟩ (fun r => ∀ c : Dev Cert.RefWgradDownIdeal.nD,
          r.2.mem ((c.tc : Thread Cert.RefWgradDownIdeal.nD Cert.RefWgradDownIdeal.τ).loc Cert.RefWgradDownIdeal.main_v6) = v0 c
          ∧ r.2.mem ((c.tc : Thread Cert.RefWgradDownIdeal.nD Cert.RefWgradDownIdeal.τ).loc Cert.RefWgradDownIdeal.main_arg0) = m' ((c.tc : Thread Cert.RefWgradDownIdeal.nD Cert.RefWgradDownIdeal.τ).loc Cert.RefWgradDownIdeal.main_arg0)
          ∧ r.2.mem ((c.tc : Thread Cert.RefWgradDownIdeal.nD Cert.RefWgradDownIdeal.τ).loc Cert.RefWgradDownIdeal.main_arg1) = m' ((c.tc : Thread Cert.RefWgradDownIdeal.nD Cert.RefWgradDownIdeal.τ).loc Cert.RefWgradDownIdeal.main_arg1))

def preserves_WgradOut_WgradOutIdeal : Prop :=
  True

def algebraic_WgradOutIdeal_RefWgradOutIdeal [hWgradOutIdeal : Cert.WgradOutIdeal.Facts] [hRefWgradOutIdeal : Cert.RefWgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.RefWgradOutIdeal.nD Cert.RefWgradOutIdeal.τ Cert.RefWgradOutIdeal.sig) → Buf (Elt Ideal) ℓ) (g' : Dev Cert.RefWgradOutIdeal.nD → PrngReg), Pre_WgradOutIdeal m →
    (∀ c : Dev Cert.WgradOutIdeal.nD,
      m' ((c.tc : Thread Cert.RefWgradOutIdeal.nD Cert.RefWgradOutIdeal.τ).loc Cert.RefWgradOutIdeal.main_arg0) = m ((c.tc : Thread Cert.WgradOutIdeal.nD Cert.WgradOutIdeal.τ).loc Cert.WgradOutIdeal.main_arg0)
      ∧ m' ((c.tc : Thread Cert.RefWgradOutIdeal.nD Cert.RefWgradOutIdeal.τ).loc Cert.RefWgradOutIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.RefWgradOutIdeal.defs (F := Ideal)) (onTc (τ := Cert.RefWgradOutIdeal.τ) (Cert.RefWgradOutIdeal.main (F := Ideal))) ⟨m', fun _ => 0, g'⟩ (fun r => ∀ c : Dev Cert.RefWgradOutIdeal.nD,
          r.2.mem ((c.tc : Thread Cert.RefWgradOutIdeal.nD Cert.RefWgradOutIdeal.τ).loc Cert.RefWgradOutIdeal.main_v5) = v0 c
          ∧ r.2.mem ((c.tc : Thread Cert.RefWgradOutIdeal.nD Cert.RefWgradOutIdeal.τ).loc Cert.RefWgradOutIdeal.main_arg0) = m' ((c.tc : Thread Cert.RefWgradOutIdeal.nD Cert.RefWgradOutIdeal.τ).loc Cert.RefWgradOutIdeal.main_arg0)
          ∧ r.2.mem ((c.tc : Thread Cert.RefWgradOutIdeal.nD Cert.RefWgradOutIdeal.τ).loc Cert.RefWgradOutIdeal.main_arg1) = m' ((c.tc : Thread Cert.RefWgradOutIdeal.nD Cert.RefWgradOutIdeal.τ).loc Cert.RefWgradOutIdeal.main_arg1))

def preserves_WgradIn_WgradInIdeal : Prop :=
  True

def algebraic_WgradInIdeal_RefWgradInIdeal [hWgradInIdeal : Cert.WgradInIdeal.Facts] [hRefWgradInIdeal : Cert.RefWgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.RefWgradInIdeal.nD Cert.RefWgradInIdeal.τ Cert.RefWgradInIdeal.sig) → Buf (Elt Ideal) ℓ) (g' : Dev Cert.RefWgradInIdeal.nD → PrngReg), Pre_WgradInIdeal m →
    (∀ c : Dev Cert.WgradInIdeal.nD,
      m' ((c.tc : Thread Cert.RefWgradInIdeal.nD Cert.RefWgradInIdeal.τ).loc Cert.RefWgradInIdeal.main_arg0) = m ((c.tc : Thread Cert.WgradInIdeal.nD Cert.WgradInIdeal.τ).loc Cert.WgradInIdeal.main_arg0)
      ∧ m' ((c.tc : Thread Cert.RefWgradInIdeal.nD Cert.RefWgradInIdeal.τ).loc Cert.RefWgradInIdeal.main_arg1) = m ((c.tc : Thread Cert.WgradInIdeal.nD Cert.WgradInIdeal.τ).loc Cert.WgradInIdeal.main_arg1)
      ∧ m' ((c.tc : Thread Cert.RefWgradInIdeal.nD Cert.RefWgradInIdeal.τ).loc Cert.RefWgradInIdeal.main_arg2) = m ((c.tc : Thread Cert.WgradInIdeal.nD Cert.WgradInIdeal.τ).loc Cert.WgradInIdeal.main_arg2)
      ∧ m' ((c.tc : Thread Cert.RefWgradInIdeal.nD Cert.RefWgradInIdeal.τ).loc Cert.RefWgradInIdeal.main_arg3) = m ((c.tc : Thread Cert.WgradInIdeal.nD Cert.WgradInIdeal.τ).loc Cert.WgradInIdeal.main_arg3)
      ∧ m' ((c.tc : Thread Cert.RefWgradInIdeal.nD Cert.RefWgradInIdeal.τ).loc Cert.RefWgradInIdeal.main_arg4) = m ((c.tc : Thread Cert.WgradInIdeal.nD Cert.WgradInIdeal.τ).loc Cert.WgradInIdeal.main_arg4)
      ∧ m' ((c.tc : Thread Cert.RefWgradInIdeal.nD Cert.RefWgradInIdeal.τ).loc Cert.RefWgradInIdeal.main_arg5) = m ((c.tc : Thread Cert.WgradInIdeal.nD Cert.WgradInIdeal.τ).loc Cert.WgradInIdeal.main_arg5)
      ∧ m' ((c.tc : Thread Cert.RefWgradInIdeal.nD Cert.RefWgradInIdeal.τ).loc Cert.RefWgradInIdeal.main_arg6) = m ((c.tc : Thread Cert.WgradInIdeal.nD Cert.WgradInIdeal.τ).loc Cert.WgradInIdeal.main_arg6)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
          ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3)
          ∧ r.2.mem ((c.tc : Thread Cert.WgradInIdeal.nD Cert.WgradInIdeal.τ).loc Cert.WgradInIdeal.main_arg4) = m ((c.tc : Thread Cert.WgradInIdeal.nD Cert.WgradInIdeal.τ).loc Cert.WgradInIdeal.main_arg4)
          ∧ r.2.mem ((c.tc : Thread Cert.WgradInIdeal.nD Cert.WgradInIdeal.τ).loc Cert.WgradInIdeal.main_arg5) = m ((c.tc : Thread Cert.WgradInIdeal.nD Cert.WgradInIdeal.τ).loc Cert.WgradInIdeal.main_arg5)
          ∧ r.2.mem ((c.tc : Thread Cert.WgradInIdeal.nD Cert.WgradInIdeal.τ).loc Cert.WgradInIdeal.main_arg6) = m ((c.tc : Thread Cert.WgradInIdeal.nD Cert.WgradInIdeal.τ).loc Cert.WgradInIdeal.main_arg6))
      ∧ θ_run (Cert.RefWgradInIdeal.defs (F := Ideal)) (onTc (τ := Cert.RefWgradInIdeal.τ) (Cert.RefWgradInIdeal.main (F := Ideal))) ⟨m', fun _ => 0, g'⟩ (fun r => ∀ c : Dev Cert.RefWgradInIdeal.nD,
          r.2.mem ((c.tc : Thread Cert.RefWgradInIdeal.nD Cert.RefWgradInIdeal.τ).loc Cert.RefWgradInIdeal.main_v13) = v0 c
          ∧ r.2.mem ((c.tc : Thread Cert.RefWgradInIdeal.nD Cert.RefWgradInIdeal.τ).loc Cert.RefWgradInIdeal.main_arg0) = m' ((c.tc : Thread Cert.RefWgradInIdeal.nD Cert.RefWgradInIdeal.τ).loc Cert.RefWgradInIdeal.main_arg0)
          ∧ r.2.mem ((c.tc : Thread Cert.RefWgradInIdeal.nD Cert.RefWgradInIdeal.τ).loc Cert.RefWgradInIdeal.main_arg1) = m' ((c.tc : Thread Cert.RefWgradInIdeal.nD Cert.RefWgradInIdeal.τ).loc Cert.RefWgradInIdeal.main_arg1)
          ∧ r.2.mem ((c.tc : Thread Cert.RefWgradInIdeal.nD Cert.RefWgradInIdeal.τ).loc Cert.RefWgradInIdeal.main_arg2) = m' ((c.tc : Thread Cert.RefWgradInIdeal.nD Cert.RefWgradInIdeal.τ).loc Cert.RefWgradInIdeal.main_arg2)
          ∧ r.2.mem ((c.tc : Thread Cert.RefWgradInIdeal.nD Cert.RefWgradInIdeal.τ).loc Cert.RefWgradInIdeal.main_arg3) = m' ((c.tc : Thread Cert.RefWgradInIdeal.nD Cert.RefWgradInIdeal.τ).loc Cert.RefWgradInIdeal.main_arg3)
          ∧ r.2.mem ((c.tc : Thread Cert.RefWgradInIdeal.nD Cert.RefWgradInIdeal.τ).loc Cert.RefWgradInIdeal.main_arg4) = m' ((c.tc : Thread Cert.RefWgradInIdeal.nD Cert.RefWgradInIdeal.τ).loc Cert.RefWgradInIdeal.main_arg4)
          ∧ r.2.mem ((c.tc : Thread Cert.RefWgradInIdeal.nD Cert.RefWgradInIdeal.τ).loc Cert.RefWgradInIdeal.main_arg5) = m' ((c.tc : Thread Cert.RefWgradInIdeal.nD Cert.RefWgradInIdeal.τ).loc Cert.RefWgradInIdeal.main_arg5)
          ∧ r.2.mem ((c.tc : Thread Cert.RefWgradInIdeal.nD Cert.RefWgradInIdeal.τ).loc Cert.RefWgradInIdeal.main_arg6) = m' ((c.tc : Thread Cert.RefWgradInIdeal.nD Cert.RefWgradInIdeal.τ).loc Cert.RefWgradInIdeal.main_arg6))

def preserves_LnProj_LnProjIdeal : Prop :=
  True

def algebraic_LnProjIdeal_RefLnProjIdeal [hLnProjIdeal : Cert.LnProjIdeal.Facts] [hRefLnProjIdeal : Cert.RefLnProjIdeal.Facts] : Prop :=
  ∀ (m : (ℓ : Loc Cert.LnProjIdeal.nD Cert.LnProjIdeal.τ Cert.LnProjIdeal.sig) → Buf (Elt Ideal) ℓ) (g : Dev Cert.LnProjIdeal.nD → PrngReg)
    (m' : (ℓ : Loc Cert.RefLnProjIdeal.nD Cert.RefLnProjIdeal.τ Cert.RefLnProjIdeal.sig) → Buf (Elt Ideal) ℓ) (g' : Dev Cert.RefLnProjIdeal.nD → PrngReg), Pre_LnProjIdeal m →
    (∀ c : Dev Cert.LnProjIdeal.nD,
      m' ((c.tc : Thread Cert.RefLnProjIdeal.nD Cert.RefLnProjIdeal.τ).loc Cert.RefLnProjIdeal.main_arg0) = m ((c.tc : Thread Cert.LnProjIdeal.nD Cert.LnProjIdeal.τ).loc Cert.LnProjIdeal.main_arg0)
      ∧ m' ((c.tc : Thread Cert.RefLnProjIdeal.nD Cert.RefLnProjIdeal.τ).loc Cert.RefLnProjIdeal.main_arg1) = m ((c.tc : Thread Cert.LnProjIdeal.nD Cert.LnProjIdeal.τ).loc Cert.LnProjIdeal.main_arg1)
      ∧ m' ((c.tc : Thread Cert.RefLnProjIdeal.nD Cert.RefLnProjIdeal.τ).loc Cert.RefLnProjIdeal.main_arg2) = m ((c.tc : Thread Cert.LnProjIdeal.nD Cert.LnProjIdeal.τ).loc Cert.LnProjIdeal.main_arg2)
      ∧ m' ((c.tc : Thread Cert.RefLnProjIdeal.nD Cert.RefLnProjIdeal.τ).loc Cert.RefLnProjIdeal.main_arg3) = m ((c.tc : Thread Cert.LnProjIdeal.nD Cert.LnProjIdeal.τ).loc Cert.LnProjIdeal.main_arg3)) →
    ∃ (v0 : (c : Dev Cert.LnProjIdeal.nD) → Buf (Elt Ideal) ((c.tc : Thread Cert.LnProjIdeal.nD Cert.LnProjIdeal.τ).loc Cert.LnProjIdeal.main_v4_0)) (v1 : (c : Dev Cert.LnProjIdeal.nD) → Buf (Elt Ideal) ((c.tc : Thread Cert.LnProjIdeal.nD Cert.LnProjIdeal.τ).loc Cert.LnProjIdeal.main_v4_1)),
      θ_run (Cert.LnProjIdeal.defs (F := Ideal)) (onTc (τ := Cert.LnProjIdeal.τ) (Cert.LnProjIdeal.main (F := Ideal))) ⟨m, fun _ => 0, g⟩ (fun r => ∀ c : Dev Cert.LnProjIdeal.nD,
          r.2.mem ((c.tc : Thread Cert.LnProjIdeal.nD Cert.LnProjIdeal.τ).loc Cert.LnProjIdeal.main_v4_0) = v0 c
          ∧ r.2.mem ((c.tc : Thread Cert.LnProjIdeal.nD Cert.LnProjIdeal.τ).loc Cert.LnProjIdeal.main_v4_1) = v1 c
          ∧ r.2.mem ((c.tc : Thread Cert.LnProjIdeal.nD Cert.LnProjIdeal.τ).loc Cert.LnProjIdeal.main_arg0) = m ((c.tc : Thread Cert.LnProjIdeal.nD Cert.LnProjIdeal.τ).loc Cert.LnProjIdeal.main_arg0)
          ∧ r.2.mem ((c.tc : Thread Cert.LnProjIdeal.nD Cert.LnProjIdeal.τ).loc Cert.LnProjIdeal.main_arg1) = m ((c.tc : Thread Cert.LnProjIdeal.nD Cert.LnProjIdeal.τ).loc Cert.LnProjIdeal.main_arg1)
          ∧ r.2.mem ((c.tc : Thread Cert.LnProjIdeal.nD Cert.LnProjIdeal.τ).loc Cert.LnProjIdeal.main_arg2) = m ((c.tc : Thread Cert.LnProjIdeal.nD Cert.LnProjIdeal.τ).loc Cert.LnProjIdeal.main_arg2)
          ∧ r.2.mem ((c.tc : Thread Cert.LnProjIdeal.nD Cert.LnProjIdeal.τ).loc Cert.LnProjIdeal.main_arg3) = m ((c.tc : Thread Cert.LnProjIdeal.nD Cert.LnProjIdeal.τ).loc Cert.LnProjIdeal.main_arg3))
      ∧ θ_run (Cert.RefLnProjIdeal.defs (F := Ideal)) (onTc (τ := Cert.RefLnProjIdeal.τ) (Cert.RefLnProjIdeal.main (F := Ideal))) ⟨m', fun _ => 0, g'⟩ (fun r => ∀ c : Dev Cert.RefLnProjIdeal.nD,
          r.2.mem ((c.tc : Thread Cert.RefLnProjIdeal.nD Cert.RefLnProjIdeal.τ).loc Cert.RefLnProjIdeal.main_v24) = v0 c
          ∧ r.2.mem ((c.tc : Thread Cert.RefLnProjIdeal.nD Cert.RefLnProjIdeal.τ).loc Cert.RefLnProjIdeal.main_v26) = v1 c
          ∧ r.2.mem ((c.tc : Thread Cert.RefLnProjIdeal.nD Cert.RefLnProjIdeal.τ).loc Cert.RefLnProjIdeal.main_arg0) = m' ((c.tc : Thread Cert.RefLnProjIdeal.nD Cert.RefLnProjIdeal.τ).loc Cert.RefLnProjIdeal.main_arg0)
          ∧ r.2.mem ((c.tc : Thread Cert.RefLnProjIdeal.nD Cert.RefLnProjIdeal.τ).loc Cert.RefLnProjIdeal.main_arg1) = m' ((c.tc : Thread Cert.RefLnProjIdeal.nD Cert.RefLnProjIdeal.τ).loc Cert.RefLnProjIdeal.main_arg1)
          ∧ r.2.mem ((c.tc : Thread Cert.RefLnProjIdeal.nD Cert.RefLnProjIdeal.τ).loc Cert.RefLnProjIdeal.main_arg2) = m' ((c.tc : Thread Cert.RefLnProjIdeal.nD Cert.RefLnProjIdeal.τ).loc Cert.RefLnProjIdeal.main_arg2)
          ∧ r.2.mem ((c.tc : Thread Cert.RefLnProjIdeal.nD Cert.RefLnProjIdeal.τ).loc Cert.RefLnProjIdeal.main_arg3) = m' ((c.tc : Thread Cert.RefLnProjIdeal.nD Cert.RefLnProjIdeal.τ).loc Cert.RefLnProjIdeal.main_arg3))

def preserves_AdamwIn_AdamwInIdeal : Prop :=
  True

def algebraic_AdamwInIdeal_RefAdamwInIdeal [hAdamwInIdeal : Cert.AdamwInIdeal.Facts] [hRefAdamwInIdeal : Cert.RefAdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.RefAdamwInIdeal.nD Cert.RefAdamwInIdeal.τ Cert.RefAdamwInIdeal.sig) → Buf (Elt Ideal) ℓ) (g' : Dev Cert.RefAdamwInIdeal.nD → PrngReg), Pre_AdamwInIdeal m →
    (∀ c : Dev Cert.AdamwInIdeal.nD,
      m' ((c.tc : Thread Cert.RefAdamwInIdeal.nD Cert.RefAdamwInIdeal.τ).loc Cert.RefAdamwInIdeal.main_arg0) = m ((c.tc : Thread Cert.AdamwInIdeal.nD Cert.AdamwInIdeal.τ).loc Cert.AdamwInIdeal.main_arg0)
      ∧ m' ((c.tc : Thread Cert.RefAdamwInIdeal.nD Cert.RefAdamwInIdeal.τ).loc Cert.RefAdamwInIdeal.main_arg1) = m ((c.tc : Thread Cert.AdamwInIdeal.nD Cert.AdamwInIdeal.τ).loc Cert.AdamwInIdeal.main_arg1)
      ∧ m' ((c.tc : Thread Cert.RefAdamwInIdeal.nD Cert.RefAdamwInIdeal.τ).loc Cert.RefAdamwInIdeal.main_arg2) = m ((c.tc : Thread Cert.AdamwInIdeal.nD Cert.AdamwInIdeal.τ).loc Cert.AdamwInIdeal.main_arg2)
      ∧ m' ((c.tc : Thread Cert.RefAdamwInIdeal.nD Cert.RefAdamwInIdeal.τ).loc Cert.RefAdamwInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v3_0)) (v1 : (c : Dev Cert.AdamwInIdeal.nD) → Buf (Elt Ideal) ((c.tc : Thread Cert.AdamwInIdeal.nD Cert.AdamwInIdeal.τ).loc Cert.AdamwInIdeal.main_v3_1)) (v2 : (c : Dev Cert.AdamwInIdeal.nD) → Buf (Elt Ideal) ((c.tc : Thread Cert.AdamwInIdeal.nD Cert.AdamwInIdeal.τ).loc Cert.AdamwInIdeal.main_v3_2)) (v3 : (c : Dev Cert.AdamwInIdeal.nD) → Buf (Elt Ideal) ((c.tc : Thread Cert.AdamwInIdeal.nD Cert.AdamwInIdeal.τ).loc Cert.AdamwInIdeal.main_v3_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v3_0) = v0 c
          ∧ r.2.mem ((c.tc : Thread Cert.AdamwInIdeal.nD Cert.AdamwInIdeal.τ).loc Cert.AdamwInIdeal.main_v3_1) = v1 c
          ∧ r.2.mem ((c.tc : Thread Cert.AdamwInIdeal.nD Cert.AdamwInIdeal.τ).loc Cert.AdamwInIdeal.main_v3_2) = v2 c
          ∧ r.2.mem ((c.tc : Thread Cert.AdamwInIdeal.nD Cert.AdamwInIdeal.τ).loc Cert.AdamwInIdeal.main_v3_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.RefAdamwInIdeal.defs (F := Ideal)) (onTc (τ := Cert.RefAdamwInIdeal.τ) (Cert.RefAdamwInIdeal.main (F := Ideal))) ⟨m', fun _ => 0, g'⟩ (fun r => ∀ c : Dev Cert.RefAdamwInIdeal.nD,
          r.2.mem ((c.tc : Thread Cert.RefAdamwInIdeal.nD Cert.RefAdamwInIdeal.τ).loc Cert.RefAdamwInIdeal.main_v27) = v0 c
          ∧ r.2.mem ((c.tc : Thread Cert.RefAdamwInIdeal.nD Cert.RefAdamwInIdeal.τ).loc Cert.RefAdamwInIdeal.main_v28) = v1 c
          ∧ r.2.mem ((c.tc : Thread Cert.RefAdamwInIdeal.nD Cert.RefAdamwInIdeal.τ).loc Cert.RefAdamwInIdeal.main_v29) = v2 c
          ∧ r.2.mem ((c.tc : Thread Cert.RefAdamwInIdeal.nD Cert.RefAdamwInIdeal.τ).loc Cert.RefAdamwInIdeal.main_v30) = v3 c
          ∧ r.2.mem ((c.tc : Thread Cert.RefAdamwInIdeal.nD Cert.RefAdamwInIdeal.τ).loc Cert.RefAdamwInIdeal.main_arg0) = m' ((c.tc : Thread Cert.RefAdamwInIdeal.nD Cert.RefAdamwInIdeal.τ).loc Cert.RefAdamwInIdeal.main_arg0)
          ∧ r.2.mem ((c.tc : Thread Cert.RefAdamwInIdeal.nD Cert.RefAdamwInIdeal.τ).loc Cert.RefAdamwInIdeal.main_arg1) = m' ((c.tc : Thread Cert.RefAdamwInIdeal.nD Cert.RefAdamwInIdeal.τ).loc Cert.RefAdamwInIdeal.main_arg1)
          ∧ r.2.mem ((c.tc : Thread Cert.RefAdamwInIdeal.nD Cert.RefAdamwInIdeal.τ).loc Cert.RefAdamwInIdeal.main_arg2) = m' ((c.tc : Thread Cert.RefAdamwInIdeal.nD Cert.RefAdamwInIdeal.τ).loc Cert.RefAdamwInIdeal.main_arg2)
          ∧ r.2.mem ((c.tc : Thread Cert.RefAdamwInIdeal.nD Cert.RefAdamwInIdeal.τ).loc Cert.RefAdamwInIdeal.main_arg3) = m' ((c.tc : Thread Cert.RefAdamwInIdeal.nD Cert.RefAdamwInIdeal.τ).loc Cert.RefAdamwInIdeal.main_arg3))

def preserves_AdamwOut_AdamwOutIdeal : Prop :=
  True

def algebraic_AdamwOutIdeal_RefAdamwOutIdeal [hAdamwOutIdeal : Cert.AdamwOutIdeal.Facts] [hRefAdamwOutIdeal : Cert.RefAdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.RefAdamwOutIdeal.nD Cert.RefAdamwOutIdeal.τ Cert.RefAdamwOutIdeal.sig) → Buf (Elt Ideal) ℓ) (g' : Dev Cert.RefAdamwOutIdeal.nD → PrngReg), Pre_AdamwOutIdeal m →
    (∀ c : Dev Cert.AdamwOutIdeal.nD,
      m' ((c.tc : Thread Cert.RefAdamwOutIdeal.nD Cert.RefAdamwOutIdeal.τ).loc Cert.RefAdamwOutIdeal.main_arg0) = m ((c.tc : Thread Cert.AdamwOutIdeal.nD Cert.AdamwOutIdeal.τ).loc Cert.AdamwOutIdeal.main_arg0)
      ∧ m' ((c.tc : Thread Cert.RefAdamwOutIdeal.nD Cert.RefAdamwOutIdeal.τ).loc Cert.RefAdamwOutIdeal.main_arg1) = m ((c.tc : Thread Cert.AdamwOutIdeal.nD Cert.AdamwOutIdeal.τ).loc Cert.AdamwOutIdeal.main_arg1)
      ∧ m' ((c.tc : Thread Cert.RefAdamwOutIdeal.nD Cert.RefAdamwOutIdeal.τ).loc Cert.RefAdamwOutIdeal.main_arg2) = m ((c.tc : Thread Cert.AdamwOutIdeal.nD Cert.AdamwOutIdeal.τ).loc Cert.AdamwOutIdeal.main_arg2)
      ∧ m' ((c.tc : Thread Cert.RefAdamwOutIdeal.nD Cert.RefAdamwOutIdeal.τ).loc Cert.RefAdamwOutIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.RefAdamwOutIdeal.defs (F := Ideal)) (onTc (τ := Cert.RefAdamwOutIdeal.τ) (Cert.RefAdamwOutIdeal.main (F := Ideal))) ⟨m', fun _ => 0, g'⟩ (fun r => ∀ c : Dev Cert.RefAdamwOutIdeal.nD,
          r.2.mem ((c.tc : Thread Cert.RefAdamwOutIdeal.nD Cert.RefAdamwOutIdeal.τ).loc Cert.RefAdamwOutIdeal.main_v1) = v0 c
          ∧ r.2.mem ((c.tc : Thread Cert.RefAdamwOutIdeal.nD Cert.RefAdamwOutIdeal.τ).loc Cert.RefAdamwOutIdeal.main_v25) = v1 c
          ∧ r.2.mem ((c.tc : Thread Cert.RefAdamwOutIdeal.nD Cert.RefAdamwOutIdeal.τ).loc Cert.RefAdamwOutIdeal.main_v6) = v2 c
          ∧ r.2.mem ((c.tc : Thread Cert.RefAdamwOutIdeal.nD Cert.RefAdamwOutIdeal.τ).loc Cert.RefAdamwOutIdeal.main_v12) = v3 c
          ∧ r.2.mem ((c.tc : Thread Cert.RefAdamwOutIdeal.nD Cert.RefAdamwOutIdeal.τ).loc Cert.RefAdamwOutIdeal.main_arg0) = m' ((c.tc : Thread Cert.RefAdamwOutIdeal.nD Cert.RefAdamwOutIdeal.τ).loc Cert.RefAdamwOutIdeal.main_arg0)
          ∧ r.2.mem ((c.tc : Thread Cert.RefAdamwOutIdeal.nD Cert.RefAdamwOutIdeal.τ).loc Cert.RefAdamwOutIdeal.main_arg1) = m' ((c.tc : Thread Cert.RefAdamwOutIdeal.nD Cert.RefAdamwOutIdeal.τ).loc Cert.RefAdamwOutIdeal.main_arg1)
          ∧ r.2.mem ((c.tc : Thread Cert.RefAdamwOutIdeal.nD Cert.RefAdamwOutIdeal.τ).loc Cert.RefAdamwOutIdeal.main_arg2) = m' ((c.tc : Thread Cert.RefAdamwOutIdeal.nD Cert.RefAdamwOutIdeal.τ).loc Cert.RefAdamwOutIdeal.main_arg2)
          ∧ r.2.mem ((c.tc : Thread Cert.RefAdamwOutIdeal.nD Cert.RefAdamwOutIdeal.τ).loc Cert.RefAdamwOutIdeal.main_arg3) = m' ((c.tc : Thread Cert.RefAdamwOutIdeal.nD Cert.RefAdamwOutIdeal.τ).loc Cert.RefAdamwOutIdeal.main_arg3))

def preserves_AdamwGateUp_AdamwGateUpIdeal : Prop :=
  True

def algebraic_AdamwGateUpIdeal_RefAdamwGateUpIdeal [hAdamwGateUpIdeal : Cert.AdamwGateUpIdeal.Facts] [hRefAdamwGateUpIdeal : Cert.RefAdamwGateUpIdeal.Facts] : Prop :=
  ∀ (m : (ℓ : Loc Cert.AdamwGateUpIdeal.nD Cert.AdamwGateUpIdeal.τ Cert.AdamwGateUpIdeal.sig) → Buf (Elt Ideal) ℓ) (g : Dev Cert.AdamwGateUpIdeal.nD → PrngReg)
    (m' : (ℓ : Loc Cert.RefAdamwGateUpIdeal.nD Cert.RefAdamwGateUpIdeal.τ Cert.RefAdamwGateUpIdeal.sig) → Buf (Elt Ideal) ℓ) (g' : Dev Cert.RefAdamwGateUpIdeal.nD → PrngReg), Pre_AdamwGateUpIdeal m →
    (∀ c : Dev Cert.AdamwGateUpIdeal.nD,
      m' ((c.tc : Thread Cert.RefAdamwGateUpIdeal.nD Cert.RefAdamwGateUpIdeal.τ).loc Cert.RefAdamwGateUpIdeal.main_arg0) = m ((c.tc : Thread Cert.AdamwGateUpIdeal.nD Cert.AdamwGateUpIdeal.τ).loc Cert.AdamwGateUpIdeal.main_arg0)
      ∧ m' ((c.tc : Thread Cert.RefAdamwGateUpIdeal.nD Cert.RefAdamwGateUpIdeal.τ).loc Cert.RefAdamwGateUpIdeal.main_arg1) = m ((c.tc : Thread Cert.AdamwGateUpIdeal.nD Cert.AdamwGateUpIdeal.τ).loc Cert.AdamwGateUpIdeal.main_arg1)
      ∧ m' ((c.tc : Thread Cert.RefAdamwGateUpIdeal.nD Cert.RefAdamwGateUpIdeal.τ).loc Cert.RefAdamwGateUpIdeal.main_arg2) = m ((c.tc : Thread Cert.AdamwGateUpIdeal.nD Cert.AdamwGateUpIdeal.τ).loc Cert.AdamwGateUpIdeal.main_arg2)
      ∧ m' ((c.tc : Thread Cert.RefAdamwGateUpIdeal.nD Cert.RefAdamwGateUpIdeal.τ).loc Cert.RefAdamwGateUpIdeal.main_arg3) = m ((c.tc : Thread Cert.AdamwGateUpIdeal.nD Cert.AdamwGateUpIdeal.τ).loc Cert.AdamwGateUpIdeal.main_arg3)) →
    ∃ (v0 : (c : Dev Cert.AdamwGateUpIdeal.nD) → Buf (Elt Ideal) ((c.tc : Thread Cert.AdamwGateUpIdeal.nD Cert.AdamwGateUpIdeal.τ).loc Cert.AdamwGateUpIdeal.main_v3_0)) (v1 : (c : Dev Cert.AdamwGateUpIdeal.nD) → Buf (Elt Ideal) ((c.tc : Thread Cert.AdamwGateUpIdeal.nD Cert.AdamwGateUpIdeal.τ).loc Cert.AdamwGateUpIdeal.main_v3_1)) (v2 : (c : Dev Cert.AdamwGateUpIdeal.nD) → Buf (Elt Ideal) ((c.tc : Thread Cert.AdamwGateUpIdeal.nD Cert.AdamwGateUpIdeal.τ).loc Cert.AdamwGateUpIdeal.main_v3_2)) (v3 : (c : Dev Cert.AdamwGateUpIdeal.nD) → Buf (Elt Ideal) ((c.tc : Thread Cert.AdamwGateUpIdeal.nD Cert.AdamwGateUpIdeal.τ).loc Cert.AdamwGateUpIdeal.main_v3_3)),
      θ_run (Cert.AdamwGateUpIdeal.defs (F := Ideal)) (onTc (τ := Cert.AdamwGateUpIdeal.τ) (Cert.AdamwGateUpIdeal.main (F := Ideal))) ⟨m, fun _ => 0, g⟩ (fun r => ∀ c : Dev Cert.AdamwGateUpIdeal.nD,
          r.2.mem ((c.tc : Thread Cert.AdamwGateUpIdeal.nD Cert.AdamwGateUpIdeal.τ).loc Cert.AdamwGateUpIdeal.main_v3_0) = v0 c
          ∧ r.2.mem ((c.tc : Thread Cert.AdamwGateUpIdeal.nD Cert.AdamwGateUpIdeal.τ).loc Cert.AdamwGateUpIdeal.main_v3_1) = v1 c
          ∧ r.2.mem ((c.tc : Thread Cert.AdamwGateUpIdeal.nD Cert.AdamwGateUpIdeal.τ).loc Cert.AdamwGateUpIdeal.main_v3_2) = v2 c
          ∧ r.2.mem ((c.tc : Thread Cert.AdamwGateUpIdeal.nD Cert.AdamwGateUpIdeal.τ).loc Cert.AdamwGateUpIdeal.main_v3_3) = v3 c
          ∧ r.2.mem ((c.tc : Thread Cert.AdamwGateUpIdeal.nD Cert.AdamwGateUpIdeal.τ).loc Cert.AdamwGateUpIdeal.main_arg0) = m ((c.tc : Thread Cert.AdamwGateUpIdeal.nD Cert.AdamwGateUpIdeal.τ).loc Cert.AdamwGateUpIdeal.main_arg0)
          ∧ r.2.mem ((c.tc : Thread Cert.AdamwGateUpIdeal.nD Cert.AdamwGateUpIdeal.τ).loc Cert.AdamwGateUpIdeal.main_arg1) = m ((c.tc : Thread Cert.AdamwGateUpIdeal.nD Cert.AdamwGateUpIdeal.τ).loc Cert.AdamwGateUpIdeal.main_arg1)
          ∧ r.2.mem ((c.tc : Thread Cert.AdamwGateUpIdeal.nD Cert.AdamwGateUpIdeal.τ).loc Cert.AdamwGateUpIdeal.main_arg2) = m ((c.tc : Thread Cert.AdamwGateUpIdeal.nD Cert.AdamwGateUpIdeal.τ).loc Cert.AdamwGateUpIdeal.main_arg2)
          ∧ r.2.mem ((c.tc : Thread Cert.AdamwGateUpIdeal.nD Cert.AdamwGateUpIdeal.τ).loc Cert.AdamwGateUpIdeal.main_arg3) = m ((c.tc : Thread Cert.AdamwGateUpIdeal.nD Cert.AdamwGateUpIdeal.τ).loc Cert.AdamwGateUpIdeal.main_arg3))
      ∧ θ_run (Cert.RefAdamwGateUpIdeal.defs (F := Ideal)) (onTc (τ := Cert.RefAdamwGateUpIdeal.τ) (Cert.RefAdamwGateUpIdeal.main (F := Ideal))) ⟨m', fun _ => 0, g'⟩ (fun r => ∀ c : Dev Cert.RefAdamwGateUpIdeal.nD,
          r.2.mem ((c.tc : Thread Cert.RefAdamwGateUpIdeal.nD Cert.RefAdamwGateUpIdeal.τ).loc Cert.RefAdamwGateUpIdeal.main_v27) = v0 c
          ∧ r.2.mem ((c.tc : Thread Cert.RefAdamwGateUpIdeal.nD Cert.RefAdamwGateUpIdeal.τ).loc Cert.RefAdamwGateUpIdeal.main_v28) = v1 c
          ∧ r.2.mem ((c.tc : Thread Cert.RefAdamwGateUpIdeal.nD Cert.RefAdamwGateUpIdeal.τ).loc Cert.RefAdamwGateUpIdeal.main_v29) = v2 c
          ∧ r.2.mem ((c.tc : Thread Cert.RefAdamwGateUpIdeal.nD Cert.RefAdamwGateUpIdeal.τ).loc Cert.RefAdamwGateUpIdeal.main_v30) = v3 c
          ∧ r.2.mem ((c.tc : Thread Cert.RefAdamwGateUpIdeal.nD Cert.RefAdamwGateUpIdeal.τ).loc Cert.RefAdamwGateUpIdeal.main_arg0) = m' ((c.tc : Thread Cert.RefAdamwGateUpIdeal.nD Cert.RefAdamwGateUpIdeal.τ).loc Cert.RefAdamwGateUpIdeal.main_arg0)
          ∧ r.2.mem ((c.tc : Thread Cert.RefAdamwGateUpIdeal.nD Cert.RefAdamwGateUpIdeal.τ).loc Cert.RefAdamwGateUpIdeal.main_arg1) = m' ((c.tc : Thread Cert.RefAdamwGateUpIdeal.nD Cert.RefAdamwGateUpIdeal.τ).loc Cert.RefAdamwGateUpIdeal.main_arg1)
          ∧ r.2.mem ((c.tc : Thread Cert.RefAdamwGateUpIdeal.nD Cert.RefAdamwGateUpIdeal.τ).loc Cert.RefAdamwGateUpIdeal.main_arg2) = m' ((c.tc : Thread Cert.RefAdamwGateUpIdeal.nD Cert.RefAdamwGateUpIdeal.τ).loc Cert.RefAdamwGateUpIdeal.main_arg2)
          ∧ r.2.mem ((c.tc : Thread Cert.RefAdamwGateUpIdeal.nD Cert.RefAdamwGateUpIdeal.τ).loc Cert.RefAdamwGateUpIdeal.main_arg3) = m' ((c.tc : Thread Cert.RefAdamwGateUpIdeal.nD Cert.RefAdamwGateUpIdeal.τ).loc Cert.RefAdamwGateUpIdeal.main_arg3))

def preserves_AdamwDown_AdamwDownIdeal : Prop :=
  True

def algebraic_AdamwDownIdeal_RefAdamwDownIdeal [hAdamwDownIdeal : Cert.AdamwDownIdeal.Facts] [hRefAdamwDownIdeal : Cert.RefAdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.RefAdamwDownIdeal.nD Cert.RefAdamwDownIdeal.τ Cert.RefAdamwDownIdeal.sig) → Buf (Elt Ideal) ℓ) (g' : Dev Cert.RefAdamwDownIdeal.nD → PrngReg), Pre_AdamwDownIdeal m →
    (∀ c : Dev Cert.AdamwDownIdeal.nD,
      m' ((c.tc : Thread Cert.RefAdamwDownIdeal.nD Cert.RefAdamwDownIdeal.τ).loc Cert.RefAdamwDownIdeal.main_arg0) = m ((c.tc : Thread Cert.AdamwDownIdeal.nD Cert.AdamwDownIdeal.τ).loc Cert.AdamwDownIdeal.main_arg0)
      ∧ m' ((c.tc : Thread Cert.RefAdamwDownIdeal.nD Cert.RefAdamwDownIdeal.τ).loc Cert.RefAdamwDownIdeal.main_arg1) = m ((c.tc : Thread Cert.AdamwDownIdeal.nD Cert.AdamwDownIdeal.τ).loc Cert.AdamwDownIdeal.main_arg1)
      ∧ m' ((c.tc : Thread Cert.RefAdamwDownIdeal.nD Cert.RefAdamwDownIdeal.τ).loc Cert.RefAdamwDownIdeal.main_arg2) = m ((c.tc : Thread Cert.AdamwDownIdeal.nD Cert.AdamwDownIdeal.τ).loc Cert.AdamwDownIdeal.main_arg2)
      ∧ m' ((c.tc : Thread Cert.RefAdamwDownIdeal.nD Cert.RefAdamwDownIdeal.τ).loc Cert.RefAdamwDownIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.RefAdamwDownIdeal.defs (F := Ideal)) (onTc (τ := Cert.RefAdamwDownIdeal.τ) (Cert.RefAdamwDownIdeal.main (F := Ideal))) ⟨m', fun _ => 0, g'⟩ (fun r => ∀ c : Dev Cert.RefAdamwDownIdeal.nD,
          r.2.mem ((c.tc : Thread Cert.RefAdamwDownIdeal.nD Cert.RefAdamwDownIdeal.τ).loc Cert.RefAdamwDownIdeal.main_v1) = v0 c
          ∧ r.2.mem ((c.tc : Thread Cert.RefAdamwDownIdeal.nD Cert.RefAdamwDownIdeal.τ).loc Cert.RefAdamwDownIdeal.main_v25) = v1 c
          ∧ r.2.mem ((c.tc : Thread Cert.RefAdamwDownIdeal.nD Cert.RefAdamwDownIdeal.τ).loc Cert.RefAdamwDownIdeal.main_v6) = v2 c
          ∧ r.2.mem ((c.tc : Thread Cert.RefAdamwDownIdeal.nD Cert.RefAdamwDownIdeal.τ).loc Cert.RefAdamwDownIdeal.main_v12) = v3 c
          ∧ r.2.mem ((c.tc : Thread Cert.RefAdamwDownIdeal.nD Cert.RefAdamwDownIdeal.τ).loc Cert.RefAdamwDownIdeal.main_arg0) = m' ((c.tc : Thread Cert.RefAdamwDownIdeal.nD Cert.RefAdamwDownIdeal.τ).loc Cert.RefAdamwDownIdeal.main_arg0)
          ∧ r.2.mem ((c.tc : Thread Cert.RefAdamwDownIdeal.nD Cert.RefAdamwDownIdeal.τ).loc Cert.RefAdamwDownIdeal.main_arg1) = m' ((c.tc : Thread Cert.RefAdamwDownIdeal.nD Cert.RefAdamwDownIdeal.τ).loc Cert.RefAdamwDownIdeal.main_arg1)
          ∧ r.2.mem ((c.tc : Thread Cert.RefAdamwDownIdeal.nD Cert.RefAdamwDownIdeal.τ).loc Cert.RefAdamwDownIdeal.main_arg2) = m' ((c.tc : Thread Cert.RefAdamwDownIdeal.nD Cert.RefAdamwDownIdeal.τ).loc Cert.RefAdamwDownIdeal.main_arg2)
          ∧ r.2.mem ((c.tc : Thread Cert.RefAdamwDownIdeal.nD Cert.RefAdamwDownIdeal.τ).loc Cert.RefAdamwDownIdeal.main_arg3) = m' ((c.tc : Thread Cert.RefAdamwDownIdeal.nD Cert.RefAdamwDownIdeal.τ).loc Cert.RefAdamwDownIdeal.main_arg3))

def preserves_AdamwSmall_AdamwSmallIdeal : Prop :=
  True

def algebraic_AdamwSmallIdeal_RefAdamwSmallIdeal [hAdamwSmallIdeal : Cert.AdamwSmallIdeal.Facts] [hRefAdamwSmallIdeal : Cert.RefAdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.RefAdamwSmallIdeal.nD Cert.RefAdamwSmallIdeal.τ Cert.RefAdamwSmallIdeal.sig) → Buf (Elt Ideal) ℓ) (g' : Dev Cert.RefAdamwSmallIdeal.nD → PrngReg), Pre_AdamwSmallIdeal m →
    (∀ c : Dev Cert.AdamwSmallIdeal.nD,
      m' ((c.tc : Thread Cert.RefAdamwSmallIdeal.nD Cert.RefAdamwSmallIdeal.τ).loc Cert.RefAdamwSmallIdeal.main_arg0) = m ((c.tc : Thread Cert.AdamwSmallIdeal.nD Cert.AdamwSmallIdeal.τ).loc Cert.AdamwSmallIdeal.main_arg0)
      ∧ m' ((c.tc : Thread Cert.RefAdamwSmallIdeal.nD Cert.RefAdamwSmallIdeal.τ).loc Cert.RefAdamwSmallIdeal.main_arg1) = m ((c.tc : Thread Cert.AdamwSmallIdeal.nD Cert.AdamwSmallIdeal.τ).loc Cert.AdamwSmallIdeal.main_arg1)
      ∧ m' ((c.tc : Thread Cert.RefAdamwSmallIdeal.nD Cert.RefAdamwSmallIdeal.τ).loc Cert.RefAdamwSmallIdeal.main_arg2) = m ((c.tc : Thread Cert.AdamwSmallIdeal.nD Cert.AdamwSmallIdeal.τ).loc Cert.AdamwSmallIdeal.main_arg2)
      ∧ m' ((c.tc : Thread Cert.RefAdamwSmallIdeal.nD Cert.RefAdamwSmallIdeal.τ).loc Cert.RefAdamwSmallIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.RefAdamwSmallIdeal.defs (F := Ideal)) (onTc (τ := Cert.RefAdamwSmallIdeal.τ) (Cert.RefAdamwSmallIdeal.main (F := Ideal))) ⟨m', fun _ => 0, g'⟩ (fun r => ∀ c : Dev Cert.RefAdamwSmallIdeal.nD,
          r.2.mem ((c.tc : Thread Cert.RefAdamwSmallIdeal.nD Cert.RefAdamwSmallIdeal.τ).loc Cert.RefAdamwSmallIdeal.main_v0) = v0 c
          ∧ r.2.mem ((c.tc : Thread Cert.RefAdamwSmallIdeal.nD Cert.RefAdamwSmallIdeal.τ).loc Cert.RefAdamwSmallIdeal.main_v24) = v1 c
          ∧ r.2.mem ((c.tc : Thread Cert.RefAdamwSmallIdeal.nD Cert.RefAdamwSmallIdeal.τ).loc Cert.RefAdamwSmallIdeal.main_v5) = v2 c
          ∧ r.2.mem ((c.tc : Thread Cert.RefAdamwSmallIdeal.nD Cert.RefAdamwSmallIdeal.τ).loc Cert.RefAdamwSmallIdeal.main_v11) = v3 c
          ∧ r.2.mem ((c.tc : Thread Cert.RefAdamwSmallIdeal.nD Cert.RefAdamwSmallIdeal.τ).loc Cert.RefAdamwSmallIdeal.main_arg0) = m' ((c.tc : Thread Cert.RefAdamwSmallIdeal.nD Cert.RefAdamwSmallIdeal.τ).loc Cert.RefAdamwSmallIdeal.main_arg0)
          ∧ r.2.mem ((c.tc : Thread Cert.RefAdamwSmallIdeal.nD Cert.RefAdamwSmallIdeal.τ).loc Cert.RefAdamwSmallIdeal.main_arg1) = m' ((c.tc : Thread Cert.RefAdamwSmallIdeal.nD Cert.RefAdamwSmallIdeal.τ).loc Cert.RefAdamwSmallIdeal.main_arg1)
          ∧ r.2.mem ((c.tc : Thread Cert.RefAdamwSmallIdeal.nD Cert.RefAdamwSmallIdeal.τ).loc Cert.RefAdamwSmallIdeal.main_arg2) = m' ((c.tc : Thread Cert.RefAdamwSmallIdeal.nD Cert.RefAdamwSmallIdeal.τ).loc Cert.RefAdamwSmallIdeal.main_arg2)
          ∧ r.2.mem ((c.tc : Thread Cert.RefAdamwSmallIdeal.nD Cert.RefAdamwSmallIdeal.τ).loc Cert.RefAdamwSmallIdeal.main_arg3) = m' ((c.tc : Thread Cert.RefAdamwSmallIdeal.nD Cert.RefAdamwSmallIdeal.τ).loc Cert.RefAdamwSmallIdeal.main_arg3))

def preserves_ProjBwd_ProjBwdIdeal : Prop :=
  True

def algebraic_ProjBwdIdeal_RefProjBwdIdeal_pre_finite_proj [hProjBwdIdeal : Cert.ProjBwdIdeal.Facts] [hRefProjBwdIdeal : Cert.RefProjBwdIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.RefProjBwdIdeal.nD Cert.RefProjBwdIdeal.τ Cert.RefProjBwdIdeal.sig) → Buf (Elt Ideal) ℓ) (g' : Dev Cert.RefProjBwdIdeal.nD → PrngReg), Pre_ProjBwdIdeal_finite_proj m →
    (∀ c : Dev Cert.ProjBwdIdeal.nD,
      m' ((c.tc : Thread Cert.RefProjBwdIdeal.nD Cert.RefProjBwdIdeal.τ).loc Cert.RefProjBwdIdeal.main_arg0) = m ((c.tc : Thread Cert.ProjBwdIdeal.nD Cert.ProjBwdIdeal.τ).loc Cert.ProjBwdIdeal.main_arg0)
      ∧ m' ((c.tc : Thread Cert.RefProjBwdIdeal.nD Cert.RefProjBwdIdeal.τ).loc Cert.RefProjBwdIdeal.main_arg1) = m ((c.tc : Thread Cert.ProjBwdIdeal.nD Cert.ProjBwdIdeal.τ).loc Cert.ProjBwdIdeal.main_arg1)
      ∧ m' ((c.tc : Thread Cert.RefProjBwdIdeal.nD Cert.RefProjBwdIdeal.τ).loc Cert.RefProjBwdIdeal.main_arg2) = m ((c.tc : Thread Cert.ProjBwdIdeal.nD Cert.ProjBwdIdeal.τ).loc Cert.ProjBwdIdeal.main_arg2)
      ∧ m' ((c.tc : Thread Cert.RefProjBwdIdeal.nD Cert.RefProjBwdIdeal.τ).loc Cert.RefProjBwdIdeal.main_arg3) = m ((c.tc : Thread Cert.ProjBwdIdeal.nD Cert.ProjBwdIdeal.τ).loc Cert.ProjBwdIdeal.main_arg3)
      ∧ m' ((c.tc : Thread Cert.RefProjBwdIdeal.nD Cert.RefProjBwdIdeal.τ).loc Cert.RefProjBwdIdeal.main_arg4) = m ((c.tc : Thread Cert.ProjBwdIdeal.nD Cert.ProjBwdIdeal.τ).loc Cert.ProjBwdIdeal.main_arg4)
      ∧ m' ((c.tc : Thread Cert.RefProjBwdIdeal.nD Cert.RefProjBwdIdeal.τ).loc Cert.RefProjBwdIdeal.main_arg5) = m ((c.tc : Thread Cert.ProjBwdIdeal.nD Cert.ProjBwdIdeal.τ).loc Cert.ProjBwdIdeal.main_arg5)
      ∧ m' ((c.tc : Thread Cert.RefProjBwdIdeal.nD Cert.RefProjBwdIdeal.τ).loc Cert.RefProjBwdIdeal.main_arg6) = m ((c.tc : Thread Cert.ProjBwdIdeal.nD Cert.ProjBwdIdeal.τ).loc Cert.ProjBwdIdeal.main_arg6)
      ∧ m' ((c.tc : Thread Cert.RefProjBwdIdeal.nD Cert.RefProjBwdIdeal.τ).loc Cert.RefProjBwdIdeal.main_arg7) = m ((c.tc : Thread Cert.ProjBwdIdeal.nD Cert.ProjBwdIdeal.τ).loc Cert.ProjBwdIdeal.main_arg7)
      ∧ m' ((c.tc : Thread Cert.RefProjBwdIdeal.nD Cert.RefProjBwdIdeal.τ).loc Cert.RefProjBwdIdeal.main_arg8) = m ((c.tc : Thread Cert.ProjBwdIdeal.nD Cert.ProjBwdIdeal.τ).loc Cert.ProjBwdIdeal.main_arg8)
      ∧ m' ((c.tc : Thread Cert.RefProjBwdIdeal.nD Cert.RefProjBwdIdeal.τ).loc Cert.RefProjBwdIdeal.main_arg9) = m ((c.tc : Thread Cert.ProjBwdIdeal.nD Cert.ProjBwdIdeal.τ).loc Cert.ProjBwdIdeal.main_arg9)) →
    ∃ (v0 : (c : Dev Cert.ProjBwdIdeal.nD) → Buf (Elt Ideal) ((c.tc : Thread Cert.ProjBwdIdeal.nD Cert.ProjBwdIdeal.τ).loc Cert.ProjBwdIdeal.main_v3_0)) (v1 : (c : Dev Cert.ProjBwdIdeal.nD) → Buf (Elt Ideal) ((c.tc : Thread Cert.ProjBwdIdeal.nD Cert.ProjBwdIdeal.τ).loc Cert.ProjBwdIdeal.main_v3_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v3_0) = v0 c
          ∧ r.2.mem ((c.tc : Thread Cert.ProjBwdIdeal.nD Cert.ProjBwdIdeal.τ).loc Cert.ProjBwdIdeal.main_v3_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ θ_run (Cert.RefProjBwdIdeal.defs (F := Ideal)) (onTc (τ := Cert.RefProjBwdIdeal.τ) (Cert.RefProjBwdIdeal.main (F := Ideal))) ⟨m', fun _ => 0, g'⟩ (fun r => ∀ c : Dev Cert.RefProjBwdIdeal.nD,
          r.2.mem ((c.tc : Thread Cert.RefProjBwdIdeal.nD Cert.RefProjBwdIdeal.τ).loc Cert.RefProjBwdIdeal.main_v76) = v0 c
          ∧ r.2.mem ((c.tc : Thread Cert.RefProjBwdIdeal.nD Cert.RefProjBwdIdeal.τ).loc Cert.RefProjBwdIdeal.main_v86) = v1 c
          ∧ r.2.mem ((c.tc : Thread Cert.RefProjBwdIdeal.nD Cert.RefProjBwdIdeal.τ).loc Cert.RefProjBwdIdeal.main_arg0) = m' ((c.tc : Thread Cert.RefProjBwdIdeal.nD Cert.RefProjBwdIdeal.τ).loc Cert.RefProjBwdIdeal.main_arg0)
          ∧ r.2.mem ((c.tc : Thread Cert.RefProjBwdIdeal.nD Cert.RefProjBwdIdeal.τ).loc Cert.RefProjBwdIdeal.main_arg1) = m' ((c.tc : Thread Cert.RefProjBwdIdeal.nD Cert.RefProjBwdIdeal.τ).loc Cert.RefProjBwdIdeal.main_arg1)
          ∧ r.2.mem ((c.tc : Thread Cert.RefProjBwdIdeal.nD Cert.RefProjBwdIdeal.τ).loc Cert.RefProjBwdIdeal.main_arg2) = m' ((c.tc : Thread Cert.RefProjBwdIdeal.nD Cert.RefProjBwdIdeal.τ).loc Cert.RefProjBwdIdeal.main_arg2)
          ∧ r.2.mem ((c.tc : Thread Cert.RefProjBwdIdeal.nD Cert.RefProjBwdIdeal.τ).loc Cert.RefProjBwdIdeal.main_arg3) = m' ((c.tc : Thread Cert.RefProjBwdIdeal.nD Cert.RefProjBwdIdeal.τ).loc Cert.RefProjBwdIdeal.main_arg3)
          ∧ r.2.mem ((c.tc : Thread Cert.RefProjBwdIdeal.nD Cert.RefProjBwdIdeal.τ).loc Cert.RefProjBwdIdeal.main_arg4) = m' ((c.tc : Thread Cert.RefProjBwdIdeal.nD Cert.RefProjBwdIdeal.τ).loc Cert.RefProjBwdIdeal.main_arg4)
          ∧ r.2.mem ((c.tc : Thread Cert.RefProjBwdIdeal.nD Cert.RefProjBwdIdeal.τ).loc Cert.RefProjBwdIdeal.main_arg5) = m' ((c.tc : Thread Cert.RefProjBwdIdeal.nD Cert.RefProjBwdIdeal.τ).loc Cert.RefProjBwdIdeal.main_arg5)
          ∧ r.2.mem ((c.tc : Thread Cert.RefProjBwdIdeal.nD Cert.RefProjBwdIdeal.τ).loc Cert.RefProjBwdIdeal.main_arg6) = m' ((c.tc : Thread Cert.RefProjBwdIdeal.nD Cert.RefProjBwdIdeal.τ).loc Cert.RefProjBwdIdeal.main_arg6)
          ∧ r.2.mem ((c.tc : Thread Cert.RefProjBwdIdeal.nD Cert.RefProjBwdIdeal.τ).loc Cert.RefProjBwdIdeal.main_arg7) = m' ((c.tc : Thread Cert.RefProjBwdIdeal.nD Cert.RefProjBwdIdeal.τ).loc Cert.RefProjBwdIdeal.main_arg7)
          ∧ r.2.mem ((c.tc : Thread Cert.RefProjBwdIdeal.nD Cert.RefProjBwdIdeal.τ).loc Cert.RefProjBwdIdeal.main_arg8) = m' ((c.tc : Thread Cert.RefProjBwdIdeal.nD Cert.RefProjBwdIdeal.τ).loc Cert.RefProjBwdIdeal.main_arg8)
          ∧ r.2.mem ((c.tc : Thread Cert.RefProjBwdIdeal.nD Cert.RefProjBwdIdeal.τ).loc Cert.RefProjBwdIdeal.main_arg9) = m' ((c.tc : Thread Cert.RefProjBwdIdeal.nD Cert.RefProjBwdIdeal.τ).loc Cert.RefProjBwdIdeal.main_arg9))

def Claim : Prop :=
  ∃ (hKernel : Cert.Kernel.Facts) (hKernelIdeal : Cert.KernelIdeal.Facts) (hReferenceIdeal : Cert.ReferenceIdeal.Facts) (hWgradGateUp : Cert.WgradGateUp.Facts) (hWgradGateUpIdeal : Cert.WgradGateUpIdeal.Facts) (hRefWgradGateUpIdeal : Cert.RefWgradGateUpIdeal.Facts) (hWgradDown : Cert.WgradDown.Facts) (hWgradDownIdeal : Cert.WgradDownIdeal.Facts) (hRefWgradDownIdeal : Cert.RefWgradDownIdeal.Facts) (hWgradOut : Cert.WgradOut.Facts) (hWgradOutIdeal : Cert.WgradOutIdeal.Facts) (hRefWgradOutIdeal : Cert.RefWgradOutIdeal.Facts) (hWgradIn : Cert.WgradIn.Facts) (hWgradInIdeal : Cert.WgradInIdeal.Facts) (hRefWgradInIdeal : Cert.RefWgradInIdeal.Facts) (hLnProj : Cert.LnProj.Facts) (hLnProjIdeal : Cert.LnProjIdeal.Facts) (hRefLnProjIdeal : Cert.RefLnProjIdeal.Facts) (hAdamwIn : Cert.AdamwIn.Facts) (hAdamwInIdeal : Cert.AdamwInIdeal.Facts) (hRefAdamwInIdeal : Cert.RefAdamwInIdeal.Facts) (hAdamwOut : Cert.AdamwOut.Facts) (hAdamwOutIdeal : Cert.AdamwOutIdeal.Facts) (hRefAdamwOutIdeal : Cert.RefAdamwOutIdeal.Facts) (hAdamwGateUp : Cert.AdamwGateUp.Facts) (hAdamwGateUpIdeal : Cert.AdamwGateUpIdeal.Facts) (hRefAdamwGateUpIdeal : Cert.RefAdamwGateUpIdeal.Facts) (hAdamwDown : Cert.AdamwDown.Facts) (hAdamwDownIdeal : Cert.AdamwDownIdeal.Facts) (hRefAdamwDownIdeal : Cert.RefAdamwDownIdeal.Facts) (hAdamwSmall : Cert.AdamwSmall.Facts) (hAdamwSmallIdeal : Cert.AdamwSmallIdeal.Facts) (hRefAdamwSmallIdeal : Cert.RefAdamwSmallIdeal.Facts) (hProjBwd : Cert.ProjBwd.Facts) (hProjBwdIdeal : Cert.ProjBwdIdeal.Facts) (hRefProjBwdIdeal : Cert.RefProjBwdIdeal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradGateUp (hWgradGateUp := hWgradGateUp)
    ∧ quiescent_WgradGateUpIdeal (hWgradGateUpIdeal := hWgradGateUpIdeal)
    ∧ quiescent_RefWgradGateUpIdeal (hRefWgradGateUpIdeal := hRefWgradGateUpIdeal)
    ∧ quiescent_WgradDown (hWgradDown := hWgradDown)
    ∧ quiescent_WgradDownIdeal (hWgradDownIdeal := hWgradDownIdeal)
    ∧ quiescent_RefWgradDownIdeal (hRefWgradDownIdeal := hRefWgradDownIdeal)
    ∧ quiescent_WgradOut (hWgradOut := hWgradOut)
    ∧ quiescent_WgradOutIdeal (hWgradOutIdeal := hWgradOutIdeal)
    ∧ quiescent_RefWgradOutIdeal (hRefWgradOutIdeal := hRefWgradOutIdeal)
    ∧ quiescent_WgradIn (hWgradIn := hWgradIn)
    ∧ quiescent_WgradInIdeal (hWgradInIdeal := hWgradInIdeal)
    ∧ quiescent_RefWgradInIdeal (hRefWgradInIdeal := hRefWgradInIdeal)
    ∧ quiescent_LnProj (hLnProj := hLnProj)
    ∧ quiescent_LnProjIdeal (hLnProjIdeal := hLnProjIdeal)
    ∧ quiescent_RefLnProjIdeal (hRefLnProjIdeal := hRefLnProjIdeal)
    ∧ quiescent_AdamwIn (hAdamwIn := hAdamwIn)
    ∧ quiescent_AdamwInIdeal (hAdamwInIdeal := hAdamwInIdeal)
    ∧ quiescent_RefAdamwInIdeal (hRefAdamwInIdeal := hRefAdamwInIdeal)
    ∧ quiescent_AdamwOut (hAdamwOut := hAdamwOut)
    ∧ quiescent_AdamwOutIdeal (hAdamwOutIdeal := hAdamwOutIdeal)
    ∧ quiescent_RefAdamwOutIdeal (hRefAdamwOutIdeal := hRefAdamwOutIdeal)
    ∧ quiescent_AdamwGateUp (hAdamwGateUp := hAdamwGateUp)
    ∧ quiescent_AdamwGateUpIdeal (hAdamwGateUpIdeal := hAdamwGateUpIdeal)
    ∧ quiescent_RefAdamwGateUpIdeal (hRefAdamwGateUpIdeal := hRefAdamwGateUpIdeal)
    ∧ quiescent_AdamwDown (hAdamwDown := hAdamwDown)
    ∧ quiescent_AdamwDownIdeal (hAdamwDownIdeal := hAdamwDownIdeal)
    ∧ quiescent_RefAdamwDownIdeal (hRefAdamwDownIdeal := hRefAdamwDownIdeal)
    ∧ quiescent_AdamwSmall (hAdamwSmall := hAdamwSmall)
    ∧ quiescent_AdamwSmallIdeal (hAdamwSmallIdeal := hAdamwSmallIdeal)
    ∧ quiescent_RefAdamwSmallIdeal (hRefAdamwSmallIdeal := hRefAdamwSmallIdeal)
    ∧ quiescent_ProjBwd (hProjBwd := hProjBwd)
    ∧ quiescent_ProjBwdIdeal (hProjBwdIdeal := hProjBwdIdeal)
    ∧ quiescent_ProjBwdIdeal_pre_finite_proj (hProjBwdIdeal := hProjBwdIdeal) (hPre_finite_proj := hPre_finite_proj)
    ∧ quiescent_RefProjBwdIdeal (hRefProjBwdIdeal := hRefProjBwdIdeal)
    ∧ quiescent_RefProjBwdIdeal_pre_finite_proj (hRefProjBwdIdeal := hRefProjBwdIdeal) (hPre_finite_proj := hPre_finite_proj)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradGateUp_WgradGateUpIdeal
    ∧ algebraic_WgradGateUpIdeal_RefWgradGateUpIdeal (hWgradGateUpIdeal := hWgradGateUpIdeal) (hRefWgradGateUpIdeal := hRefWgradGateUpIdeal)
    ∧ preserves_WgradDown_WgradDownIdeal
    ∧ algebraic_WgradDownIdeal_RefWgradDownIdeal (hWgradDownIdeal := hWgradDownIdeal) (hRefWgradDownIdeal := hRefWgradDownIdeal)
    ∧ preserves_WgradOut_WgradOutIdeal
    ∧ algebraic_WgradOutIdeal_RefWgradOutIdeal (hWgradOutIdeal := hWgradOutIdeal) (hRefWgradOutIdeal := hRefWgradOutIdeal)
    ∧ preserves_WgradIn_WgradInIdeal
    ∧ algebraic_WgradInIdeal_RefWgradInIdeal (hWgradInIdeal := hWgradInIdeal) (hRefWgradInIdeal := hRefWgradInIdeal)
    ∧ preserves_LnProj_LnProjIdeal
    ∧ algebraic_LnProjIdeal_RefLnProjIdeal (hLnProjIdeal := hLnProjIdeal) (hRefLnProjIdeal := hRefLnProjIdeal)
    ∧ preserves_AdamwIn_AdamwInIdeal
    ∧ algebraic_AdamwInIdeal_RefAdamwInIdeal (hAdamwInIdeal := hAdamwInIdeal) (hRefAdamwInIdeal := hRefAdamwInIdeal)
    ∧ preserves_AdamwOut_AdamwOutIdeal
    ∧ algebraic_AdamwOutIdeal_RefAdamwOutIdeal (hAdamwOutIdeal := hAdamwOutIdeal) (hRefAdamwOutIdeal := hRefAdamwOutIdeal)
    ∧ preserves_AdamwGateUp_AdamwGateUpIdeal
    ∧ algebraic_AdamwGateUpIdeal_RefAdamwGateUpIdeal (hAdamwGateUpIdeal := hAdamwGateUpIdeal) (hRefAdamwGateUpIdeal := hRefAdamwGateUpIdeal)
    ∧ preserves_AdamwDown_AdamwDownIdeal
    ∧ algebraic_AdamwDownIdeal_RefAdamwDownIdeal (hAdamwDownIdeal := hAdamwDownIdeal) (hRefAdamwDownIdeal := hRefAdamwDownIdeal)
    ∧ preserves_AdamwSmall_AdamwSmallIdeal
    ∧ algebraic_AdamwSmallIdeal_RefAdamwSmallIdeal (hAdamwSmallIdeal := hAdamwSmallIdeal) (hRefAdamwSmallIdeal := hRefAdamwSmallIdeal)
    ∧ preserves_ProjBwd_ProjBwdIdeal
    ∧ algebraic_ProjBwdIdeal_RefProjBwdIdeal_pre_finite_proj (hProjBwdIdeal := hProjBwdIdeal) (hRefProjBwdIdeal := hRefProjBwdIdeal) (hPre_finite_proj := hPre_finite_proj)
-- ==== Pre_finite.lean ====
abbrev S8192x512 : Shape := ⟨2, ![8192, 512]⟩
abbrev S8192x1024 : Shape := ⟨2, ![8192, 1024]⟩
abbrev S1024 : Shape := ⟨1, ![1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x512 : S_.BroadcastsInDim S8192x512 (![] : Fin 0 → Fin S8192x512.rank)
  bcast_S_S8192x1024 : S_.BroadcastsInDim S8192x1024 (![] : Fin 0 → Fin S8192x1024.rank)
  bcast_S_S1024 : S_.BroadcastsInDim S1024 (![] : Fin 0 → Fin S1024.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part2 {F : FTy → Type} [FloatOps F] (main_arg12 : FVec F S1x1024 .f32) (main_arg13 : FVec F S1x1024 .f32) (main_arg14 : FVec F S8192x1024 .f32) (main_v2 : IVec S8192x512 1) (main_v5 : IVec S8192x512 1) (main_v8 : IVec S8192x1024 1) (main_v11 : IVec S1024 1) (main_v14 : IVec S1024 1) (main_v17 : IVec S1x512 1) (main_v20 : IVec S1x512 1) (main_v23 : IVec S1024x1024 1) (main_v26 : IVec S1x1024 1) (main_v29 : IVec S1x1024 1) (main_v32 : IVec S1024x5632 1) (main_v35 : IVec S2816x1024 1) : IVec S8192x512 1 × IVec S8192x512 1 × IVec S8192x1024 1 × IVec S1024 1 × IVec S1024 1 × IVec S1x512 1 × IVec S1x512 1 × IVec S1024x1024 1 × IVec S1x1024 1 × IVec S1x1024 1 × IVec S1024x5632 1 × IVec S2816x1024 1 × IVec S1x1024 1 × IVec S1x1024 1 × IVec S8192x1024 1 :=
  let main_v36 : FVec F S1x1024 .f32 := Host.absf main_arg12
  let main_cst_11 : FVec F S_ .f32 := constant S_ .f32 0x7F800000#32
  let main_v37 : FVec F S1x1024 .f32 := broadcastInDim S1x1024 ![] bcast_S_S1x1024 main_cst_11
  let main_v38 : IVec S1x1024 1 := cmpf .olt main_v36 main_v37
  let main_v39 : FVec F S1x1024 .f32 := Host.absf main_arg13
  let main_cst_12 : FVec F S_ .f32 := constant S_ .f32 0x7F800000#32
  let main_v40 : FVec F S1x1024 .f32 := broadcastInDim S1x1024 ![] bcast_S_S1x1024 main_cst_12
  let main_v41 : IVec S1x1024 1 := cmpf .olt main_v39 main_v40
  let main_v42 : FVec F S8192x1024 .f32 := Host.absf main_arg14
  let main_cst_13 : FVec F S_ .f32 := constant S_ .f32 0x7F800000#32
  let main_v43 : FVec F S8192x1024 .f32 := broadcastInDim S8192x1024 ![] bcast_S_S8192x1024 main_cst_13
  let main_v44 : IVec S8192x1024 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S1x512 .f32) (main_arg7 : FVec F S1024x1024 .f32) (main_arg8 : FVec F S1x1024 .f32) (main_arg9 : FVec F S1x1024 .f32) (main_arg10 : FVec F S1024x5632 .f32) (main_arg11 : FVec F S2816x1024 .f32) (main_arg12 : FVec F S1x1024 .f32) (main_arg13 : FVec F S1x1024 .f32) (main_arg14 : FVec F S8192x1024 .f32) (main_v2 : IVec S8192x512 1) (main_v5 : IVec S8192x512 1) (main_v8 : IVec S8192x1024 1) (main_v11 : IVec S1024 1) (main_v14 : IVec S1024 1) (main_v17 : IVec S1x512 1) : IVec S8192x512 1 × IVec S8192x512 1 × IVec S8192x1024 1 × IVec S1024 1 × IVec S1024 1 × IVec S1x512 1 × IVec S1x512 1 × IVec S1024x1024 1 × IVec S1x1024 1 × IVec S1x1024 1 × IVec S1024x5632 1 × IVec S2816x1024 1 × IVec S1x1024 1 × IVec S1x1024 1 × IVec S8192x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1024x5632 .f32 := Host.absf main_arg10
  let main_cst_9 : FVec F S_ .f32 := constant S_ .f32 0x7F800000#32
  let main_v31 : FVec F S1024x5632 .f32 := broadcastInDim S1024x5632 ![] bcast_S_S1024x5632 main_cst_9
  let main_v32 : IVec S1024x5632 1 := cmpf .olt main_v30 main_v31
  let main_v33 : FVec F S2816x1024 .f32 := Host.absf main_arg11
  let main_cst_10 : FVec F S_ .f32 := constant S_ .f32 0x7F800000#32
  let main_v34 : FVec F S2816x1024 .f32 := broadcastInDim S2816x1024 ![] bcast_S_S2816x1024 main_cst_10
  let main_v35 : IVec S2816x1024 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S8192x512 .f32) (main_arg1 : FVec F S8192x512 .f32) (main_arg2 : FVec F S8192x1024 .f32) (main_arg3 : FVec F S1024 .f32) (main_arg4 : FVec F S1024 .f32) (main_arg5 : FVec F S1x512 .f32) (main_arg6 : FVec F S1x512 .f32) (main_arg7 : FVec F S1024x1024 .f32) (main_arg8 : FVec F S1x1024 .f32) (main_arg9 : FVec F S1x1024 .f32) (main_arg10 : FVec F S1024x5632 .f32) (main_arg11 : FVec F S2816x1024 .f32) (main_arg12 : FVec F S1x1024 .f32) (main_arg13 : FVec F S1x1024 .f32) (main_arg14 : FVec F S8192x1024 .f32) : IVec S8192x512 1 × IVec S8192x512 1 × IVec S8192x1024 1 × IVec S1024 1 × IVec S1024 1 × IVec S1x512 1 × IVec S1x512 1 × IVec S1024x1024 1 × IVec S1x1024 1 × IVec S1x1024 1 × IVec S1024x5632 1 × IVec S2816x1024 1 × IVec S1x1024 1 × IVec S1x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_arg11 main_arg12 main_arg13 main_arg14 main_v2 main_v5 main_v8 main_v11 main_v14 main_v17
-- ==== Pre_finite_proj.lean ====
abbrev S8192x512 : Shape := ⟨2, ![8192, 512]⟩
abbrev S8192x128 : Shape := ⟨2, ![8192, 128]⟩
abbrev S1024x2304 : Shape := ⟨2, ![1024, 2304]⟩
abbrev S8192x1024 : Shape := ⟨2, ![8192, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S1024x2304 : S_.BroadcastsInDim S1024x2304 (![] : Fin 0 → Fin S1024x2304.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024x2304 .f32) (main_arg7 : FVec F S8192x1024 .f32) (main_arg8 : FVec F S8192x1024 .f32) (main_arg9 : FVec F S1024 .f32) (main_v2 : IVec S8192x512 1) (main_v5 : IVec S8192x512 1) (main_v8 : IVec S8192x512 1) (main_v11 : IVec S8192x512 1) (main_v14 : IVec S8192x128 1) (main_v17 : IVec S8192x128 1) : IVec S8192x512 1 × IVec S8192x512 1 × IVec S8192x512 1 × IVec S8192x512 1 × IVec S8192x128 1 × IVec S8192x128 1 × IVec S1024x2304 1 × IVec S8192x1024 1 × IVec S8192x1024 1 × IVec S1024 1 :=
  let main_v18 : FVec F S1024x2304 .f32 := Host.absf main_arg6
  let main_cst_5 : FVec F S_ .f32 := constant S_ .f32 0x7F800000#32
  let main_v19 : FVec F S1024x2304 .f32 := broadcastInDim S1024x2304 ![] bcast_S_S1024x2304 main_cst_5
  let main_v20 : IVec S1024x2304 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  (main_v2, main_v5, main_v8, main_v11, main_v14, main_v17, main_v20, main_v23, main_v26, main_v29)

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x128 .bf16) (main_arg5 : FVec F S8192x128 .bf16) (main_arg6 : FVec F S1024x2304 .f32) (main_arg7 : FVec F S8192x1024 .f32) (main_arg8 : FVec F S8192x1024 .f32) (main_arg9 : FVec F S1024 .f32) : IVec S8192x512 1 × IVec S8192x512 1 × IVec S8192x512 1 × IVec S8192x512 1 × IVec S8192x128 1 × IVec S8192x128 1 × IVec S1024x2304 1 × IVec S8192x1024 1 × IVec S8192x1024 1 × IVec S1024 1 :=
  let main_v0 : FVec F S8192x512 .bf16 := Host.absf main_arg0
  let main_cst : FVec F S_ .bf16 := constant S_ .bf16 0x7F80#16
  let main_v1 : FVec F S8192x512 .bf16 := broadcastInDim S8192x512 ![] bcast_S_S8192x512 main_cst
  let main_v2 : IVec S8192x512 1 := cmpf .olt main_v0 main_v1
  let main_v3 : FVec F S8192x512 .bf16 := Host.absf main_arg1
  let main_cst_0 : FVec F S_ .bf16 := constant S_ .bf16 0x7F80#16
  let main_v4 : FVec F S8192x512 .bf16 := broadcastInDim S8192x512 ![] bcast_S_S8192x512 main_cst_0
  let main_v5 : IVec S8192x512 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  let main_v9 : FVec F S8192x512 .bf16 := Host.absf main_arg3
  let main_cst_2 : FVec F S_ .bf16 := constant S_ .bf16 0x7F80#16
  let main_v10 : FVec F S8192x512 .bf16 := broadcastInDim S8192x512 ![] bcast_S_S8192x512 main_cst_2
  let main_v11 : IVec S8192x512 1 := cmpf .olt main_v9 main_v10
  let main_v12 : FVec F S8192x128 .bf16 := Host.absf main_arg4
  let main_cst_3 : FVec F S_ .bf16 := constant S_ .bf16 0x7F80#16
  let main_v13 : FVec F S8192x128 .bf16 := broadcastInDim S8192x128 ![] bcast_S_S8192x128 main_cst_3
  let main_v14 : IVec S8192x128 1 := cmpf .olt main_v12 main_v13
  let main_v15 : FVec F S8192x128 .bf16 := Host.absf main_arg5
  let main_cst_4 : FVec F S_ .bf16 := constant S_ .bf16 0x7F80#16
  let main_v16 : FVec F S8192x128 .bf16 := broadcastInDim S8192x128 ![] bcast_S_S8192x128 main_cst_4
  let main_v17 : IVec S8192x128 1 := cmpf .olt main_v15 main_v16
  fn_part1 (F := F) main_arg6 main_arg7 main_arg8 main_arg9 main_v2 main_v5 main_v8 main_v11 main_v14 main_v17
-- ==== Kernel.lean ====
abbrev S8192x512 : Shape := ⟨2, ![8192, 512]⟩
abbrev S8192x1024 : Shape := ⟨2, ![8192, 1024]⟩
abbrev S1024 : Shape := ⟨1, ![1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8192x2816 : Shape := ⟨2, ![8192, 2816]⟩
abbrev S8192x5632 : Shape := ⟨2, ![8192, 5632]⟩
abbrev S8x1024 : Shape := ⟨2, ![8, 1024]⟩
abbrev S256x512 : Shape := ⟨2, ![256, 512]⟩
abbrev S256x1024 : Shape := ⟨2, ![256, 1024]⟩
abbrev S256x2816 : Shape := ⟨2, ![256, 2816]⟩
abbrev S256x5632 : Shape := ⟨2, ![256, 5632]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S1 : Shape := ⟨1, ![1]⟩
abbrev S1x1 : Shape := ⟨2, ![1, 1]⟩
abbrev S512 : Shape := ⟨1, ![512]⟩

abbrev nBuf : Space → Nat
  | .hbm => 30
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x5632, .f32⟩
  | .hbm, ⟨11, _⟩ => ⟨S2816x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S1x1024, .f32⟩
  | .hbm, ⟨17, _⟩ => ⟨S1024x1024, .bf16⟩
  | .hbm, ⟨18, _⟩ => ⟨S5632x1024, .f32⟩
  | .hbm, ⟨19, _⟩ => ⟨S5632x1024, .bf16⟩
  | .hbm, ⟨20, _⟩ => ⟨S2816x1024, .bf16⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x2816, .bf16⟩
  | .hbm, ⟨25, _⟩ => ⟨S8192x5632, .bf16⟩
  | .hbm, ⟨26, _⟩ => ⟨S8192x1024, .bf16⟩
  | .hbm, ⟨27, _⟩ => ⟨S8192x512, .bf16⟩
  | .hbm, ⟨28, _⟩ => ⟨S8192x512, .bf16⟩
  | .hbm, ⟨29, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x2816, .bf16⟩
  | .local _ .vmem, ⟨23, _⟩ => ⟨S256x2816, .bf16⟩
  | .local _ .vmem, ⟨24, _⟩ => ⟨S256x5632, .bf16⟩
  | .local _ .vmem, ⟨25, _⟩ => ⟨S256x5632, .bf16⟩
  | .local _ .vmem, ⟨26, _⟩ => ⟨S256x1024, .bf16⟩
  | .local _ .vmem, ⟨27, _⟩ => ⟨S256x1024, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S8x1024, .f32⟩
  | .local _ .vmem, ⟨33, _⟩ => ⟨S1024x1024, .bf16⟩
  | .local _ .vmem, ⟨34, _⟩ => ⟨S5632x1024, .bf16⟩
  | .local _ .vmem, ⟨35, _⟩ => ⟨S2816x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev main_v6_6 : Ref sig .tc := ⟨.hbm, 27, rfl⟩
abbrev main_v6_7 : Ref sig .tc := ⟨.hbm, 28, rfl⟩
abbrev main_v6_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x512 : Shape := ⟨2, ![8192, 512]⟩
abbrev S8192x1024 : Shape := ⟨2, ![8192, 1024]⟩
abbrev S1024 : Shape := ⟨1, ![1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x5632 : Shape := ⟨2, ![8192, 5632]⟩
abbrev S8192x2816 : Shape := ⟨2, ![8192, 2816]⟩
abbrev S8x1024 : Shape := ⟨2, ![8, 1024]⟩

abbrev nBuf : Space → Nat
  | .hbm => 389
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S1024, .f32⟩
  | 4 => ⟨S1024, .f32⟩
  | 5 => ⟨S1x512, .f32⟩
  | 6 => ⟨S1x512, .f32⟩
  | 7 => ⟨S1024x1024, .f32⟩
  | 8 => ⟨S1x1024, .f32⟩
  | 9 => ⟨S1x1024, .f32⟩
  | 10 => ⟨S1024x5632, .f32⟩
  | 11 => ⟨S2816x1024, .f32⟩
  | 12 => ⟨S1x1024, .f32⟩
  | 13 => ⟨S1x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S512, .f32⟩
  | 45 => ⟨S512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x512, .f32⟩
  | 88 => ⟨S8192x512, .f32⟩
  | 89 => ⟨S1x512, .f32⟩
  | 90 => ⟨S8192x512, .f32⟩
  | 91 => ⟨S8192x512, .f32⟩
  | 92 => ⟨S8192x1024, .f32⟩
  | 93 => ⟨S_, .f32⟩
  | 94 => ⟨S8192x1024, .f32⟩
  | 95 => ⟨S8192x1024, .f32⟩
  | 96 => ⟨S8192x1024, .f32⟩
  | 97 => ⟨S8192x1024, .f32⟩
  | 98 => ⟨S1024, .f32⟩
  | 99 => ⟨S1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x1024, .f32⟩
  | 119 => ⟨S8192x1024, .f32⟩
  | 120 => ⟨S_, .f32⟩
  | 121 => ⟨S8192x1, .f32⟩
  | 122 => ⟨S8192x1, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S8192x512, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x5632, .f32⟩
  | 9 => ⟨S8192x2816, .f32⟩
  | 10 => ⟨S8192x2816, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S_, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S_, .f32⟩
  | 26 => ⟨S8192x1024, .f32⟩
  | 27 => ⟨S8192x1024, .f32⟩
  | 28 => ⟨S8192x1024, .f32⟩
  | 29 => ⟨S8192x1024, .f32⟩
  | 30 => ⟨S1024, .f32⟩
  | 31 => ⟨S1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S_, .f32⟩
  | 76 => ⟨S8192, .f32⟩
  | 77 => ⟨S8192, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S8192, .f32⟩
  | 86 => ⟨S_, .f32⟩
  | 87 => ⟨S8192, .f32⟩
  | 88 => ⟨S8192, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1, .f32⟩
  | _ => ⟨S8192x512, .f32⟩

abbrev hbmTy0_2 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x2816, .f32⟩
  | 8 => ⟨S_, .f32⟩
  | 9 => ⟨S8192x1024, .f32⟩
  | 10 => ⟨S8192x1024, .f32⟩
  | 11 => ⟨S8192x2816, .f32⟩
  | 12 => ⟨S8192x2816, .f32⟩
  | 13 => ⟨S8192x2816, .f32⟩
  | 14 => ⟨S8192x2816, .f32⟩
  | 15 => ⟨S8192x2816, .f32⟩
  | 16 => ⟨S8192x2816, .f32⟩
  | 17 => ⟨S8192x5632, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S8192x1024, .f32⟩
  | 34 => ⟨S_, .f32⟩
  | 35 => ⟨S8192, .f32⟩
  | 36 => ⟨S8192x1, .f32⟩
  | 37 => ⟨S8192x1024, .f32⟩
  | 38 => ⟨S8192x1024, .f32⟩
  | 39 => ⟨S8192x1, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S8192x1024, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192, .f32⟩
  | 62 => ⟨S8192x1024, .f32⟩
  | 63 => ⟨S8192x1024, .f32⟩
  | 64 => ⟨S8192x1024, .f32⟩
  | 65 => ⟨S8192x512, .f32⟩
  | 66 => ⟨S8192x512, .f32⟩
  | 67 => ⟨S8192x512, .f32⟩
  | 68 => ⟨S_, .f32⟩
  | 69 => ⟨S512, .f32⟩
  | 70 => ⟨S1x512, .f32⟩
  | 71 => ⟨S8192x512, .f32⟩
  | 72 => ⟨S8192x512, .f32⟩
  | 73 => ⟨S_, .f32⟩
  | 74 => ⟨S512, .f32⟩
  | 75 => ⟨S8192x512, .f32⟩
  | 76 => ⟨S_, .f32⟩
  | 77 => ⟨S8192, .f32⟩
  | 78 => ⟨S8192x1, .f32⟩
  | 79 => ⟨S8192x512, .f32⟩
  | 80 => ⟨S8192x512, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S512, .f32⟩
  | 93 => ⟨S1x512, .f32⟩
  | 94 => ⟨S8192x512, .f32⟩
  | 95 => ⟨S8192x512, .f32⟩
  | 96 => ⟨S_, .f32⟩
  | 97 => ⟨S512, .f32⟩
  | 98 => ⟨S8192x512, .f32⟩
  | 99 => ⟨S_, .f32⟩
  | 100 => ⟨S8192, .f32⟩
  | 101 => ⟨S8192x1, .f32⟩
  | 102 => ⟨S8192x512, .f32⟩
  | 103 => ⟨S8192x512, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x512, .f32⟩
  | 111 => ⟨S8192x512, .f32⟩
  | 112 => ⟨S8192x512, .f32⟩
  | 113 => ⟨S_, .f32⟩
  | 114 => ⟨S1024, .f32⟩
  | 115 => ⟨S1024, .f32⟩
  | 116 => ⟨S1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S8x1024, .f32⟩
  | 126 => ⟨S8192x1024, .bf16⟩
  | 127 => ⟨S8192x1024, .bf16⟩
  | _ => ⟨S8192x512, .f32⟩

abbrev hbmTy0_3 (i : Nat) : BufTy := match i % 128 with
  | 0 => ⟨S8192x2816, .bf16⟩
  | 1 => ⟨S8192x5632, .bf16⟩
  | 2 => ⟨S8192x1024, .bf16⟩
  | 3 => ⟨S8192x512, .bf16⟩
  | 4 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_v101_2 : Ref sig .tc := ⟨.hbm, 146, rfl⟩
abbrev main_call0_cst_1 : Ref sig .tc := ⟨.hbm, 147, rfl⟩
abbrev main_call0_v6 : Ref sig .tc := ⟨.hbm, 148, rfl⟩
abbrev main_call0_v7 : Ref sig .tc := ⟨.hbm, 149, rfl⟩
abbrev main_v101_1 : Ref sig .tc := ⟨.hbm, 150, rfl⟩
abbrev main_v101_0 : Ref sig .tc := ⟨.hbm, 151, rfl⟩
abbrev main_v102 : Ref sig .tc := ⟨.hbm, 152, rfl⟩
abbrev main_cst_22 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_23 : Ref sig .tc := ⟨.hbm, 160, rfl⟩
abbrev main_v109 : Ref sig .tc := ⟨.hbm, 161, rfl⟩
abbrev main_v110 : Ref sig .tc := ⟨.hbm, 162, rfl⟩
abbrev main_cst_24 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_25 : Ref sig .tc := ⟨.hbm, 169, rfl⟩
abbrev main_v116 : Ref sig .tc := ⟨.hbm, 170, rfl⟩
abbrev main_v117 : Ref sig .tc := ⟨.hbm, 171, rfl⟩
abbrev main_cst_26 : Ref sig .tc := ⟨.hbm, 172, rfl⟩
abbrev main_v118 : Ref sig .tc := ⟨.hbm, 173, rfl⟩
abbrev main_v119 : Ref sig .tc := ⟨.hbm, 174, rfl⟩
abbrev main_cst_27 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_28 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_29 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_30 : Ref sig .tc := ⟨.hbm, 198, rfl⟩
abbrev main_v140 : Ref sig .tc := ⟨.hbm, 199, rfl⟩
abbrev main_v141 : Ref sig .tc := ⟨.hbm, 200, rfl⟩
abbrev main_cst_31 : Ref sig .tc := ⟨.hbm, 201, rfl⟩
abbrev main_v142 : Ref sig .tc := ⟨.hbm, 202, rfl⟩
abbrev main_cst_32 : Ref sig .tc := ⟨.hbm, 203, rfl⟩
abbrev main_v143 : Ref sig .tc := ⟨.hbm, 204, rfl⟩
abbrev main_v144 : Ref sig .tc := ⟨.hbm, 205, rfl⟩
abbrev main_cst_33 : Ref sig .tc := ⟨.hbm, 206, rfl⟩
abbrev main_v145 : Ref sig .tc := ⟨.hbm, 207, rfl⟩
abbrev main_cst_34 : Ref sig .tc := ⟨.hbm, 208, rfl⟩
abbrev main_v146 : Ref sig .tc := ⟨.hbm, 209, rfl⟩
abbrev main_cst_35 : Ref sig .tc := ⟨.hbm, 210, rfl⟩
abbrev main_cst_36 : Ref sig .tc := ⟨.hbm, 211, rfl⟩
abbrev main_v147 : Ref sig .tc := ⟨.hbm, 212, rfl⟩
abbrev main_v148 : Ref sig .tc := ⟨.hbm, 213, rfl⟩
abbrev main_cst_37 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_cst_38 : Ref sig .tc := ⟨.hbm, 219, rfl⟩
abbrev main_v153 : Ref sig .tc := ⟨.hbm, 220, rfl⟩
abbrev main_v154 : Ref sig .tc := ⟨.hbm, 221, rfl⟩
abbrev main_cst_39 : Ref sig .tc := ⟨.hbm, 222, rfl⟩
abbrev main_v155 : Ref sig .tc := ⟨.hbm, 223, rfl⟩
abbrev main_v156 : Ref sig .tc := ⟨.hbm, 224, rfl⟩
abbrev main_cst_40 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_cst_41 : Ref sig .tc := ⟨.hbm, 230, rfl⟩
abbrev main_v161 : Ref sig .tc := ⟨.hbm, 231, rfl⟩
abbrev main_v162 : Ref sig .tc := ⟨.hbm, 232, rfl⟩
abbrev main_cst_42 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_43 : Ref sig .tc := ⟨.hbm, 240, rfl⟩
abbrev main_v169 : Ref sig .tc := ⟨.hbm, 241, rfl⟩
abbrev main_v170 : Ref sig .tc := ⟨.hbm, 242, rfl⟩
abbrev main_cst_44 : Ref sig .tc := ⟨.hbm, 243, rfl⟩
abbrev main_v171 : Ref sig .tc := ⟨.hbm, 244, rfl⟩
abbrev main_v172 : Ref sig .tc := ⟨.hbm, 245, rfl⟩
abbrev main_cst_45 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_cst_46 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_cst_47 : Ref sig .tc := ⟨.hbm, 256, rfl⟩
abbrev main_v181 : Ref sig .tc := ⟨.hbm, 257, rfl⟩
abbrev main_v182 : Ref sig .tc := ⟨.hbm, 258, rfl⟩
abbrev main_cst_48 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_cst_49 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_call1_v0 : Ref sig .tc := ⟨.hbm, 269, rfl⟩
abbrev main_call1_v1 : Ref sig .tc := ⟨.hbm, 270, rfl⟩
abbrev main_call1_v2 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_cst_50 : Ref sig .tc := ⟨.hbm, 276, rfl⟩
abbrev main_v195 : Ref sig .tc := ⟨.hbm, 277, rfl⟩
abbrev main_v196 : Ref sig .tc := ⟨.hbm, 278, rfl⟩
abbrev main_cst_51 : Ref sig .tc := ⟨.hbm, 279, rfl⟩
abbrev main_v197 : Ref sig .tc := ⟨.hbm, 280, rfl⟩
abbrev main_v198 : Ref sig .tc := ⟨.hbm, 281, rfl⟩
abbrev main_cst_52 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_53 : Ref sig .tc := ⟨.hbm, 287, rfl⟩
abbrev main_v203 : Ref sig .tc := ⟨.hbm, 288, rfl⟩
abbrev main_v204 : Ref sig .tc := ⟨.hbm, 289, rfl⟩
abbrev main_cst_54 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_cst_55 : Ref sig .tc := ⟨.hbm, 297, rfl⟩
abbrev main_v211 : Ref sig .tc := ⟨.hbm, 298, rfl⟩
abbrev main_v212 : Ref sig .tc := ⟨.hbm, 299, rfl⟩
abbrev main_cst_56 : Ref sig .tc := ⟨.hbm, 300, rfl⟩
abbrev main_v213 : Ref sig .tc := ⟨.hbm, 301, rfl⟩
abbrev main_v214 : Ref sig .tc := ⟨.hbm, 302, rfl⟩
abbrev main_cst_57 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_cst_58 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_cst_59 : Ref sig .tc := ⟨.hbm, 313, rfl⟩
abbrev main_v223 : Ref sig .tc := ⟨.hbm, 314, rfl⟩
abbrev main_v224 : Ref sig .tc := ⟨.hbm, 315, rfl⟩
abbrev main_cst_60 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_cst_61 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_cst_62 : Ref sig .tc := ⟨.hbm, 329, rfl⟩
abbrev main_v236 : Ref sig .tc := ⟨.hbm, 330, rfl⟩
abbrev main_v237 : Ref sig .tc := ⟨.hbm, 331, rfl⟩
abbrev main_cst_63 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_cst_64 : Ref sig .tc := ⟨.hbm, 338, rfl⟩
abbrev main_v243 : Ref sig .tc := ⟨.hbm, 339, rfl⟩
abbrev main_v244 : Ref sig .tc := ⟨.hbm, 340, rfl⟩
abbrev main_cst_65 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_cst_66 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_cst_67 : Ref sig .tc := ⟨.hbm, 352, rfl⟩
abbrev main_v254 : Ref sig .tc := ⟨.hbm, 353, rfl⟩
abbrev main_v255 : Ref sig .tc := ⟨.hbm, 354, rfl⟩
abbrev main_cst_68 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_cst_69 : Ref sig .tc := ⟨.hbm, 361, rfl⟩
abbrev main_v261 : Ref sig .tc := ⟨.hbm, 362, rfl⟩
abbrev main_v262 : Ref sig .tc := ⟨.hbm, 363, rfl⟩
abbrev main_cst_70 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_cst_71 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_v285 : Ref sig .tc := ⟨.hbm, 388, rfl⟩

abbrev nD : Nat := 1
abbrev τ : Topo := Topo.v7x

variable {F : FTy → Type} [FloatOps F]
-- ==== WgradGateUp.lean ====
abbrev S8192x5632 : Shape := ⟨2, ![8192, 5632]⟩
abbrev S8192x1024 : Shape := ⟨2, ![8192, 1024]⟩
abbrev S5632x1024 : Shape := ⟨2, ![5632, 1024]⟩
abbrev S2048x2816 : Shape := ⟨2, ![2048, 2816]⟩
abbrev S2048x1024 : Shape := ⟨2, ![2048, 1024]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x1024, .bf16⟩
  | .local _ .vmem, ⟨3, _⟩ => ⟨S2048x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWgradGateUpIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWgradDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradOut.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWgradOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradIn.lean ====
abbrev S8192x512 : Shape := ⟨2, ![8192, 512]⟩
abbrev S8192x128 : Shape := ⟨2, ![8192, 128]⟩
abbrev S8192x1024 : Shape := ⟨2, ![8192, 1024]⟩
abbrev S2304x1024 : Shape := ⟨2, ![2304, 1024]⟩
abbrev S1024x512 : Shape := ⟨2, ![1024, 512]⟩
abbrev S1024x128 : Shape := ⟨2, ![1024, 128]⟩
abbrev S1024x1024 : Shape := ⟨2, ![1024, 1024]⟩
abbrev S1024x2304 : Shape := ⟨2, ![1024, 2304]⟩

abbrev nBuf : Space → Nat
  | .hbm => 8
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x128, .bf16⟩
  | .hbm, ⟨5, _⟩ => ⟨S8192x128, .bf16⟩
  | .hbm, ⟨6, _⟩ => ⟨S8192x1024, .bf16⟩
  | .hbm, ⟨7, _⟩ => ⟨S2304x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .bf16⟩
  | .local _ .vmem, ⟨13, _⟩ => ⟨S1024x1024, .bf16⟩
  | .local _ .vmem, ⟨14, _⟩ => ⟨S2304x1024, .bf16⟩
  | .local _ .vmem, ⟨15, _⟩ => ⟨S2304x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_18 : BitVec 32 := 0#32
  let v19 : BitVec 1 := Scalar.cmpi .ne v18 c0_i32_18
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S2304x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== RefWgradInIdeal.lean ====
abbrev S8192x512 : Shape := ⟨2, ![8192, 512]⟩
abbrev S8192x128 : Shape := ⟨2, ![8192, 128]⟩
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x128, .bf16⟩
  | .hbm, ⟨5, _⟩ => ⟨S8192x128, .bf16⟩
  | .hbm, ⟨6, _⟩ => ⟨S8192x1024, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x128, .f32⟩
  | .hbm, ⟨12, _⟩ => ⟨S8192x128, .f32⟩
  | .hbm, ⟨13, _⟩ => ⟨S8192x2304, .f32⟩
  | .hbm, ⟨14, _⟩ => ⟨S8192x1024, .f32⟩
  | .hbm, ⟨15, _⟩ => ⟨S_, .f32⟩
  | .hbm, ⟨16, _⟩ => ⟨S1024x2304, .f32⟩
  | .hbm, ⟨17, _⟩ => ⟨S8192x2304, .f32⟩
  | .hbm, ⟨18, _⟩ => ⟨S2304x1024, .f32⟩
  | .hbm, ⟨19, _⟩ => ⟨S1024x2304, .f32⟩
  | .hbm, ⟨20, _⟩ => ⟨S2304x1024, .f32⟩
  | .hbm, ⟨21, _⟩ => ⟨S2304x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== LnProj.lean ====
abbrev S8192x1024 : Shape := ⟨2, ![8192, 1024]⟩
abbrev S1024 : Shape := ⟨1, ![1024]⟩
abbrev S1024x2304 : Shape := ⟨2, ![1024, 2304]⟩
abbrev S1x1024 : Shape := ⟨2, ![1, 1024]⟩
abbrev S2304x1024 : Shape := ⟨2, ![2304, 1024]⟩
abbrev S8192x2304 : Shape := ⟨2, ![8192, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2304, .f32⟩
  | .hbm, ⟨4, _⟩ => ⟨S1x1024, .f32⟩
  | .hbm, ⟨5, _⟩ => ⟨S1x1024, .f32⟩
  | .hbm, ⟨6, _⟩ => ⟨S2304x1024, .f32⟩
  | .hbm, ⟨7, _⟩ => ⟨S2304x1024, .bf16⟩
  | .hbm, ⟨8, _⟩ => ⟨S8192x1024, .bf16⟩
  | .hbm, ⟨9, _⟩ => ⟨S8192x2304, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2304x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2304, .bf16⟩
  | .local _ .vmem, ⟨8, _⟩ => ⟨S512x2304, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefLnProjIdeal.lean ====
abbrev S8192x1024 : Shape := ⟨2, ![8192, 1024]⟩
abbrev S1024 : Shape := ⟨1, ![1024]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2304, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x2304, .f32⟩
  | .hbm, ⟨35, _⟩ => ⟨S8192x2304, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== AdamwIn.lean ====
abbrev S8x288x1024 : Shape := ⟨3, ![8, 288, 1024]⟩
abbrev S1024x288 : Shape := ⟨2, ![1024, 288]⟩
abbrev S288x1024 : Shape := ⟨2, ![288, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x288x1024, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S288x1024, .f32⟩
  | .hbm, ⟨8, _⟩ => ⟨S288x1024, .f32⟩
  | .hbm, ⟨9, _⟩ => ⟨S288x1024, .f32⟩
  | .hbm, ⟨10, _⟩ => ⟨S288x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamwInIdeal.lean ====
abbrev S8x288x1024 : Shape := ⟨3, ![8, 288, 1024]⟩
abbrev S1024x288 : Shape := ⟨2, ![1024, 288]⟩
abbrev S_ : Shape := ⟨0, ![]⟩
abbrev S288x1024 : Shape := ⟨2, ![288, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x288x1024, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S8x288x1024, .f32⟩
  | .hbm, ⟨5, _⟩ => ⟨S_, .f32⟩
  | .hbm, ⟨6, _⟩ => ⟨S288x1024, .f32⟩
  | .hbm, ⟨7, _⟩ => ⟨S1024x288, .f32⟩
  | .hbm, ⟨8, _⟩ => ⟨S_, .f32⟩
  | .hbm, ⟨9, _⟩ => ⟨S1024x288, .f32⟩
  | .hbm, ⟨10, _⟩ => ⟨S1024x288, .f32⟩
  | .hbm, ⟨11, _⟩ => ⟨S_, .f32⟩
  | .hbm, ⟨12, _⟩ => ⟨S1024x288, .f32⟩
  | .hbm, ⟨13, _⟩ => ⟨S1024x288, .f32⟩
  | .hbm, ⟨14, _⟩ => ⟨S1024x288, .f32⟩
  | .hbm, ⟨15, _⟩ => ⟨S_, .f32⟩
  | .hbm, ⟨16, _⟩ => ⟨S1024x288, .f32⟩
  | .hbm, ⟨17, _⟩ => ⟨S1024x288, .f32⟩
  | .hbm, ⟨18, _⟩ => ⟨S1024x288, .f32⟩
  | .hbm, ⟨19, _⟩ => ⟨S_, .f32⟩
  | .hbm, ⟨20, _⟩ => ⟨S1024x288, .f32⟩
  | .hbm, ⟨21, _⟩ => ⟨S1024x288, .f32⟩
  | .hbm, ⟨22, _⟩ => ⟨S1024x288, .f32⟩
  | .hbm, ⟨23, _⟩ => ⟨S_, .f32⟩
  | .hbm, ⟨24, _⟩ => ⟨S1024x288, .f32⟩
  | .hbm, ⟨25, _⟩ => ⟨S1024x288, .f32⟩
  | .hbm, ⟨26, _⟩ => ⟨S_, .f32⟩
  | .hbm, ⟨27, _⟩ => ⟨S1024x288, .f32⟩
  | .hbm, ⟨28, _⟩ => ⟨S1024x288, .f32⟩
  | .hbm, ⟨29, _⟩ => ⟨S1024x288, .f32⟩
  | .hbm, ⟨30, _⟩ => ⟨S_, .f32⟩
  | .hbm, ⟨31, _⟩ => ⟨S1024x288, .f32⟩
  | .hbm, ⟨32, _⟩ => ⟨S1024x288, .f32⟩
  | .hbm, ⟨33, _⟩ => ⟨S1024x288, .f32⟩
  | .hbm, ⟨34, _⟩ => ⟨S_, .f32⟩
  | .hbm, ⟨35, _⟩ => ⟨S1024x288, .f32⟩
  | .hbm, ⟨36, _⟩ => ⟨S1024x288, .f32⟩
  | .hbm, ⟨37, _⟩ => ⟨S1024x288, .f32⟩
  | .hbm, ⟨38, _⟩ => ⟨S_, .f32⟩
  | .hbm, ⟨39, _⟩ => ⟨S1024x288, .f32⟩
  | .hbm, ⟨40, _⟩ => ⟨S1024x288, .f32⟩
  | .hbm, ⟨41, _⟩ => ⟨S288x1024, .f32⟩
  | .hbm, ⟨42, _⟩ => ⟨S288x1024, .f32⟩
  | .hbm, ⟨43, _⟩ => ⟨S288x1024, .f32⟩
  | .hbm, ⟨44, _⟩ => ⟨S288x1024, .f32⟩
  | _, _ => ⟨S8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamwOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamwOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwGateUp.lean ====
abbrev S8x704x1024 : Shape := ⟨3, ![8, 704, 1024]⟩
abbrev S1024x704 : Shape := ⟨2, ![1024, 704]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamwGateUpIdeal.lean ====
abbrev S8x704x1024 : Shape := ⟨3, ![8, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamwDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamwDownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamwSmallIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ProjBwd.lean ====
abbrev S8192x512 : Shape := ⟨2, ![8192, 512]⟩
abbrev S8192x128 : Shape := ⟨2, ![8192, 128]⟩
abbrev S1024x2304 : Shape := ⟨2, ![1024, 2304]⟩
abbrev S8192x1024 : Shape := ⟨2, ![8192, 1024]⟩
abbrev S1024 : Shape := ⟨1, ![1024]⟩
abbrev S2304x1024 : Shape := ⟨2, ![2304, 1024]⟩
abbrev S1x1024 : Shape := ⟨2, ![1, 1024]⟩
abbrev S8x1024 : Shape := ⟨2, ![8, 1024]⟩
abbrev S512x512 : Shape := ⟨2, ![512, 512]⟩
abbrev S512x128 : Shape := ⟨2, ![512, 128]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x128, .bf16⟩
  | .hbm, ⟨5, _⟩ => ⟨S8192x128, .bf16⟩
  | .hbm, ⟨6, _⟩ => ⟨S1024x2304, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S2304x1024, .f32⟩
  | .hbm, ⟨11, _⟩ => ⟨S2304x1024, .bf16⟩
  | .hbm, ⟨12, _⟩ => ⟨S1x1024, .f32⟩
  | .hbm, ⟨13, _⟩ => ⟨S8192x1024, .f32⟩
  | .hbm, ⟨14, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S2304x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefProjBwdIdeal.lean ====
abbrev S8192x512 : Shape := ⟨2, ![8192, 512]⟩
abbrev S8192x128 : Shape := ⟨2, ![8192, 128]⟩
abbrev S1024x2304 : Shape := ⟨2, ![1024, 2304]⟩
abbrev S8192x1024 : Shape := ⟨2, ![8192, 1024]⟩
abbrev S1024 : Shape := ⟨1, ![1024]⟩
abbrev S8192x2304 : Shape := ⟨2, ![8192, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x128, .bf16⟩
  | .hbm, ⟨5, _⟩ => ⟨S8192x128, .bf16⟩
  | .hbm, ⟨6, _⟩ => ⟨S1024x2304, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x128, .f32⟩
  | .hbm, ⟨15, _⟩ => ⟨S8192x128, .f32⟩
  | .hbm, ⟨16, _⟩ => ⟨S8192x2304, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x2304, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S1x1024, .f32⟩
  | .hbm, ⟨112, _⟩ => ⟨S1x1024, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x1024, .f32⟩
  | .hbm, ⟨117, _⟩ => ⟨S1x1024, .f32⟩
  | .hbm, ⟨118, _⟩ => ⟨S8x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== Proof.Mix.Setup.lean ====
/-
  The set-up of the hand-written run of the mix_ffn kernel: the condition of its one branch, the staging, scratch and
  weight memrefs as the pipeline passes them, the kernel's own DMA cells, and the invariant's conjuncts listed.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's one branch is taken at coordinate `i`: it copies the weights in and clears the statistics. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2816 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x5632 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x1024 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S1024x1024 .bf16 := Memref.whole cc0_scratch0
abbrev scM0_1 : Memref sig .tc .vmem S5632x1024 .bf16 := Memref.whole cc0_scratch1
abbrev scM0_2 : Memref sig .tc .vmem S2816x1024 .bf16 := Memref.whole cc0_scratch2
/-- The operands left in HBM that the body copies into scratch itself, whole. -/
abbrev hbM0_0 : Memref sig .tc .hbm S1024x1024 .bf16 := Memref.whole main_v2
abbrev hbM0_1 : Memref sig .tc .hbm S5632x1024 .bf16 := Memref.whole main_v4
abbrev hbM0_2 : Memref sig .tc .hbm S2816x1024 .bf16 := Memref.whole main_v5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 33, SemLoc.dma 34, SemLoc.dma 35] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 33) 0 ∗ semVal ((c : Thread nD τ), SemLoc.dma 34) 0 ∗ semVal ((c : Thread nD τ), SemLoc.dma 35) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v2, main_v4, main_v5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2) ∗ hbPt0 c hbM0_1 (V m c main_v4) ∗ hbPt0 c hbM0_2 (V m c main_v5)) := by
  rw [BI.bigSep_eq_bigSepL_of_eq [main_v2, main_v4, main_v5] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 33) 0 ∗ semVal ((c : Thread nD τ), SemLoc.dma 34) 0 ∗ semVal ((c : Thread nD τ), SemLoc.dma 35) 0) ∗ iprop(hbPt0 c hbM0_0 (V m c main_v2) ∗ hbPt0 c hbM0_1 (V m c main_v4) ∗ hbPt0 c hbM0_2 (V m c main_v5))) := by
  rw [Pipeline.ΦD_eq, scopedRest0_eq, ownSems00_eq, hbmPts0_eq]; simp only [scM0_0, scM0_1, scM0_2, owns_whole]; try rfl

end Cert.KernelIdeal.Mix

end
-- ==== Proof.Mix.Values.lean ====
/-
  What one grid point of the mix_ffn kernel computes, as functions of what it loads: the named values the body passes
  from stage to stage, and the contents it leaves in each output block. Over any element instance.
-/
module

public import proofs.«01_k».proof.Proof.Mix.Setup
public import Idealize.ShloMosaic.Lib.Pipeline.ValueKit.Basic
public import Idealize.ShloMosaic.Lib.WholeRead
public import Idealize.ShloMosaic.Lib.VecWindow
public import Idealize.ShloMosaic.Lib.Pipeline.ReadBack

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a point loads: its blocks of the activations and the loss target, the norms' gains and biases, and the
    three weights (`w_out` in its two halves and whole, `w_gate_up` in its two halves, `w_down`). -/
structure Ld (F : FTy → Type) [FloatOps F] where
  sb : Vec F S256x512 .f32
  sw : Vec F S256x512 .f32
  x : Vec F S256x1024 .f32
  gIn : Vec F S1x1024 .f32
  bIn : Vec F S1x1024 .f32
  gSb : Vec F S1x512 .f32
  gSw : Vec F S1x512 .f32
  g1 : Vec F S1x1024 .f32
  b1 : Vec F S1x1024 .f32
  g2 : Vec F S1x1024 .f32
  b2 : Vec F S1x1024 .f32
  tgt : Vec F S256x1024 .f32
  woLo : Vec F S512x1024 .bf16
  woHi : Vec F S512x1024 .bf16
  wo : Vec F S1024x1024 .bf16
  wGate : Vec F S2816x1024 .bf16
  wUp : Vec F S2816x1024 .bf16
  wDown : Vec F S2816x1024 .bf16

/-- The loads of a point, from the blocks staged for it and the weights in scratch. -/
def ldOf (x0 x1 : Vec F S256x512 .f32) (x2 : Vec F S256x1024 .f32) (x3 x4 : Vec F S1x1024 .f32) (x5 x6 : Vec F S1x512 .f32)
    (x7 x8 x9 x10 : Vec F S1x1024 .f32) (x11 : Vec F S256x1024 .f32)
    (w0 : Vec F S1024x1024 .bf16) (w1 : Vec F S5632x1024 .bf16) (w2 : Vec F S2816x1024 .bf16) : Ld F where
  sb := x0
  sw := x1
  x := x2
  gIn := x3
  bIn := x4
  gSb := x5
  gSw := x6
  g1 := x7
  b1 := x8
  g2 := x9
  b2 := x10
  tgt := x11
  woLo := fun y => w0 ((Rect.unit (s := S1024x1024) ![0, 0] S512x1024.size inb_S1024x1024_S512x1024_0_0).toLoadRect.idx y)
  woHi := fun y => w0 ((Rect.unit (s := S1024x1024) ![512, 0] S512x1024.size inb_S1024x1024_S512x1024_512_0).toLoadRect.idx y)
  wo := w0
  wGate := fun y => w1 ((Rect.unit (s := S5632x1024) ![0, 0] S2816x1024.size inb_S5632x1024_S2816x1024_0_0).toLoadRect.idx y)
  wUp := fun y => w1 ((Rect.unit (s := S5632x1024) ![2816, 0] S2816x1024.size inb_S5632x1024_S2816x1024_2816_0).toLoadRect.idx y)
  wDown := w2

namespace Ld

variable (L : Ld F)

/-- The stick-breaking heads normalised and scaled. -/
def mgLo : Vec F S256x512 .bf16 := k0_pay3 L.sb L.gSb
/-- The sliding-window heads normalised and scaled. -/
def mgHi : Vec F S256x512 .bf16 := k0_pay4 L.sw L.gSw
/-- The first residual sum less its row mean. -/
def c1 : Vec F S256x1024 .f32 := k0_pay5 L.mgLo L.mgHi L.x L.gIn L.bIn L.woLo L.woHi
/-- Its square. -/
def q1 : Vec F S256x1024 .f32 := k0_pay6 L.mgLo L.mgHi L.x L.gIn L.bIn L.woLo L.woHi
/-- The first norm's reciprocal deviation. -/
def i1 : Vec F S256x1 .f32 := k0_pay7 L.q1
/-- The first norm's normalised rows. -/
def n1 : Vec F S256x1024 .f32 := k0_pay8 L.c1 L.q1
/-- The first norm's output. -/
def h1 : Vec F S256x1024 .bf16 := k0_pay10 L.c1 L.q1 L.g1 L.b1
/-- The gate product. -/
def gate : Vec F S256x2816 .f32 := k0_pay11 L.c1 L.q1 L.g1 L.b1 L.wGate
/-- The up product. -/
def up : Vec F S256x2816 .f32 := k0_pay12 L.c1 L.q1 L.g1 L.b1 L.wUp
/-- The gate's sigmoid. -/
def sg : Vec F S256x2816 .f32 := k0_pay13 L.c1 L.q1 L.g1 L.b1 L.wGate
/-- The gate times its sigmoid. -/
def silu : Vec F S256x2816 .f32 := k0_pay14 L.c1 L.q1 L.g1 L.b1 L.wGate
/-- The gated activation. -/
def act : Vec F S256x2816 .bf16 := k0_pay15 L.c1 L.q1 L.g1 L.b1 L.wGate L.wUp
/-- The second residual sum. -/
def u2 : Vec F S256x1024 .f32 := k0_pay16 L.c1 L.q1 L.g1 L.b1 L.wGate L.wUp L.wDown
/-- Its row mean, along the row. -/
def m2 : Vec F S256x1024 .f32 := k0_pay17 L.c1 L.q1 L.g1 L.b1 L.wGate L.wUp L.wDown
/-- The second norm's reciprocal deviation. -/
def i2 : Vec F S256x1 .f32 := k0_pay19 L.u2 L.m2
/-- The second norm's normalised rows. -/
def n2 : Vec F S256x1024 .f32 := k0_pay20 L.u2 L.m2
/-- The prediction less the target. -/
def err : Vec F S256x1024 .f32 := k0_pay21 L.u2 L.m2 L.g2 L.b2 L.tgt
/-- The loss's gradient at the prediction. -/
def dh2 : Vec F S256x1024 .f32 := k0_pay22 L.u2 L.m2 L.g2 L.b2 L.tgt
/-- The gradient at the second residual sum, rounded. -/
def du2b : Vec F S256x1024 .bf16 := k0_pay28 L.i2 L.n2 L.dh2 L.g2
/-- The gradient at the second residual sum. -/
def du2 : Vec F S256x1024 .f32 := k0_pay27 L.i2 L.n2 L.dh2 L.g2
/-- The gradient at the gated activation. -/
def dact : Vec F S256x2816 .f32 := k0_pay29 L.i2 L.n2 L.dh2 L.g2 L.wDown
/-- That gradient times the up product. -/
def dsilu : Vec F S256x2816 .f32 := k0_pay30 L.up L.i2 L.n2 L.dh2 L.g2 L.wDown
/-- The factor of the gate's derivative. -/
def dsg : Vec F S256x2816 .f32 := k0_pay31 L.gate L.sg
/-- The gradient at the gate product. -/
def dgLo : Vec F S256x2816 .bf16 := k0_pay32 L.sg L.dsilu L.dsg
/-- The gradient at the up product. -/
def dgHi : Vec F S256x2816 .bf16 := k0_pay33 L.silu L.dact
/-- The gradient at the first norm's normalised rows. -/
def dn1 : Vec F S256x1024 .f32 := k0_pay37 L.sg L.silu L.du2 L.dact L.dsilu L.dsg L.wGate L.wUp L.g1
/-- Its row sums. -/
def sn1 : Vec F S256 .f32 := k0_pay38 L.sg L.silu L.du2 L.dact L.dsilu L.dsg L.wGate L.wUp L.g1
/-- The gradient at the first residual sum. -/
def du1 : Vec F S256x1024 .f32 := k0_pay39 L.i1 L.n1 L.dn1 L.sn1
/-- The gradient at the merged heads. -/
def dmg : Vec F S256x1024 .f32 := k0_pay40 L.i1 L.n1 L.dn1 L.sn1 L.wo
/-- The gradient at the stick-breaking heads. -/
def dsbF : Vec F S256x512 .f32 := k0_pay44 L.sb L.i1 L.n1 L.dn1 L.sn1 L.wo L.gSb
/-- The terms of its gain's gradient. -/
def dsbG : Vec F S256x512 .f32 := k0_pay45 L.sb L.i1 L.n1 L.dn1 L.sn1 L.wo
/-- The gradient at the stick-breaking heads, rounded. -/
def dsb : Vec F S256x512 .bf16 := k0_pay50 L.dsbF
/-- The gradient at the sliding-window heads, rounded. -/
def dsw : Vec F S256x512 .bf16 := k0_pay51 L.sw L.dmg L.gSw
/-- The column sums of the sliding-window gain's gradient. -/
def dswG : Vec F S1x512 .f32 := k0_pay49 L.sw L.dmg

/-- The block of the merged heads: the two halves side by side. -/
def merged : Vec F S256x1024 .bf16 := View.canon
  [⟨Rect.unit (s := S256x1024) ![0, 512] S256x512.size inb_S256x1024_S256x512_0_512, L.mgHi⟩,
   ⟨Rect.unit (s := S256x1024) ![0, 0] S256x512.size inb_S256x1024_S256x512_0_0, L.mgLo⟩]
/-- The block of the gradient at the gate and up products: the two halves side by side. -/
def dgu : Vec F S256x5632 .bf16 := View.canon
  [⟨Rect.unit (s := S256x5632) ![0, 2816] S256x2816.size inb_S256x5632_S256x2816_0_2816, L.dgHi⟩,
   ⟨Rect.unit (s := S256x5632) ![0, 0] S256x2816.size inb_S256x5632_S256x2816_0_0, L.dgLo⟩]

/-- A row of the statistics block. -/
abbrev row0 (st : Vec F S8x1024 .f32) : Vec F S1x1024 .f32 := fun y => st ((Rect.unit (s := S8x1024) ![0, 0] S1x1024.size inb_S8x1024_S1x1024_0_0).toLoadRect.idx y)
@[inherit_doc row0] abbrev row1 (st : Vec F S8x1024 .f32) : Vec F S1x1024 .f32 := fun y => st ((Rect.unit (s := S8x1024) ![1, 0] S1x1024.size inb_S8x1024_S1x1024_1_0).toLoadRect.idx y)
@[inherit_doc row0] abbrev row2 (st : Vec F S8x1024 .f32) : Vec F S1x1024 .f32 := fun y => st ((Rect.unit (s := S8x1024) ![2, 0] S1x1024.size inb_S8x1024_S1x1024_2_0).toLoadRect.idx y)
@[inherit_doc row0] abbrev row3 (st : Vec F S8x1024 .f32) : Vec F S1x1024 .f32 := fun y => st ((Rect.unit (s := S8x1024) ![3, 0] S1x1024.size inb_S8x1024_S1x1024_3_0).toLoadRect.idx y)
@[inherit_doc row0] abbrev row4 (st : Vec F S8x1024 .f32) : Vec F S1x1024 .f32 := fun y => st ((Rect.unit (s := S8x1024) ![4, 0] S1x1024.size inb_S8x1024_S1x1024_4_0).toLoadRect.idx y)
/-- The left and the right half of row 5. -/
abbrev row5l (st : Vec F S8x1024 .f32) : Vec F S1x512 .f32 := fun y => st ((Rect.unit (s := S8x1024) ![5, 0] S1x512.size inb_S8x1024_S1x512_5_0).toLoadRect.idx y)
@[inherit_doc row5l] abbrev row5r (st : Vec F S8x1024 .f32) : Vec F S1x512 .f32 := fun y => st ((Rect.unit (s := S8x1024) ![5, 512] S1x512.size inb_S8x1024_S1x512_5_512).toLoadRect.idx y)

/-- The statistics block after the point, from what it was before and the rows read of it: row by row, the point's column sums added. -/
def statsOf (st : Vec F S8x1024 .f32) (r0 r1 r2 r3 r4 : Vec F S1x1024 .f32) (r5l r5r : Vec F S1x512 .f32) : Vec F S8x1024 .f32 := View.canon
  [⟨Rect.unit (s := S8x1024) ![5, 512] S1x512.size inb_S8x1024_S1x512_5_512, k0_pay1 L.dswG r5r⟩,
   ⟨Rect.unit (s := S8x1024) ![5, 0] S1x512.size inb_S8x1024_S1x512_5_0, k0_pay52 L.dsbG r5l⟩,
   ⟨Rect.unit (s := S8x1024) ![4, 0] S1x1024.size inb_S8x1024_S1x1024_4_0, k0_pay36 L.sg L.silu L.du2 L.dact L.dsilu L.dsg L.wGate L.wUp r4⟩,
   ⟨Rect.unit (s := S8x1024) ![3, 0] S1x1024.size inb_S8x1024_S1x1024_3_0, k0_pay35 L.n1 L.sg L.silu L.du2 L.dact L.dsilu L.dsg L.wGate L.wUp r3⟩,
   ⟨Rect.unit (s := S8x1024) ![2, 0] S1x1024.size inb_S8x1024_S1x1024_2_0, k0_pay26 L.err (k0_pay25 r2)⟩,
   ⟨Rect.unit (s := S8x1024) ![1, 0] S1x1024.size inb_S8x1024_S1x1024_1_0, k0_pay24 L.u2 L.m2 L.g2 L.b2 L.tgt r1⟩,
   ⟨Rect.unit (s := S8x1024) ![0, 0] S1x1024.size inb_S8x1024_S1x1024_0_0, k0_pay23 L.u2 L.m2 L.g2 L.b2 L.tgt r0⟩,
   ⟨Rect.whole S8x1024, st⟩]
/-- The same, the rows read off the block. -/
def stats (st : Vec F S8x1024 .f32) : Vec F S8x1024 .f32 :=
  L.statsOf st (row0 st) (row1 st) (row2 st) (row3 st) (row4 st) (row5l st) (row5r st)

end Ld

/-- The two halves cover the block. -/
theorem cover_merged {p q : Vec F S256x512 .bf16} (y : S256x1024.Idx) :
    ∃ P ∈ ([⟨Rect.unit (s := S256x1024) ![0, 512] S256x512.size inb_S256x1024_S256x512_0_512, p⟩,
      ⟨Rect.unit (s := S256x1024) ![0, 0] S256x512.size inb_S256x1024_S256x512_0_0, q⟩] : List (View.Piece (Elt F) S256x1024 .bf16)), y ∈ P.1.set := by
  have h0 := (y 0).isLt
  have h1 := (y 1).isLt
  by_cases h : (y 1).val < 512
  · refine ⟨_, List.mem_cons_of_mem _ List.mem_cons_self, ?_⟩
    rw [Rect.mem_set_unit]
    intro a
    match a with
    | 0 => exact ⟨Nat.zero_le _, h0⟩
    | 1 => exact ⟨Nat.zero_le _, h⟩
  · refine ⟨_, List.mem_cons_self, ?_⟩
    rw [Rect.mem_set_unit]
    intro a
    match a with
    | 0 => exact ⟨Nat.zero_le _, h0⟩
    | 1 => exact ⟨Nat.le_of_not_lt h, h1⟩

/-- The two halves cover the block. -/
theorem cover_dgu {p q : Vec F S256x2816 .bf16} (y : S256x5632.Idx) :
    ∃ P ∈ ([⟨Rect.unit (s := S256x5632) ![0, 2816] S256x2816.size inb_S256x5632_S256x2816_0_2816, p⟩,
      ⟨Rect.unit (s := S256x5632) ![0, 0] S256x2816.size inb_S256x5632_S256x2816_0_0, q⟩] : List (View.Piece (Elt F) S256x5632 .bf16)), y ∈ P.1.set := by
  have h0 := (y 0).isLt
  have h1 := (y 1).isLt
  by_cases h : (y 1).val < 2816
  · refine ⟨_, List.mem_cons_of_mem _ List.mem_cons_self, ?_⟩
    rw [Rect.mem_set_unit]
    intro a
    match a with
    | 0 => exact ⟨Nat.zero_le _, h0⟩
    | 1 => exact ⟨Nat.zero_le _, h⟩
  · refine ⟨_, List.mem_cons_self, ?_⟩
    rw [Rect.mem_set_unit]
    intro a
    match a with
    | 0 => exact ⟨Nat.zero_le _, h0⟩
    | 1 => exact ⟨Nat.le_of_not_lt h, h1⟩

/-- A load through a whole memref of contents given by what it reads: those contents at the rectangle's indices. -/
theorem readAt_unread' {κ : Kind} {sp : Space} {S : Shape} {e : EltTy} {M : Memref sig κ sp S e} (h : M.IsWhole) (X : S.Idx → Elt F e) (B : LoadRect S) :
    View.readAt (Elt F) M.view B (h.unread X) = fun y => X (B.idx y) :=
  funext fun y => h.readAt_unread X B y

/-- A load of the whole of a whole memref. -/
theorem readAt_unread_full {κ : Kind} {sp : Space} {S : Shape} {e : EltTy} {M : Memref sig κ sp S e} (h : M.IsWhole) (X : S.Idx → Elt F e)
    {off : Fin S.rank → ℕ} (inb : ∀ a, off a + S.size a ≤ S.size a) :
    View.readAt (Elt F) M.view (Rect.unit off S.size inb).toLoadRect (h.unread X) = X := by
  rw [readAt_unread']
  funext y
  exact congrArg X (Rect.emb_unit_full inb y)

/-- A whole memref owned at `x` is its buffer held at the contents that read `x`. -/
theorem owns_eq {c : Dev nD} {sp : Space} {S : Shape} {e : EltTy} {M : Memref sig .tc sp S e} (h : M.IsWhole) (x : S.Idx → Elt F e) :
    (owns (c : Thread nD τ) M fullShare x : sProp 𝕄) = (M.view.loc (c : Thread nD τ) ↦[M.view.set]{fullShare} h.unread x) := by
  have h1 : (owns (c : Thread nD τ) M fullShare x : sProp 𝕄) ⊢ (M.view.loc (c : Thread nD τ) ↦[M.view.set]{fullShare} h.unread x) := by
    unfold owns
    iintro ⟨%f, %hf, H⟩
    obtain rfl := h.eq_unread hf
    iexact H
  have h2 : (M.view.loc (c : Thread nD τ) ↦[M.view.set]{fullShare} h.unread x : sProp 𝕄) ⊢ owns (c : Thread nD τ) M fullShare x := by
    unfold owns
    iintro H
    iexists h.unread x; isplitr; · ipureintro; exact h.read_unread _
    iexact H
  exact Entails.antisymm h1 h2

/-- A buffer held, read as `x`: held at the contents that read `x`. -/
theorem pts_of_read {c : Dev nD} {sp : Space} {S : Shape} {e : EltTy} {M : Memref sig .tc sp S e} (h : M.IsWhole) {f : Buf (Elt F) (M.view.loc (c : Thread nD τ))}
    {x : S.Idx → Elt F e} (hx : M.view.read (Elt F) f = x) :
    (M.view.loc (c : Thread nD τ) ↦[M.view.set]{fullShare} f : sProp 𝕄) ⊢ (M.view.loc (c : Thread nD τ) ↦[M.view.set]{fullShare} h.unread x) := by
  rw [h.eq_unread hx]

/-- One store of the whole leaves its payload, whatever was there. -/
theorem writes_whole_eq {κ : Kind} {sp : Space} {S : Shape} {e : EltTy} {M : Memref sig κ sp S e} (h : M.IsWhole) (f : M.view.ty.Contents (Elt F)) (w : S.Idx → Elt F e) :
    M.view.writes (Elt F) f [⟨Rect.whole S, w⟩] = h.unread w :=
  h.eq_unread (funext fun y => by
    rw [View.read_writes_apply_eq_canon M.view f y [⟨Rect.whole S, w⟩] ⟨_, List.mem_singleton_self _, by
      show y ∈ (Rect.whole S).set; rw [Rect.set_whole]; exact Finset.mem_univ y⟩]
    exact congrFun (View.canon_cons_unit_zero rfl _ w []) y)

/-- The same store spelt by its corner and sizes. -/
theorem writes_unit_eq {κ : Kind} {sp : Space} {S : Shape} {e : EltTy} {M : Memref sig κ sp S e} (h : M.IsWhole) (f : M.view.ty.Contents (Elt F))
    {off : Fin S.rank → ℕ} (inb : ∀ a, off a + S.size a ≤ S.size a) (w : S.Idx → Elt F e) :
    M.view.writes (Elt F) f [⟨Rect.unit off S.size inb, w⟩] = h.unread w :=
  h.eq_unread (View.read_writes_full M.view f inb w [])

/-- Stores over contents that read `X`: the canonical contents of the stores after one store of `X`. -/
theorem read_writes_over {κ : Kind} {sp : Space} {S : Shape} {e : EltTy} {M : Memref sig κ sp S e} (h : M.IsWhole) (X : S.Idx → Elt F e) (L : List (View.Piece (Elt F) S e)) :
    M.view.read (Elt F) (M.view.writes (Elt F) (h.unread X) L) = View.canon (L ++ [⟨Rect.whole S, X⟩]) := by
  funext y
  induction L with
  | nil =>
    rw [View.writes_nil, h.read_unread]
    exact (congrFun (View.canon_cons_unit_zero rfl _ X []) y).symm
  | cons p L ih =>
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact ih

end Cert.KernelIdeal.Mix

end
-- ==== Proof.Mix.Run.lean ====
/-
  The run of the mix_ffn kernel's body at one grid point, over any element instance: what it leaves in every buffer. At
  the first point it copies the weights into scratch and clears the statistics; at the others it finds both as left.
-/
module

public import proofs.«01_k».proof.Proof.Mix.Values

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple. The scratch operands and the statistics may hold anything at the first point; at a later one they hold the
    weights and `st`. The body leaves the point's values (`Ld`) in the outputs and the weights in scratch. -/
theorem kernel_run (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512 .f32) (harg7 : arg7.IsWhole) (arg9 : Memref sig .tc .vmem S1x1024 .f32) (harg9 : arg9.IsWhole) (arg10 : Memref sig .tc .vmem S1x1024 .f32) (harg10 : arg10.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2816 .bf16) (harg19 : arg19.IsWhole) (arg20 : Memref sig .tc .vmem S256x5632 .bf16) (harg20 : arg20.IsWhole) (arg21 : Memref sig .tc .vmem S256x1024 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S8x1024 .f32) (harg24 : arg24.IsWhole) (arg25 : Memref sig .tc .vmem S1024x1024 .bf16) (harg25 : arg25.IsWhole) (arg26 : Memref sig .tc .vmem S5632x1024 .bf16) (harg26 : arg26.IsWhole) (arg27 : Memref sig .tc .vmem S2816x1024 .bf16) (harg27 : arg27.IsWhole)
    (x0 : Vec F S256x512 .f32) (x1 : Vec F S256x512 .f32) (x2 : Vec F S256x1024 .f32) (x3 : Vec F S1x1024 .f32) (x4 : Vec F S1x1024 .f32) (x5 : Vec F S1x512 .f32) (x6 : Vec F S1x512 .f32) (x7 : Vec F S1x1024 .f32) (x8 : Vec F S1x1024 .f32) (x9 : Vec F S1x1024 .f32) (x10 : Vec F S1x1024 .f32) (x11 : Vec F S256x1024 .f32)
    (fh0 : Vec F S1024x1024 .bf16) (fh1 : Vec F S5632x1024 .bf16) (fh2 : Vec F S2816x1024 .bf16) (st : Vec F S8x1024 .f32) (hst : cond0_0 i → st = k0_pay2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg13 fullShare x9 ∗ owns (c : Thread nD τ) arg14 fullShare x10 ∗ owns (c : Thread nD τ) arg15 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, ⌜¬cond0_0 i → d = st⌝ ∗ owns (c : Thread nD τ) arg24 fullShare d) ∗ (∃ d, ⌜¬cond0_0 i → d = fh0⌝ ∗ owns (c : Thread nD τ) arg25 fullShare d) ∗ (∃ d, ⌜¬cond0_0 i → d = fh1⌝ ∗ owns (c : Thread nD τ) arg26 fullShare d) ∗ (∃ d, ⌜¬cond0_0 i → d = fh2⌝ ∗ owns (c : Thread nD τ) arg27 fullShare d) ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg13 fullShare x9 ∗ owns (c : Thread nD τ) arg14 fullShare x10 ∗ owns (c : Thread nD τ) arg15 fullShare x11 ∗ owns (c : Thread nD τ) arg16 fullShare (ldOf x0 x1 x2 x3 x4 x5 x6 x7 x8 x9 x10 x11 fh0 fh1 fh2).du1 ∗ owns (c : Thread nD τ) arg17 fullShare (ldOf x0 x1 x2 x3 x4 x5 x6 x7 x8 x9 x10 x11 fh0 fh1 fh2).merged ∗ owns (c : Thread nD τ) arg18 fullShare (ldOf x0 x1 x2 x3 x4 x5 x6 x7 x8 x9 x10 x11 fh0 fh1 fh2).h1 ∗ owns (c : Thread nD τ) arg19 fullShare (ldOf x0 x1 x2 x3 x4 x5 x6 x7 x8 x9 x10 x11 fh0 fh1 fh2).act ∗ owns (c : Thread nD τ) arg20 fullShare (ldOf x0 x1 x2 x3 x4 x5 x6 x7 x8 x9 x10 x11 fh0 fh1 fh2).dgu ∗ owns (c : Thread nD τ) arg21 fullShare (ldOf x0 x1 x2 x3 x4 x5 x6 x7 x8 x9 x10 x11 fh0 fh1 fh2).du2b ∗ owns (c : Thread nD τ) arg22 fullShare (ldOf x0 x1 x2 x3 x4 x5 x6 x7 x8 x9 x10 x11 fh0 fh1 fh2).dsb ∗ owns (c : Thread nD τ) arg23 fullShare (ldOf x0 x1 x2 x3 x4 x5 x6 x7 x8 x9 x10 x11 fh0 fh1 fh2).dsw ∗ owns (c : Thread nD τ) arg24 fullShare ((ldOf x0 x1 x2 x3 x4 x5 x6 x7 x8 x9 x10 x11 fh0 fh1 fh2).stats st) ∗ owns (c : Thread nD τ) arg25 fullShare fh0 ∗ owns (c : Thread nD τ) arg26 fullShare fh1 ∗ owns (c : Thread nD τ) arg27 fullShare fh2 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_mix_ffn i arg1 harg1 arg2 harg2 arg3 harg3 arg4 harg4 arg5 harg5 arg6 harg6 arg7 harg7 (Memref.whole main_v2) (Memref.isWhole_whole _) arg9 harg9 arg10 harg10 (Memref.whole main_v4) (Memref.isWhole_whole _) (Memref.whole main_v5) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scoped0 cc0_scoped1 cc0_scoped2) K := by
    intro W K
    simp only [owns_eq harg1, owns_eq harg2, owns_eq harg3, owns_eq harg4, owns_eq harg5, owns_eq harg6, owns_eq harg7, owns_eq harg9, owns_eq harg10, owns_eq harg13, owns_eq harg14, owns_eq harg15, owns_eq harg16, owns_eq harg17, owns_eq harg18, owns_eq harg19, owns_eq harg20, owns_eq harg21, owns_eq harg22, owns_eq harg23, owns_eq harg24, owns_eq harg25, owns_eq harg26, owns_eq harg27]
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨H0, H1, H2, H3, H4, H5, H6, H7, H8, H9, H10, H11, ⟨%d12, H12⟩, ⟨%d13, H13⟩, ⟨%d14, H14⟩, ⟨%d15, H15⟩, ⟨%d16, H16⟩, ⟨%d17, H17⟩, ⟨%d18, H18⟩, ⟨%d19, H19⟩, ⟨%d20, %hd20, H20⟩, ⟨%ds0, %hd0, HS0⟩, ⟨%ds1, %hd1, HS1⟩, ⟨%ds2, %hd2, HS2⟩, Hq0, Hq1, Hq2, Hh0, Hh1, Hh2, HW, Hk⟩
    have hL : ldOf x0 x1 x2 x3 x4 x5 x6 x7 x8 x9 x10 x11 fh0 fh1 fh2 = (⟨
        View.readAt (Elt F) arg1.view (Rect.unit (s := S256x512) ![0, 0] S256x512.size inb_S256x512_S256x512_0_0).toLoadRect (harg1.unread x0),
        View.readAt (Elt F) arg2.view (Rect.unit (s := S256x512) ![0, 0] S256x512.size inb_S256x512_S256x512_0_0).toLoadRect (harg2.unread x1),
        View.readAt (Elt F) arg3.view (Rect.unit (s := S256x1024) ![0, 0] S256x1024.size inb_S256x1024_S256x1024_0_0).toLoadRect (harg3.unread x2),
        View.readAt (Elt F) arg4.view (Rect.unit (s := S1x1024) ![0, 0] S1x1024.size inb_S1x1024_S1x1024_0_0).toLoadRect (harg4.unread x3),
        View.readAt (Elt F) arg5.view (Rect.unit (s := S1x1024) ![0, 0] S1x1024.size inb_S1x1024_S1x1024_0_0).toLoadRect (harg5.unread x4),
        View.readAt (Elt F) arg6.view (Rect.unit (s := S1x512) ![0, 0] S1x512.size inb_S1x512_S1x512_0_0).toLoadRect (harg6.unread x5),
        View.readAt (Elt F) arg7.view (Rect.unit (s := S1x512) ![0, 0] S1x512.size inb_S1x512_S1x512_0_0).toLoadRect (harg7.unread x6),
        View.readAt (Elt F) arg9.view (Rect.unit (s := S1x1024) ![0, 0] S1x1024.size inb_S1x1024_S1x1024_0_0).toLoadRect (harg9.unread x7),
        View.readAt (Elt F) arg10.view (Rect.unit (s := S1x1024) ![0, 0] S1x1024.size inb_S1x1024_S1x1024_0_0).toLoadRect (harg10.unread x8),
        View.readAt (Elt F) arg13.view (Rect.unit (s := S1x1024) ![0, 0] S1x1024.size inb_S1x1024_S1x1024_0_0).toLoadRect (harg13.unread x9),
        View.readAt (Elt F) arg14.view (Rect.unit (s := S1x1024) ![0, 0] S1x1024.size inb_S1x1024_S1x1024_0_0).toLoadRect (harg14.unread x10),
        View.readAt (Elt F) arg15.view (Rect.unit (s := S256x1024) ![0, 0] S256x1024.size inb_S256x1024_S256x1024_0_0).toLoadRect (harg15.unread x11),
        View.readAt (Elt F) arg25.view (Rect.unit (s := S1024x1024) ![0, 0] S512x1024.size inb_S1024x1024_S512x1024_0_0).toLoadRect (harg25.unread fh0),
        View.readAt (Elt F) arg25.view (Rect.unit (s := S1024x1024) ![512, 0] S512x1024.size inb_S1024x1024_S512x1024_512_0).toLoadRect (harg25.unread fh0),
        View.readAt (Elt F) arg25.view (Rect.unit (s := S1024x1024) ![0, 0] S1024x1024.size inb_S1024x1024_S1024x1024_0_0).toLoadRect (harg25.unread fh0),
        View.readAt (Elt F) arg26.view (Rect.unit (s := S5632x1024) ![0, 0] S2816x1024.size inb_S5632x1024_S2816x1024_0_0).toLoadRect (harg26.unread fh1),
        View.readAt (Elt F) arg26.view (Rect.unit (s := S5632x1024) ![2816, 0] S2816x1024.size inb_S5632x1024_S2816x1024_2816_0).toLoadRect (harg26.unread fh1),
        View.readAt (Elt F) arg27.view (Rect.unit (s := S2816x1024) ![0, 0] S2816x1024.size inb_S2816x1024_S2816x1024_0_0).toLoadRect (harg27.unread fh2)⟩ : Ld F) := by
      rw [readAt_unread_full harg1 x0 inb_S256x512_S256x512_0_0, readAt_unread_full harg2 x1 inb_S256x512_S256x512_0_0, readAt_unread_full harg3 x2 inb_S256x1024_S256x1024_0_0, readAt_unread_full harg4 x3 inb_S1x1024_S1x1024_0_0, readAt_unread_full harg5 x4 inb_S1x1024_S1x1024_0_0, readAt_unread_full harg6 x5 inb_S1x512_S1x512_0_0, readAt_unread_full harg7 x6 inb_S1x512_S1x512_0_0, readAt_unread_full harg9 x7 inb_S1x1024_S1x1024_0_0, readAt_unread_full harg10 x8 inb_S1x1024_S1x1024_0_0, readAt_unread_full harg13 x9 inb_S1x1024_S1x1024_0_0, readAt_unread_full harg14 x10 inb_S1x1024_S1x1024_0_0, readAt_unread_full harg15 x11 inb_S256x1024_S256x1024_0_0, readAt_unread_full harg25 fh0 inb_S1024x1024_S1024x1024_0_0, readAt_unread_full harg27 fh2 inb_S2816x1024_S2816x1024_0_0, readAt_unread', readAt_unread', readAt_unread', readAt_unread']
      rfl
    have hr0 : Ld.row0 st = View.readAt (Elt F) arg24.view (Rect.unit (s := S8x1024) ![0, 0] S1x1024.size inb_S8x1024_S1x1024_0_0).toLoadRect (harg24.unread st) := (readAt_unread' harg24 st (Rect.unit (s := S8x1024) ![0, 0] S1x1024.size inb_S8x1024_S1x1024_0_0).toLoadRect).symm
    have hr1 : Ld.row1 st = View.readAt (Elt F) arg24.view (Rect.unit (s := S8x1024) ![1, 0] S1x1024.size inb_S8x1024_S1x1024_1_0).toLoadRect (harg24.unread st) := (readAt_unread' harg24 st (Rect.unit (s := S8x1024) ![1, 0] S1x1024.size inb_S8x1024_S1x1024_1_0).toLoadRect).symm
    have hr2 : Ld.row2 st = View.readAt (Elt F) arg24.view (Rect.unit (s := S8x1024) ![2, 0] S1x1024.size inb_S8x1024_S1x1024_2_0).toLoadRect (harg24.unread st) := (readAt_unread' harg24 st (Rect.unit (s := S8x1024) ![2, 0] S1x1024.size inb_S8x1024_S1x1024_2_0).toLoadRect).symm
    have hr3 : Ld.row3 st = View.readAt (Elt F) arg24.view (Rect.unit (s := S8x1024) ![3, 0] S1x1024.size inb_S8x1024_S1x1024_3_0).toLoadRect (harg24.unread st) := (readAt_unread' harg24 st (Rect.unit (s := S8x1024) ![3, 0] S1x1024.size inb_S8x1024_S1x1024_3_0).toLoadRect).symm
    have hr4 : Ld.row4 st = View.readAt (Elt F) arg24.view (Rect.unit (s := S8x1024) ![4, 0] S1x1024.size inb_S8x1024_S1x1024_4_0).toLoadRect (harg24.unread st) := (readAt_unread' harg24 st (Rect.unit (s := S8x1024) ![4, 0] S1x1024.size inb_S8x1024_S1x1024_4_0).toLoadRect).symm
    have hr5l : Ld.row5l st = View.readAt (Elt F) arg24.view (Rect.unit (s := S8x1024) ![5, 0] S1x512.size inb_S8x1024_S1x512_5_0).toLoadRect (harg24.unread st) := (readAt_unread' harg24 st (Rect.unit (s := S8x1024) ![5, 0] S1x512.size inb_S8x1024_S1x512_5_0).toLoadRect).symm
    have hr5r : Ld.row5r st = View.readAt (Elt F) arg24.view (Rect.unit (s := S8x1024) ![5, 512] S1x512.size inb_S8x1024_S1x512_5_512).toLoadRect (harg24.unread st) := (readAt_unread' harg24 st (Rect.unit (s := S8x1024) ![5, 512] S1x512.size inb_S8x1024_S1x512_5_512).toLoadRect).symm
    have hS : (ldOf x0 x1 x2 x3 x4 x5 x6 x7 x8 x9 x10 x11 fh0 fh1 fh2).stats st = Ld.statsOf _ st _ _ _ _ _ _ _ :=
      (congrArg (fun L => Ld.stats L st) hL).trans (by unfold Ld.stats; rw [hr0, hr1, hr2, hr3, hr4, hr5l, hr5r])
    by_cases hc0 : cond0_0 i
    case' pos =>
      (set_option sl_exec.maxSteps 10 in
       sl_exec (disch := first | sl_exact hc0))
      rw [writes_unit_eq harg24, ← hst hc0, writes_whole_eq harg25, writes_whole_eq harg26, writes_whole_eq harg27]
    case' neg =>
      rw [hd20 hc0, hd0 hc0, hd1 hc0, hd2 hc0]
    all_goals
      sl_exec (disch := first | sl_exact hc0)
      sl_step
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · iapply (pts_of_read harg16 ((View.read_writes_full arg16.view _ inb_S256x1024_S256x1024_0_0 _ _).trans ((by sl_kernel_rfl : _ = _).trans (congrArg Ld.du1 hL).symm))); iexact H12
      isplitl [H13]
      · iapply (pts_of_read harg17 ((View.read_writes_eq_canon arg17.view _ _ cover_merged).trans ((by sl_kernel_rfl : _ = _).trans (congrArg Ld.merged hL).symm))); iexact H13
      isplitl [H14]
      · iapply (pts_of_read harg18 ((View.read_writes_full arg18.view _ inb_S256x1024_S256x1024_0_0 _ _).trans ((by sl_kernel_rfl : _ = _).trans (congrArg Ld.h1 hL).symm))); iexact H14
      isplitl [H15]
      · iapply (pts_of_read harg19 ((View.read_writes_full arg19.view _ inb_S256x2816_S256x2816_0_0 _ _).trans ((by sl_kernel_rfl : _ = _).trans (congrArg Ld.act hL).symm))); iexact H15
      isplitl [H16]
      · iapply (pts_of_read harg20 ((View.read_writes_eq_canon arg20.view _ _ cover_dgu).trans ((by sl_kernel_rfl : _ = _).trans (congrArg Ld.dgu hL).symm))); iexact H16
      isplitl [H17]
      · iapply (pts_of_read harg21 ((View.read_writes_full arg21.view _ inb_S256x1024_S256x1024_0_0 _ _).trans ((by sl_kernel_rfl : _ = _).trans (congrArg Ld.du2b hL).symm))); iexact H17
      isplitl [H18]
      · iapply (pts_of_read harg22 ((View.read_writes_full arg22.view _ inb_S256x512_S256x512_0_0 _ _).trans ((by sl_kernel_rfl : _ = _).trans (congrArg Ld.dsb hL).symm))); iexact H18
      isplitl [H19]
      · iapply (pts_of_read harg23 ((View.read_writes_full arg23.view _ inb_S256x512_S256x512_0_0 _ _).trans ((by sl_kernel_rfl : _ = _).trans (congrArg Ld.dsw hL).symm))); iexact H19
      isplitl [H20]
      · iapply (pts_of_read harg24 ((read_writes_over harg24 st _).trans ((by sl_kernel_rfl : _ = _).trans hS.symm))); iexact H20
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      iexists _; iexact HW

end Cert.KernelIdeal.Mix

end
-- ==== Proof.Mix.Frame.lean ====
/-
  The launch of the mix_ffn kernel at any values: what each window holds after each point, the body at every point from
  `kernel_run`, and the run of the whole program with its arrays named.
-/
module

public import proofs.«01_k».proof.Proof.Mix.Run
@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Everything point `t` loads: its blocks of the twelve inputs and the three weights. -/
def ld (c : Dev nD) (t : Fin cfg0.N) : Ld F :=
  ldOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (V m c main_v2) (V m c main_v4) (V m c main_v5)

/-- The statistics block before point `n`: cleared, then one point after another added. -/
def stAt (c : Dev nD) : ℕ → Vec F S8x1024 .f32
  | 0 => k0_pay2
  | n + 1 => if h : n < cfg0.N then (ld m c ⟨n, h⟩).stats (stAt c n) else stAt c n

theorem stAt_succ (c : Dev nD) (t : Fin cfg0.N) : stAt m c (t.val + 1) = (ld m c t).stats (stAt m c t.val) := by
  rw [stAt, dif_pos t.isLt]

/-- The invariant before point `n`: as the launch gives it, the weights in scratch from the second point on. -/
def PhiAt (c : Dev nD) (n : ℕ) : sProp 𝕄 :=
  iprop(iprop((∃ d, ⌜n ≠ 0 → d = V m c main_v2⌝ ∗ owns (c : Thread nD τ) scM0_0 fullShare d)
      ∗ (∃ d, ⌜n ≠ 0 → d = V m c main_v4⌝ ∗ owns (c : Thread nD τ) scM0_1 fullShare d)
      ∗ (∃ d, ⌜n ≠ 0 → d = V m c main_v5⌝ ∗ owns (c : Thread nD τ) scM0_2 fullShare d))
    ∗ (∃ r, prngReg c r)
    ∗ iprop(semVal ((c : Thread nD τ), SemLoc.dma 33) 0 ∗ semVal ((c : Thread nD τ), SemLoc.dma 34) 0 ∗ semVal ((c : Thread nD τ), SemLoc.dma 35) 0)
    ∗ iprop(hbPt0 c hbM0_0 (V m c main_v2) ∗ hbPt0 c hbM0_1 (V m c main_v4) ∗ hbPt0 c hbM0_2 (V m c main_v5)))

theorem PhiAt_in (c : Dev nD) : (Pipeline.ΦD osem0 spec0 H0 (V m) c : sProp 𝕄) ⊢ PhiAt m c 0 := by
  rw [PhiD0_eq]; unfold PhiAt
  iintro ⟨⟨⟨%d0, HS0⟩, ⟨%d1, HS1⟩, ⟨%d2, HS2⟩⟩, Hg⟩
  isplitl [HS0 HS1 HS2]
  · isplitl [HS0]
    · iexists d0; isplitr; · ipureintro; exact fun h => absurd rfl h
      iexact HS0
    isplitl [HS1]
    · iexists d1; isplitr; · ipureintro; exact fun h => absurd rfl h
      iexact HS1
    iexists d2; isplitr; · ipureintro; exact fun h => absurd rfl h
    iexact HS2
  iexact Hg

theorem PhiAt_out (c : Dev nD) (n : ℕ) : PhiAt m c n ⊢ (Pipeline.ΦD osem0 spec0 H0 (V m) c : sProp 𝕄) := by
  rw [PhiD0_eq]; unfold PhiAt
  iintro ⟨⟨⟨%d0, -, HS0⟩, ⟨%d1, -, HS1⟩, ⟨%d2, -, HS2⟩⟩, Hg⟩
  isplitl [HS0 HS1 HS2]
  · isplitl [HS0]; · iexists _; iexact HS0
    isplitl [HS1]; · iexists _; iexact HS1
    iexists _; iexact HS2
  iexact Hg

/-- The proof data of the pipeline on core `c`: every input's buffer at its block after the body, every output's at what
    `kernel_run` leaves there, the statistics summed up to and including the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (ld m c t).du1
    | ⟨13, _⟩ => (ld m c t).merged
    | ⟨14, _⟩ => (ld m c t).h1
    | ⟨15, _⟩ => (ld m c t).act
    | ⟨16, _⟩ => (ld m c t).dgu
    | ⟨17, _⟩ => (ld m c t).du2b
    | ⟨18, _⟩ => (ld m c t).dsb
    | ⟨19, _⟩ => (ld m c t).dsw
    | ⟨20, _⟩ => stAt m c (t.val + 1)
    | ⟨_ + 21, h⟩ => absurd h (Nat.not_lt.2 (Nat.le_add_left _ _))
  Φ t := PhiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (ld m c t).du1 := by dsimp only [dats]
theorem after_13 (c : Dev nD) (t : Fin cfg0.N) : (dats m 0 c).after 13 t = (ld m c t).merged := by dsimp only [dats]
theorem after_14 (c : Dev nD) (t : Fin cfg0.N) : (dats m 0 c).after 14 t = (ld m c t).h1 := by dsimp only [dats]
theorem after_15 (c : Dev nD) (t : Fin cfg0.N) : (dats m 0 c).after 15 t = (ld m c t).act := by dsimp only [dats]
theorem after_16 (c : Dev nD) (t : Fin cfg0.N) : (dats m 0 c).after 16 t = (ld m c t).dgu := by dsimp only [dats]
theorem after_17 (c : Dev nD) (t : Fin cfg0.N) : (dats m 0 c).after 17 t = (ld m c t).du2b := by dsimp only [dats]
theorem after_18 (c : Dev nD) (t : Fin cfg0.N) : (dats m 0 c).after 18 t = (ld m c t).dsb := by dsimp only [dats]
theorem after_19 (c : Dev nD) (t : Fin cfg0.N) : (dats m 0 c).after 19 t = (ld m c t).dsw := by dsimp only [dats]
theorem after_20 (c : Dev nD) (t : Fin cfg0.N) : (dats m 0 c).after 20 t = stAt m c (t.val + 1) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]) t d).trans
    (by unfold Dat.fetched Dat.blockOf iblk; rw [A_eq]; try rfl)

/-- The statistics block is kept from point to point. -/
theorem before_20 (c : Dev nD) (t : Fin cfg0.N) (ht : t.val ≠ 0) (d) : (dats m 0 c).before 20 t d = stAt m c t.val := by
  have hN : t.val < 32 := lt_of_lt_of_eq t.isLt (show cfg0.N = 32 from N_0)
  rw [(dats m 0 c).before_out_kept 20 rfl t ht
    (Bool.eq_false_iff.mpr fun h => absurd ((flush0_20 _).mp h) (by dsimp only; omega)) (fun _ => rfl) (fun _ _ => rfl) d, after_20]
  dsimp only
  rw [Nat.sub_add_cancel (Nat.pos_of_ne_zero ht)]

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4800000 in
/-- The body at any point: its inputs hold their blocks, from the second point on the statistics hold the sum so far and
    the scratch the weights; `kernel_run` applies. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have h0 : ¬cond0_0 (grid0.coords t) → t.val ≠ 0 := fun h e => h ((hcond0_0 t).mpr (by omega))
  have hst : cond0_0 (grid0.coords t) → stAt m c t.val = k0_pay2 := fun h => by
    have e := (hcond0_0 t).mp h
    rw [show t.val = 0 by omega]; rfl
  unfold bodyPre bodyPost bodyAt0
  simp only [before_0, before_1, before_2, before_3, before_4, before_5, before_6, before_7, before_8, before_9, before_10, before_11]
  rw [after_0, after_1, after_2, after_3, after_4, after_5, after_6, after_7, after_8, after_9, after_10, after_11, after_12, after_13, after_14, after_15, after_16, after_17, after_18, after_19, after_20, stAt_succ]
  rw [show (dats m 0 c).Φ t.succ = PhiAt m c (t.val + 1) from rfl, show (dats m 0 c).Φ t.castSucc = PhiAt m c t.val from rfl]
  unfold PhiAt
  unfold Dat.owesAt Pipeline.owesWithin
  rw [show (dats m 0 c).owed t.castSucc = 0 from rfl, show (dats m 0 c).owed t.succ = 0 from rfl]
  unfold ld
  iintro ⟨⟨⟨⟨%s0, %hs0, HS0⟩, ⟨%s1, %hs1, HS1⟩, ⟨%s2, %hs2, HS2⟩⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (kernel_run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v2) (V m c main_v4) (V m c main_v5) (stAt m c t.val) hst W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]
  · iexists _; isplitr
    · ipureintro; exact fun h => before_20 m c t (h0 h) d20
    iexact H20
  isplitl [HS0]
  · iexists _; isplitr
    · ipureintro; exact fun h => hs0 (h0 h)
    iexact HS0
  isplitl [HS1]
  · iexists _; isplitr
    · ipureintro; exact fun h => hs1 (h0 h)
    iexact HS1
  isplitl [HS2]
  · iexists _; isplitr
    · ipureintro; exact fun h => hs2 (h0 h)
    iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, H12, H13, H14, H15, H16, H17, H18, H19, H20, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]
      · iexists _; isplitr; · ipureintro; exact fun _ => rfl
        iexact HS0
      isplitl [HS1]
      · iexists _; isplitr; · ipureintro; exact fun _ => rfl
        iexact HS1
      iexists _; isplitr; · ipureintro; exact fun _ => rfl
      iexact HS2
    isplitl [Hg]
    · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the launch theorem's implicit arguments are found by unifying its conclusion with this one
set_option backward.isDefEq.respectTransparency.types false in
/-- Every fair execution ends with the windows' arrays as the pipeline left them, every other buffer unchanged, and all
    counters at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m) (hA := A_eq m)
    (hin := fun c => PhiAt_in m c) (hout := fun c => PhiAt_out m c _)

/-- The arguments end unchanged. -/
theorem args_unchanged (r) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 9).trans (((dats m 0 c).arrAt_in 9 rfl _).trans ((A_eq m c 9).trans (V_main_arg12 m c))),
    ((h c).1 10).trans (((dats m 0 c).arrAt_in 10 rfl _).trans ((A_eq m c 10).trans (V_main_arg13 m c))),
    ((h c).1 11).trans (((dats m 0 c).arrAt_in 11 rfl _).trans ((A_eq m c 11).trans (V_main_arg14 m c)))⟩

/-- The frame, at any values: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨args_unchanged m r h.1, h.2⟩) (run_main_quiescent m ρ)

end Cert.KernelIdeal.Mix

end
-- ==== Proof.Mix.Same.lean ====
/-
  The kernel program and its idealisation are one text: at the machine's own floats their bodies, their tables of bodies
  and hence their definitions are the same.
-/
module

public import proofs.«01_k».proof.Defs
public import proofs.«01_k».proof.Proof.Gen.Kernel
public import proofs.«01_k».proof.Proof.Gen.KernelIdeal

@[expose] public section

set_option maxRecDepth 100000
set_option maxHeartbeats 4000000

noncomputable section

namespace Cert.Mix

open Idealize.ShloMosaic Idealize.SL.Sem

theorem body_same : (@Cert.Kernel.cc0_mix_ffn Bits _ _) = @Cert.KernelIdeal.cc0_mix_ffn Bits _ _ := by
  unfold Cert.Kernel.cc0_mix_ffn Cert.KernelIdeal.cc0_mix_ffn
  rfl

theorem bodies_same : (Cert.Kernel.defs₀ (F := Bits) : Defs Cert.KernelIdeal.nD Cert.KernelIdeal.τ Cert.KernelIdeal.sig (Elt Bits) Cert.KernelIdeal.Λ₀)
    = Cert.KernelIdeal.defs₀ := by
  refine congrArg Defs.onTc ?_
  funext l a
  match l, a with
  | 0, (t, s) =>
    show Cert.Kernel.cc0_mix_ffn _ _ _ _ _ _ _ _ _ _ _ _ _ _ _ _ _ _ _ _ _ _ _ _ _ _ _ _ _ _ _ _ _ _ _ _ _ _ _ _ _ _ _ _ _ _ _ _ _ _ _ _ _ _ _ _ _ _ = _
    rw [body_same]
    rfl

theorem defs_same : (Cert.Kernel.defs (F := Bits) : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm)) = Cert.KernelIdeal.defs :=
  congrArg (Pipeline.defs (Cert.KernelIdeal.pcfgs (F := Bits))) bodies_same

theorem main_same : (Cert.Kernel.main (F := Bits)) = Cert.KernelIdeal.main (F := Bits) := rfl

end Cert.Mix

end
-- ==== Proof.Mix.Model.lean ====
/-
  The mixer and feed-forward block of one row, forward and backward, over the real numbers: what both programs compute
  of finite arguments. Then the few facts by which a term over the extended reals, read at an index, is seen to be the
  image of a real number.
-/
module

public import Idealize.ShloMosaic.Lib.Pointwise

@[expose] public section

noncomputable section

namespace Cert.Mix

open Idealize.ShloMosaic

/-! ## Norms of a row -/

section Norms

variable {n : ℕ}

/-- The mean of a row. -/
def mean (a : Fin n → ℝ) : ℝ := (∑ k, a k) / (n : ℝ)
/-- A row less its mean. -/
def cen (a : Fin n → ℝ) (j : Fin n) : ℝ := a j - mean a
/-- The mean square plus `e`. -/
def msq (e : ℝ) (a : Fin n → ℝ) : ℝ := mean (fun k => a k * a k) + e
/-- The reciprocal root of the mean square plus `e`. -/
def irms (e : ℝ) (a : Fin n → ℝ) : ℝ := (Real.sqrt (msq e a))⁻¹
/-- A row divided by the root of its mean square. -/
def nrm (e : ℝ) (a : Fin n → ℝ) (j : Fin n) : ℝ := a j * irms e a
/-- The gradient of a layer norm, from the reciprocal deviation `i`, the normalised row `v` and the gradient `d` at it. -/
def lnBack (i : ℝ) (v d : Fin n → ℝ) (j : Fin n) : ℝ := i * (d j - mean d - v j * mean (fun k => d k * v k))
/-- The gradient of a root-mean-square norm, likewise. -/
def rmsBack (i : ℝ) (v d : Fin n → ℝ) (j : Fin n) : ℝ := i * (d j - v j * mean (fun k => d k * v k))

/-- The term of the gradient that goes through the mean square: the derivative of the reciprocal root, times twice the row. -/
def viaMsq (e : ℝ) (a d : Fin n → ℝ) (j : Fin n) : ℝ :=
  (∑ k, a k * d k) * (-(1 / 2) * (irms e a / msq e a)) / (n : ℝ) * (2 * a j)

theorem mean_sq_nonneg (a : Fin n → ℝ) : 0 ≤ mean (fun k => a k * a k) :=
  div_nonneg (Finset.sum_nonneg fun _ _ => mul_self_nonneg _) (Nat.cast_nonneg n)

theorem msq_pos {e : ℝ} (he : 0 < e) (a : Fin n → ℝ) : 0 < msq e a :=
  add_pos_of_nonneg_of_pos (mean_sq_nonneg a) he

theorem irms_sq {e : ℝ} (he : 0 < e) (a : Fin n → ℝ) : irms e a * irms e a = (msq e a)⁻¹ := by
  have h := Real.mul_self_sqrt (msq_pos he a).le
  unfold irms
  rw [← mul_inv, h]

/-- The term through the mean square, as the norm's gradient has it. -/
theorem viaMsq_eq {e : ℝ} (he : 0 < e) (a d : Fin n → ℝ) (j : Fin n) :
    viaMsq e a d j = -(irms e a * (nrm e a j * mean (fun k => d k * nrm e a k))) := by
  have h : mean (fun k => d k * nrm e a k) = (∑ k, a k * d k) / (n : ℝ) * irms e a := by
    unfold mean nrm
    rw [div_mul_eq_mul_div, Finset.sum_mul]
    congr 1
    exact Finset.sum_congr rfl fun _ _ => by ring
  rw [h]
  unfold viaMsq nrm
  rw [div_eq_mul_inv (irms e a), ← irms_sq he]
  ring

/-- The gradient of a root-mean-square norm, with the term through the mean square spelt out. -/
theorem rmsBack_eq {e : ℝ} (he : 0 < e) (a d : Fin n → ℝ) (j : Fin n) :
    d j * irms e a + viaMsq e a d j = rmsBack (irms e a) (nrm e a) d j := by
  rw [viaMsq_eq he]
  unfold rmsBack
  ring

theorem sum_cen (hn : (n : ℝ) ≠ 0) (a : Fin n → ℝ) : ∑ k, cen a k = 0 := by
  unfold cen mean
  rw [Finset.sum_sub_distrib, Finset.sum_const, Finset.card_univ, Fintype.card_fin, nsmul_eq_mul, mul_div_cancel₀ _ hn, sub_self]

/-- The gradient of a layer norm, with the terms through the mean square and through the mean spelt out. -/
theorem lnBack_eq {e : ℝ} (he : 0 < e) (hn : (n : ℝ) ≠ 0) (a d : Fin n → ℝ) (j : Fin n) :
    d j * irms e (cen a) + viaMsq e (cen a) d j
        + ((∑ k, -(d k * irms e (cen a))) + ∑ k, -viaMsq e (cen a) d k) / (n : ℝ)
      = lnBack (irms e (cen a)) (nrm e (cen a)) d j := by
  have h0 : ∑ k, -viaMsq e (cen a) d k = 0 := by
    have : ∀ k, -viaMsq e (cen a) d k
        = -((∑ k, cen a k * d k) * (-(1 / 2) * (irms e (cen a) / msq e (cen a))) / (n : ℝ) * 2) * cen a k := fun k => by
      unfold viaMsq; ring
    rw [Finset.sum_congr rfl fun k _ => this k, ← Finset.mul_sum, sum_cen hn, mul_zero]
  have h1 : ∑ k, -(d k * irms e (cen a)) = -((∑ k, d k) * irms e (cen a)) := by
    rw [Finset.sum_neg_distrib, Finset.sum_mul]
  rw [h0, h1, viaMsq_eq he]
  unfold lnBack mean
  ring

end Norms

/-! ## Constants -/

/-- The weight of the residual branches. -/
def alpha : ℝ := 9975792 / 8388608
/-- What the root-mean-square norms add to the mean square. -/
def epsR : ℝ := 8796093 / 8796093022208
/-- What the layer norms add to the variance. -/
def epsL : ℝ := 10995116 / 1099511627776

theorem epsR_pos : 0 < epsR := by unfold epsR; norm_num
theorem epsL_pos : 0 < epsL := by unfold epsL; norm_num

theorem bits_alpha : Ideal.ofBits .f32 0x3F9837F0#32 = ((alpha : ℝ) : EReal) := by
  unfold alpha
  simp [Ideal.ofBits, Ideal.ieee, -EReal.coe_mul]; norm_num
theorem bits_epsR : Ideal.ofBits .f32 0x358637BD#32 = ((epsR : ℝ) : EReal) := by
  unfold epsR
  simp [Ideal.ofBits, Ideal.ieee, -EReal.coe_mul]; norm_num
theorem bits_epsL : Ideal.ofBits .f32 0x3727C5AC#32 = ((epsL : ℝ) : EReal) := by
  unfold epsL
  simp [Ideal.ofBits, Ideal.ieee, -EReal.coe_mul]; norm_num
theorem bits_1024 : Ideal.ofBits .f32 0x44800000#32 = (((1024 : ℕ) : ℝ) : EReal) := by
  simp [Ideal.ofBits, Ideal.ieee, -EReal.coe_mul]; norm_num
theorem bits_512 : Ideal.ofBits .f32 0x44000000#32 = (((512 : ℕ) : ℝ) : EReal) := by
  simp [Ideal.ofBits, Ideal.ieee, -EReal.coe_mul]; norm_num
theorem bits_inv1024 : Ideal.ofBits .f32 0x3A800000#32 = (((1 : ℝ) / 1024 : ℝ) : EReal) := by
  simp [Ideal.ofBits, Ideal.ieee, -EReal.coe_mul]; norm_num
theorem bits_inv2048 : Ideal.ofBits .f32 0x3A000000#32 = (((1 : ℝ) / 2048 : ℝ) : EReal) := by
  simp [Ideal.ofBits, Ideal.ieee, -EReal.coe_mul]; norm_num
theorem one_coe : (1 : EReal) = ((1 : ℝ) : EReal) := EReal.coe_one.symm
theorem zero_coe : (0 : EReal) = ((0 : ℝ) : EReal) := EReal.coe_zero.symm
theorem bits_two : Ideal.ofBits .f32 0x40000000#32 = ((2 : ℝ) : EReal) := by
  simp [Ideal.ofBits, Ideal.ieee, -EReal.coe_mul]; norm_num
theorem bits_half : Ideal.ofBits .f32 0x3F000000#32 = (((1 : ℝ) / 2 : ℝ) : EReal) := by
  simp [Ideal.ofBits, Ideal.ieee, -EReal.coe_mul]; norm_num
theorem bits_neg_half : Ideal.ofBits .f32 0xBF000000#32 = ((-((1 : ℝ) / 2) : ℝ) : EReal) := by
  simp [Ideal.ofBits, Ideal.ieee, -EReal.coe_mul]; norm_num

/-! ## The block, row by row -/

/-- The weights, gains and biases. -/
structure Wts where
  gIn : Fin 1024 → ℝ
  bIn : Fin 1024 → ℝ
  gSb : Fin 512 → ℝ
  gSw : Fin 512 → ℝ
  wo : Fin 1024 → Fin 1024 → ℝ
  g1 : Fin 1024 → ℝ
  b1 : Fin 1024 → ℝ
  wgu : Fin 1024 → Fin 5632 → ℝ
  wd : Fin 2816 → Fin 1024 → ℝ
  g2 : Fin 1024 → ℝ
  b2 : Fin 1024 → ℝ

/-- The row's activations and its target. -/
structure Row where
  sb : Fin 512 → ℝ
  sw : Fin 512 → ℝ
  x : Fin 1024 → ℝ
  tgt : Fin 1024 → ℝ

/-- The left and the right half of the columns of the merged heads. -/
def lo512 (k : Fin 512) : Fin 1024 := ⟨k.val, by omega⟩
@[inherit_doc lo512] def hi512 (k : Fin 512) : Fin 1024 := ⟨512 + k.val, by omega⟩
/-- The gate's and the up product's columns of `w_gate_up`. -/
def lo2816 (k : Fin 2816) : Fin 5632 := ⟨k.val, by omega⟩
@[inherit_doc lo2816] def hi2816 (k : Fin 2816) : Fin 5632 := ⟨2816 + k.val, by omega⟩

section Block

variable (W : Wts) (R : Row)

/-- The stick-breaking heads normalised and scaled. -/
def mgLo (j : Fin 512) : ℝ := nrm epsR R.sb j * W.gSb j
/-- The sliding-window heads normalised and scaled. -/
def mgHi (j : Fin 512) : ℝ := nrm epsR R.sw j * W.gSw j
/-- The first residual sum. -/
def u1 (l : Fin 1024) : ℝ :=
  alpha * (nrm epsL (cen R.x) l * W.gIn l + W.bIn l) + (∑ k, mgLo W R k * W.wo (lo512 k) l) + ∑ k, mgHi W R k * W.wo (hi512 k) l
/-- The first norm's reciprocal deviation. -/
def i1 : ℝ := irms epsL (cen (u1 W R))
/-- The first norm's normalised row. -/
def n1 (l : Fin 1024) : ℝ := nrm epsL (cen (u1 W R)) l
/-- The first norm's output. -/
def h1 (l : Fin 1024) : ℝ := n1 W R l * W.g1 l + W.b1 l
/-- The gate product. -/
def gate (l : Fin 2816) : ℝ := ∑ k, h1 W R k * W.wgu k (lo2816 l)
/-- The up product. -/
def up (l : Fin 2816) : ℝ := ∑ k, h1 W R k * W.wgu k (hi2816 l)
/-- The gate's sigmoid. -/
def sg (l : Fin 2816) : ℝ := (1 + Real.exp (-gate W R l))⁻¹
/-- The gate times its sigmoid. -/
def silu (l : Fin 2816) : ℝ := gate W R l * sg W R l
/-- The gated activation. -/
def act (l : Fin 2816) : ℝ := silu W R l * up W R l
/-- The second residual sum. -/
def u2 (l : Fin 1024) : ℝ := alpha * h1 W R l + ∑ k, act W R k * W.wd k l
/-- The second norm's reciprocal deviation. -/
def i2 : ℝ := irms epsL (cen (u2 W R))
/-- The second norm's normalised row. -/
def n2 (l : Fin 1024) : ℝ := nrm epsL (cen (u2 W R)) l
/-- The prediction less the target. -/
def err (l : Fin 1024) : ℝ := n2 W R l * W.g2 l + W.b2 l - R.tgt l
/-- The loss's gradient at the prediction. -/
def dh2 (l : Fin 1024) : ℝ := err W R l * (1 / 1024)
/-- The gradient at the second norm's normalised row. -/
def dn2 (l : Fin 1024) : ℝ := dh2 W R l * W.g2 l
/-- The gradient at the second residual sum. -/
def du2 (l : Fin 1024) : ℝ := lnBack (i2 W R) (n2 W R) (dn2 W R) l
/-- The gradient at the gated activation. -/
def dact (l : Fin 2816) : ℝ := ∑ k, du2 W R k * W.wd l k
/-- That gradient times the up product. -/
def dsilu (l : Fin 2816) : ℝ := dact W R l * up W R l
/-- The gradient at the gate product. -/
def dgLo (l : Fin 2816) : ℝ := dsilu W R l * (sg W R l * (1 + gate W R l * (1 - sg W R l)))
/-- The gradient at the up product. -/
def dgHi (l : Fin 2816) : ℝ := dact W R l * silu W R l
/-- The gradient at the first norm's output. -/
def dh1 (l : Fin 1024) : ℝ :=
  (∑ k, dgLo W R k * W.wgu l (lo2816 k)) + (∑ k, dgHi W R k * W.wgu l (hi2816 k)) + alpha * du2 W R l
/-- The gradient at the first norm's normalised row. -/
def dn1 (l : Fin 1024) : ℝ := dh1 W R l * W.g1 l
/-- The gradient at the first residual sum. -/
def du1 (l : Fin 1024) : ℝ := lnBack (i1 W R) (n1 W R) (dn1 W R) l
/-- The gradient at the merged heads. -/
def dmg (l : Fin 1024) : ℝ := ∑ k, du1 W R k * W.wo l k
/-- The gradient at the stick-breaking heads. -/
def dsb (l : Fin 512) : ℝ := rmsBack (irms epsR R.sb) (nrm epsR R.sb) (fun k => dmg W R (lo512 k) * W.gSb k) l
/-- The gradient at the sliding-window heads. -/
def dsw (l : Fin 512) : ℝ := rmsBack (irms epsR R.sw) (nrm epsR R.sw) (fun k => dmg W R (hi512 k) * W.gSw k) l
/-- The row's term of each line of statistics. -/
def tm0 (l : Fin 1024) : ℝ := dh2 W R l * n2 W R l
@[inherit_doc tm0] def tm1 (l : Fin 1024) : ℝ := dh2 W R l
@[inherit_doc tm0] def tm2 : ℝ := ∑ k, err W R k * err W R k
@[inherit_doc tm0] def tm3 (l : Fin 1024) : ℝ := dh1 W R l * n1 W R l
@[inherit_doc tm0] def tm4 (l : Fin 1024) : ℝ := dh1 W R l
@[inherit_doc tm0] def tm5l (l : Fin 512) : ℝ := dmg W R (lo512 l) * nrm epsR R.sb l
@[inherit_doc tm0] def tm5r (l : Fin 512) : ℝ := dmg W R (hi512 l) * nrm epsR R.sw l

/-- The merged heads' row, and the gradient's at the gate and up products: two halves side by side. -/
def mg (k : Fin 1024) : ℝ := if h : k.val < 512 then mgLo W R ⟨k.val, h⟩ else mgHi W R ⟨k.val - 512, by omega⟩
@[inherit_doc mg] def dg (k : Fin 5632) : ℝ := if h : k.val < 2816 then dgLo W R ⟨k.val, h⟩ else dgHi W R ⟨k.val - 2816, by omega⟩

theorem mg_lo (k : Fin 512) : mg W R (lo512 k) = mgLo W R k := dif_pos k.isLt
theorem mg_hi (k : Fin 512) : mg W R (hi512 k) = mgHi W R k :=
  (dif_neg (Nat.not_lt.mpr (Nat.le_add_right 512 k.val))).trans (congrArg (mgHi W R) (Fin.ext (Nat.add_sub_cancel_left 512 k.val)))
theorem dg_lo (k : Fin 2816) : dg W R (lo2816 k) = dgLo W R k := dif_pos k.isLt
theorem dg_hi (k : Fin 2816) : dg W R (hi2816 k) = dgHi W R k :=
  (dif_neg (Nat.not_lt.mpr (Nat.le_add_right 2816 k.val))).trans (congrArg (dgHi W R) (Fin.ext (Nat.add_sub_cancel_left 2816 k.val)))

end Block

/-- A column is in one half or in the other. -/
theorem half512 {p : Fin 1024 → Prop} (lo : ∀ k, p (lo512 k)) (hi : ∀ k, p (hi512 k)) (k : Fin 1024) : p k := by
  by_cases h : k.val < 512
  · exact lo ⟨k.val, h⟩
  · have e : k = hi512 ⟨k.val - 512, by omega⟩ := Fin.ext (show k.val = 512 + (k.val - 512) by omega)
    exact e ▸ hi _
theorem half2816 {p : Fin 5632 → Prop} (lo : ∀ k, p (lo2816 k)) (hi : ∀ k, p (hi2816 k)) (k : Fin 5632) : p k := by
  by_cases h : k.val < 2816
  · exact lo ⟨k.val, h⟩
  · have e : k = hi2816 ⟨k.val - 2816, by omega⟩ := Fin.ext (show k.val = 2816 + (k.val - 2816) by omega)
    exact e ▸ hi _

/-- The sum of a row's term over the rows of the first `n` tiles. -/
def tot (f : Row → ℝ) (R : Fin 8192 → Row) (n : ℕ) : ℝ :=
  ∑ j ∈ Finset.range n, ∑ r : Fin 256, f (R ⟨(j * 256 + r.val) % 8192, Nat.mod_lt _ (by norm_num)⟩)

theorem tot_zero (f : Row → ℝ) (R : Fin 8192 → Row) : tot f R 0 = 0 := Finset.sum_range_zero _

theorem tot_succ (f : Row → ℝ) (R : Fin 8192 → Row) (n : ℕ) (g : Fin 256 → Fin 8192) (hg : ∀ r, (g r).val = n * 256 + r.val) :
    tot f R (n + 1) = tot f R n + ∑ r, f (R (g r)) := by
  unfold tot
  rw [Finset.sum_range_succ]
  refine congrArg (_ + ·) (Finset.sum_congr rfl fun r _ => congrArg (fun x => f (R x)) (Fin.ext ?_))
  have := (g r).isLt
  have := hg r
  show (n * 256 + r.val) % 8192 = (g r).val
  omega

/-- All 32 tiles are all rows. -/
theorem tot_all (f : Row → ℝ) (R : Fin 8192 → Row) : tot f R 32 = ∑ g, f (R g) := by
  rw [Fin.sum_univ_tiles 32 256 (by norm_num) (fun g => f (R g))]
  unfold tot
  rw [Finset.sum_range]
  refine Finset.sum_congr rfl fun j _ => Finset.sum_congr rfl fun r _ => congrArg (fun x => f (R x)) (Fin.ext ?_)
  show (j.val * 256 + r.val) % 8192 = j.val * 256 + r.val
  omega

/-! ## Images of real numbers -/

theorem coe_sum {ι : Type} [Fintype ι] (f : ι → ℝ) : (∑ k, ((f k : ℝ) : EReal)) = ((∑ k, f k : ℝ) : EReal) :=
  (map_sum (⟨⟨Real.toEReal, EReal.coe_zero⟩, EReal.coe_add⟩ : ℝ →+ EReal) f Finset.univ).symm

theorem coe_mul' (a b : ℝ) : (a : EReal) * (b : EReal) = ((a * b : ℝ) : EReal) := (EReal.coe_mul a b).symm
theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_neg' (a : ℝ) : -(a : EReal) = ((-a : ℝ) : EReal) := (EReal.coe_neg a).symm

theorem div_nat (a : ℝ) (n : ℕ) [NeZero n] : Ideal.div (a : EReal) (((n : ℕ) : ℝ) : EReal) = ((a / (n : ℝ) : ℝ) : EReal) := by
  rw [Ideal.div_coe (Nat.cast_ne_zero.mpr (NeZero.ne n)), ← EReal.coe_mul, mul_one_div]

theorem rsqrt_pos {a : ℝ} (h : 0 < a) : Ideal.rsqrt (a : EReal) = (((Real.sqrt a)⁻¹ : ℝ) : EReal) := by
  rw [Ideal.rsqrt_coe, if_neg (not_lt.mpr h.le), if_neg h.ne']

/-- The reciprocal root of a mean square. -/
theorem rsqrt_msq {n : ℕ} (a : Fin n → ℝ) (e : ℝ) (he : 0 < e) :
    Ideal.rsqrt ((((∑ k, a k * a k) / (n : ℝ) + e : ℝ)) : EReal) = ((irms e a : ℝ) : EReal) :=
  rsqrt_pos (msq_pos he a)

theorem rsqrt_msqR {n : ℕ} (a : Fin n → ℝ) : Ideal.rsqrt ((((∑ k, a k * a k) / (n : ℝ) + epsR : ℝ)) : EReal) = ((irms epsR a : ℝ) : EReal) :=
  rsqrt_msq a _ epsR_pos
theorem rsqrt_msqL {n : ℕ} (a : Fin n → ℝ) : Ideal.rsqrt ((((∑ k, a k * a k) / (n : ℝ) + epsL : ℝ)) : EReal) = ((irms epsL a : ℝ) : EReal) :=
  rsqrt_msq a _ epsL_pos

theorem div_msq {n : ℕ} {e : ℝ} (he : 0 < e) (a : Fin n → ℝ) (b : ℝ) :
    Ideal.div (b : EReal) ((msq e a : ℝ) : EReal) = ((b / msq e a : ℝ) : EReal) := by
  rw [Ideal.div_coe (msq_pos he a).ne', ← EReal.coe_mul, mul_one_div]

end Cert.Mix

end
-- ==== Proof.Mix.Tile.lean ====
/-
  The values of a grid point of the mix_ffn kernel over the extended reals, when what it loads are images of real
  numbers: every value the body names is, entry by entry, the image of the block's value for that row.
-/
module

public import proofs.«01_k».proof.Proof.Mix.Values
public import proofs.«01_k».proof.Proof.Mix.Model

@[expose] public section

set_option maxRecDepth 16384

noncomputable section

namespace Cert.KernelIdeal.Mix

open Cert.KernelIdeal Cert.KernelIdeal.Gen Cert.Mix
open Idealize.ShloMosaic

/-- The loads are images of real numbers: the weights `W`, and row `r` the row `R r`. -/
structure IsReal (L : Ld Ideal) (W : Wts) (R : Fin 256 → Row) : Prop where
  sb : ∀ r l, L.sb (ix2 r l) = (((R r).sb l : ℝ) : EReal)
  sw : ∀ r l, L.sw (ix2 r l) = (((R r).sw l : ℝ) : EReal)
  x : ∀ r l, L.x (ix2 r l) = (((R r).x l : ℝ) : EReal)
  tgt : ∀ r l, L.tgt (ix2 r l) = (((R r).tgt l : ℝ) : EReal)
  gIn : ∀ l, L.gIn (ix2 0 l) = ((W.gIn l : ℝ) : EReal)
  bIn : ∀ l, L.bIn (ix2 0 l) = ((W.bIn l : ℝ) : EReal)
  gSb : ∀ l, L.gSb (ix2 0 l) = ((W.gSb l : ℝ) : EReal)
  gSw : ∀ l, L.gSw (ix2 0 l) = ((W.gSw l : ℝ) : EReal)
  g1 : ∀ l, L.g1 (ix2 0 l) = ((W.g1 l : ℝ) : EReal)
  b1 : ∀ l, L.b1 (ix2 0 l) = ((W.b1 l : ℝ) : EReal)
  g2 : ∀ l, L.g2 (ix2 0 l) = ((W.g2 l : ℝ) : EReal)
  b2 : ∀ l, L.b2 (ix2 0 l) = ((W.b2 l : ℝ) : EReal)
  woLo : ∀ k l, L.woLo (ix2 k l) = ((W.wo (lo512 k) l : ℝ) : EReal)
  woHi : ∀ k l, L.woHi (ix2 k l) = ((W.wo (hi512 k) l : ℝ) : EReal)
  wo : ∀ k l, L.wo (ix2 k l) = ((W.wo k l : ℝ) : EReal)
  wGate : ∀ k l, L.wGate (ix2 k l) = ((W.wgu l (lo2816 k) : ℝ) : EReal)
  wUp : ∀ k l, L.wUp (ix2 k l) = ((W.wgu l (hi2816 k) : ℝ) : EReal)
  wDown : ∀ k l, L.wDown (ix2 k l) = ((W.wd k l : ℝ) : EReal)

variable {L : Ld Ideal} {W : Wts} {R : Fin 256 → Row} (h : IsReal L W R)
include h

theorem mgLo_coe (r : Fin 256) (l : Fin 512) : L.mgLo (ix2 r l) = ((Cert.Mix.mgLo W (R r) l : ℝ) : EReal) := by
  pointwise [Ld.mgLo, k0_pay3]
  simp only [h.sb, h.gSb, bits_512, bits_epsR, coe_mul', coe_add', coe_sum, div_nat, rsqrt_msqR]
  rfl

theorem mgHi_coe (r : Fin 256) (l : Fin 512) : L.mgHi (ix2 r l) = ((Cert.Mix.mgHi W (R r) l : ℝ) : EReal) := by
  pointwise [Ld.mgHi, k0_pay4]
  simp only [h.sw, h.gSw, bits_512, bits_epsR, coe_mul', coe_add', coe_sum, div_nat, rsqrt_msqR]
  rfl

theorem c1_coe (r : Fin 256) (l : Fin 1024) : L.c1 (ix2 r l) = ((cen (u1 W (R r)) l : ℝ) : EReal) := by
  pointwise [Ld.c1, k0_pay5]
  simp only [h.x, h.gIn, h.bIn, h.woLo, h.woHi, mgLo_coe h, mgHi_coe h, bits_1024, bits_epsL, bits_alpha, coe_mul', coe_add', coe_sub', coe_sum, div_nat, rsqrt_msqL]
  rfl

theorem q1_coe (r : Fin 256) (l : Fin 1024) :
    L.q1 (ix2 r l) = ((cen (u1 W (R r)) l * cen (u1 W (R r)) l : ℝ) : EReal) := by
  have e : L.q1 (ix2 r l) = L.c1 (ix2 r l) * L.c1 (ix2 r l) := rfl
  rw [e, c1_coe h, coe_mul']

theorem i1_coe (r : Fin 256) : L.i1 (ix2 r 0) = ((i1 W (R r) : ℝ) : EReal) := by
  pointwise [Ld.i1, k0_pay7]
  simp only [q1_coe h, bits_1024, bits_epsL, coe_mul', coe_add', coe_sum, div_nat, rsqrt_msqL]
  rfl

theorem n1_coe (r : Fin 256) (l : Fin 1024) : L.n1 (ix2 r l) = ((n1 W (R r) l : ℝ) : EReal) := by
  pointwise [Ld.n1, k0_pay8]
  have e : k0_pay7 (F := Ideal) L.q1 (ix2 r 0) = ((i1 W (R r) : ℝ) : EReal) := i1_coe h r
  simp only [e, c1_coe h, coe_mul']
  rfl

theorem h1f_coe (r : Fin 256) (l : Fin 1024) : k0_pay9 (F := Ideal) L.c1 L.q1 L.g1 L.b1 (ix2 r l) = ((h1 W (R r) l : ℝ) : EReal) := by
  pointwise [k0_pay9]
  have e : k0_pay8 (F := Ideal) L.c1 L.q1 (ix2 r l) = ((n1 W (R r) l : ℝ) : EReal) := n1_coe h r l
  simp only [e, h.g1, h.b1, coe_mul', coe_add']
  rfl

theorem h1_coe (r : Fin 256) (l : Fin 1024) : L.h1 (ix2 r l) = ((h1 W (R r) l : ℝ) : EReal) := h1f_coe h r l

theorem gate_coe (r : Fin 256) (l : Fin 2816) : L.gate (ix2 r l) = ((gate W (R r) l : ℝ) : EReal) := by
  pointwise [Ld.gate, k0_pay11]
  have e : ∀ k, k0_pay10 (F := Ideal) L.c1 L.q1 L.g1 L.b1 (ix2 r k) = ((h1 W (R r) k : ℝ) : EReal) := h1f_coe h r
  simp only [e, h.wGate, coe_mul', coe_sum]
  rfl

theorem up_coe (r : Fin 256) (l : Fin 2816) : L.up (ix2 r l) = ((up W (R r) l : ℝ) : EReal) := by
  pointwise [Ld.up, k0_pay12]
  have e : ∀ k, k0_pay10 (F := Ideal) L.c1 L.q1 L.g1 L.b1 (ix2 r k) = ((h1 W (R r) k : ℝ) : EReal) := h1f_coe h r
  simp only [e, h.wUp, coe_mul', coe_sum]
  rfl

theorem sg_coe (r : Fin 256) (l : Fin 2816) : L.sg (ix2 r l) = ((sg W (R r) l : ℝ) : EReal) := by
  pointwise [Ld.sg, k0_pay13]
  have e : k0_pay11 (F := Ideal) L.c1 L.q1 L.g1 L.b1 L.wGate (ix2 r l) = ((gate W (R r) l : ℝ) : EReal) := gate_coe h r l
  rw [e, Ideal.logistic_coe]
  rfl

theorem silu_coe (r : Fin 256) (l : Fin 2816) : L.silu (ix2 r l) = ((silu W (R r) l : ℝ) : EReal) := by
  have e : L.silu (ix2 r l) = L.gate (ix2 r l) * L.sg (ix2 r l) := rfl
  rw [e, gate_coe h, sg_coe h, coe_mul']
  rfl

theorem act_coe (r : Fin 256) (l : Fin 2816) : L.act (ix2 r l) = ((act W (R r) l : ℝ) : EReal) := by
  have e : L.act (ix2 r l) = L.silu (ix2 r l) * L.up (ix2 r l) := rfl
  rw [e, silu_coe h, up_coe h, coe_mul']
  rfl

theorem u2_coe (r : Fin 256) (l : Fin 1024) : L.u2 (ix2 r l) = ((u2 W (R r) l : ℝ) : EReal) := by
  pointwise [Ld.u2, k0_pay16]
  have e : ∀ k, k0_pay15 (F := Ideal) L.c1 L.q1 L.g1 L.b1 L.wGate L.wUp (ix2 r k) = ((act W (R r) k : ℝ) : EReal) := act_coe h r
  simp only [e, h1f_coe h, h.wDown, bits_alpha, coe_mul', coe_add', coe_sum]
  rfl

theorem m2_coe (r : Fin 256) (l : Fin 1024) : L.m2 (ix2 r l) = ((mean (u2 W (R r)) : ℝ) : EReal) := by
  pointwise [Ld.m2, k0_pay17]
  have e : ∀ k, k0_pay16 (F := Ideal) L.c1 L.q1 L.g1 L.b1 L.wGate L.wUp L.wDown (ix2 r k) = ((u2 W (R r) k : ℝ) : EReal) := u2_coe h r
  simp only [e, bits_1024, coe_sum, div_nat]
  rfl

theorem c2_coe (r : Fin 256) (l : Fin 1024) : k0_pay18 (F := Ideal) L.u2 L.m2 (ix2 r l) = ((cen (u2 W (R r)) l : ℝ) : EReal) := by
  have e : k0_pay18 (F := Ideal) L.u2 L.m2 (ix2 r l) = L.u2 (ix2 r l) - L.m2 (ix2 r l) := rfl
  rw [e, u2_coe h, m2_coe h, coe_sub']
  rfl

theorem i2_coe (r : Fin 256) : L.i2 (ix2 r 0) = ((i2 W (R r) : ℝ) : EReal) := by
  pointwise [Ld.i2, k0_pay19]
  simp only [c2_coe h, bits_1024, bits_epsL, coe_mul', coe_add', coe_sum, div_nat, rsqrt_msqL]
  rfl

theorem n2_coe (r : Fin 256) (l : Fin 1024) : L.n2 (ix2 r l) = ((n2 W (R r) l : ℝ) : EReal) := by
  pointwise [Ld.n2, k0_pay20]
  have e : k0_pay19 (F := Ideal) L.u2 L.m2 (ix2 r 0) = ((i2 W (R r) : ℝ) : EReal) := i2_coe h r
  simp only [e, c2_coe h, coe_mul']
  rfl

theorem err_coe (r : Fin 256) (l : Fin 1024) : L.err (ix2 r l) = ((err W (R r) l : ℝ) : EReal) := by
  pointwise [Ld.err, k0_pay21]
  have e : k0_pay20 (F := Ideal) L.u2 L.m2 (ix2 r l) = ((n2 W (R r) l : ℝ) : EReal) := n2_coe h r l
  simp only [e, h.g2, h.b2, h.tgt, coe_mul', coe_add', coe_sub']
  rfl

theorem dh2_coe (r : Fin 256) (l : Fin 1024) : L.dh2 (ix2 r l) = ((dh2 W (R r) l : ℝ) : EReal) := by
  pointwise [Ld.dh2, k0_pay22]
  have e : k0_pay21 (F := Ideal) L.u2 L.m2 L.g2 L.b2 L.tgt (ix2 r l) = ((err W (R r) l : ℝ) : EReal) := err_coe h r l
  simp only [e, bits_inv1024, coe_mul']
  rfl

theorem du2_coe (r : Fin 256) (l : Fin 1024) : L.du2 (ix2 r l) = ((du2 W (R r) l : ℝ) : EReal) := by
  pointwise [Ld.du2, k0_pay27]
  simp only [dh2_coe h, h.g2, n2_coe h, i2_coe h, bits_1024, coe_mul', coe_add', coe_sub', coe_sum, div_nat]
  rfl

theorem du2b_coe (r : Fin 256) (l : Fin 1024) : L.du2b (ix2 r l) = ((du2 W (R r) l : ℝ) : EReal) := du2_coe h r l

theorem dact_coe (r : Fin 256) (l : Fin 2816) : L.dact (ix2 r l) = ((dact W (R r) l : ℝ) : EReal) := by
  pointwise [Ld.dact, k0_pay29]
  have e : ∀ k, k0_pay28 (F := Ideal) L.i2 L.n2 L.dh2 L.g2 (ix2 r k) = ((du2 W (R r) k : ℝ) : EReal) := du2_coe h r
  simp only [e, h.wDown, coe_mul', coe_sum]
  rfl

theorem dsilu_coe (r : Fin 256) (l : Fin 2816) : L.dsilu (ix2 r l) = ((dsilu W (R r) l : ℝ) : EReal) := by
  have e : L.dsilu (ix2 r l) = L.dact (ix2 r l) * L.up (ix2 r l) := rfl
  rw [e, dact_coe h, up_coe h, coe_mul']
  rfl

theorem dsg_coe (r : Fin 256) (l : Fin 2816) :
    L.dsg (ix2 r l) = ((1 + gate W (R r) l * (1 - sg W (R r) l) : ℝ) : EReal) := by
  pointwise [Ld.dsg, k0_pay31]
  simp only [gate_coe h, sg_coe h, one_coe, coe_mul', coe_add', coe_sub']

theorem dgLo_coe (r : Fin 256) (l : Fin 2816) : L.dgLo (ix2 r l) = ((dgLo W (R r) l : ℝ) : EReal) := by
  pointwise [Ld.dgLo, k0_pay32]
  simp only [sg_coe h, dsilu_coe h, dsg_coe h, coe_mul']
  rfl

theorem dgHi_coe (r : Fin 256) (l : Fin 2816) : L.dgHi (ix2 r l) = ((dgHi W (R r) l : ℝ) : EReal) := by
  pointwise [Ld.dgHi, k0_pay33]
  simp only [silu_coe h, dact_coe h, coe_mul']
  rfl

theorem dh1_coe (r : Fin 256) (l : Fin 1024) :
    k0_pay34 (F := Ideal) L.sg L.silu L.du2 L.dact L.dsilu L.dsg L.wGate L.wUp (ix2 r l) = ((dh1 W (R r) l : ℝ) : EReal) := by
  pointwise [k0_pay34]
  have e : ∀ k, k0_pay32 (F := Ideal) L.sg L.dsilu L.dsg (ix2 r k) = ((dgLo W (R r) k : ℝ) : EReal) := dgLo_coe h r
  have e' : ∀ k, k0_pay33 (F := Ideal) L.silu L.dact (ix2 r k) = ((dgHi W (R r) k : ℝ) : EReal) := dgHi_coe h r
  simp only [e, e', h.wGate, h.wUp, du2_coe h, bits_alpha, coe_mul', coe_add', coe_sum]
  rfl

theorem dn1_coe (r : Fin 256) (l : Fin 1024) : L.dn1 (ix2 r l) = ((dn1 W (R r) l : ℝ) : EReal) := by
  pointwise [Ld.dn1, k0_pay37]
  simp only [dh1_coe h, h.g1, coe_mul']
  rfl

theorem sn1_coe (r : Fin 256) : L.sn1 (ix1 r) = ((∑ k, dn1 W (R r) k : ℝ) : EReal) := by
  pointwise [Ld.sn1, k0_pay38]
  have e : ∀ k, k0_pay37 (F := Ideal) L.sg L.silu L.du2 L.dact L.dsilu L.dsg L.wGate L.wUp L.g1 (ix2 r k) = ((dn1 W (R r) k : ℝ) : EReal) := dn1_coe h r
  simp only [e, coe_sum]

theorem du1_coe (r : Fin 256) (l : Fin 1024) : L.du1 (ix2 r l) = ((du1 W (R r) l : ℝ) : EReal) := by
  pointwise [Ld.du1, k0_pay39]
  simp only [i1_coe h, n1_coe h, dn1_coe h, sn1_coe h, bits_1024, coe_mul', coe_add', coe_sub', coe_sum, div_nat]
  rfl

theorem dmg_coe (r : Fin 256) (l : Fin 1024) : L.dmg (ix2 r l) = ((dmg W (R r) l : ℝ) : EReal) := by
  pointwise [Ld.dmg, k0_pay40]
  have e : ∀ k, k0_pay39 (F := Ideal) L.i1 L.n1 L.dn1 L.sn1 (ix2 r k) = ((du1 W (R r) k : ℝ) : EReal) := du1_coe h r
  simp only [e, h.wo, coe_mul', coe_sum]
  rfl

theorem dmgLo_coe (r : Fin 256) (l : Fin 512) :
    k0_pay41 (F := Ideal) L.i1 L.n1 L.dn1 L.sn1 L.wo (ix2 r l) = ((dmg W (R r) (lo512 l) : ℝ) : EReal) := by
  pointwise [k0_pay41]
  exact dmg_coe h r (lo512 l)

theorem dmgHi_coe (r : Fin 256) (l : Fin 512) : k0_pay46 (F := Ideal) L.dmg (ix2 r l) = ((dmg W (R r) (hi512 l) : ℝ) : EReal) := by
  pointwise [k0_pay46]
  exact dmg_coe h r (hi512 l)

theorem iSb_coe (r : Fin 256) : k0_pay42 (F := Ideal) L.sb (ix2 r 0) = ((irms epsR (R r).sb : ℝ) : EReal) := by
  pointwise [k0_pay42]
  simp only [h.sb, bits_512, bits_epsR, coe_mul', coe_add', coe_sum, div_nat, rsqrt_msqR]

theorem iSw_coe (r : Fin 256) : k0_pay47 (F := Ideal) L.sw (ix2 r 0) = ((irms epsR (R r).sw : ℝ) : EReal) := by
  pointwise [k0_pay47]
  simp only [h.sw, bits_512, bits_epsR, coe_mul', coe_add', coe_sum, div_nat, rsqrt_msqR]

theorem nSb_coe (r : Fin 256) (l : Fin 512) : k0_pay43 (F := Ideal) L.sb (ix2 r l) = ((nrm epsR (R r).sb l : ℝ) : EReal) := by
  pointwise [k0_pay43]
  simp only [h.sb, iSb_coe h, coe_mul']
  rfl

theorem nSw_coe (r : Fin 256) (l : Fin 512) : k0_pay48 (F := Ideal) L.sw (ix2 r l) = ((nrm epsR (R r).sw l : ℝ) : EReal) := by
  pointwise [k0_pay48]
  simp only [h.sw, iSw_coe h, coe_mul']
  rfl

theorem dsb_coe (r : Fin 256) (l : Fin 512) : L.dsb (ix2 r l) = ((dsb W (R r) l : ℝ) : EReal) := by
  pointwise [Ld.dsb, k0_pay50, Ld.dsbF, k0_pay44]
  simp only [dmgLo_coe h, h.gSb, nSb_coe h, iSb_coe h, bits_512, coe_mul', coe_sub', coe_sum, div_nat]
  rfl

theorem dsw_coe (r : Fin 256) (l : Fin 512) : L.dsw (ix2 r l) = ((dsw W (R r) l : ℝ) : EReal) := by
  pointwise [Ld.dsw, k0_pay51]
  simp only [dmgHi_coe h, h.gSw, nSw_coe h, iSw_coe h, bits_512, coe_mul', coe_sub', coe_sum, div_nat]
  rfl

/-! ## The point's terms of the statistics -/

theorem st0_coe (x : Vec Ideal S1x1024 .f32) (y : Fin 1024 → ℝ) (hx : ∀ l, x (ix2 0 l) = ((y l : ℝ) : EReal)) (l : Fin 1024) :
    k0_pay23 (F := Ideal) L.u2 L.m2 L.g2 L.b2 L.tgt x (ix2 0 l) = ((y l + ∑ r, tm0 W (R r) l : ℝ) : EReal) := by
  pointwise [k0_pay23]
  have e : ∀ r, k0_pay22 (F := Ideal) L.u2 L.m2 L.g2 L.b2 L.tgt (ix2 r l) = ((dh2 W (R r) l : ℝ) : EReal) := fun r => dh2_coe h r l
  have e' : ∀ r, k0_pay20 (F := Ideal) L.u2 L.m2 (ix2 r l) = ((n2 W (R r) l : ℝ) : EReal) := fun r => n2_coe h r l
  simp only [hx, e, e', coe_mul', coe_add', coe_sum]
  rfl

theorem st1_coe (x : Vec Ideal S1x1024 .f32) (y : Fin 1024 → ℝ) (hx : ∀ l, x (ix2 0 l) = ((y l : ℝ) : EReal)) (l : Fin 1024) :
    k0_pay24 (F := Ideal) L.u2 L.m2 L.g2 L.b2 L.tgt x (ix2 0 l) = ((y l + ∑ r, tm1 W (R r) l : ℝ) : EReal) := by
  pointwise [k0_pay24]
  have e : ∀ r, k0_pay22 (F := Ideal) L.u2 L.m2 L.g2 L.b2 L.tgt (ix2 r l) = ((dh2 W (R r) l : ℝ) : EReal) := fun r => dh2_coe h r l
  simp only [hx, e, coe_mul', coe_add', coe_sum]
  rfl

theorem st2_coe (x : Vec Ideal S1x1024 .f32) (y : ℝ) (hx : ∀ l, x (ix2 0 l) = ((y : ℝ) : EReal)) (l : Fin 1024) :
    k0_pay26 (F := Ideal) L.err (k0_pay25 x) (ix2 0 l) = ((y + (∑ r, tm2 W (R r)) * (1 / 2048) : ℝ) : EReal) := by
  pointwise [k0_pay26, k0_pay25]
  simp only [hx, err_coe h, bits_inv2048, coe_mul', coe_add', coe_sum]
  rfl

theorem st3_coe (x : Vec Ideal S1x1024 .f32) (y : Fin 1024 → ℝ) (hx : ∀ l, x (ix2 0 l) = ((y l : ℝ) : EReal)) (l : Fin 1024) :
    k0_pay35 (F := Ideal) L.n1 L.sg L.silu L.du2 L.dact L.dsilu L.dsg L.wGate L.wUp x (ix2 0 l) = ((y l + ∑ r, tm3 W (R r) l : ℝ) : EReal) := by
  pointwise [k0_pay35]
  simp only [hx, dh1_coe h, n1_coe h, coe_mul', coe_add', coe_sum]
  rfl

theorem st4_coe (x : Vec Ideal S1x1024 .f32) (y : Fin 1024 → ℝ) (hx : ∀ l, x (ix2 0 l) = ((y l : ℝ) : EReal)) (l : Fin 1024) :
    k0_pay36 (F := Ideal) L.sg L.silu L.du2 L.dact L.dsilu L.dsg L.wGate L.wUp x (ix2 0 l) = ((y l + ∑ r, tm4 W (R r) l : ℝ) : EReal) := by
  pointwise [k0_pay36]
  simp only [hx, dh1_coe h, coe_mul', coe_add', coe_sum]
  rfl

theorem st5l_coe (x : Vec Ideal S1x512 .f32) (y : Fin 512 → ℝ) (hx : ∀ l, x (ix2 0 l) = ((y l : ℝ) : EReal)) (l : Fin 512) :
    k0_pay52 (F := Ideal) L.dsbG x (ix2 0 l) = ((y l + ∑ r, tm5l W (R r) l : ℝ) : EReal) := by
  pointwise [k0_pay52, Ld.dsbG, k0_pay45]
  simp only [hx, dmgLo_coe h, nSb_coe h, coe_mul', coe_add', coe_sum]
  rfl

theorem st5r_coe (x : Vec Ideal S1x512 .f32) (y : Fin 512 → ℝ) (hx : ∀ l, x (ix2 0 l) = ((y l : ℝ) : EReal)) (l : Fin 512) :
    k0_pay1 (F := Ideal) L.dswG x (ix2 0 l) = ((y l + ∑ r, tm5r W (R r) l : ℝ) : EReal) := by
  pointwise [k0_pay1, Ld.dswG, k0_pay49]
  simp only [hx, dmgHi_coe h, nSw_coe h, coe_mul', coe_add', coe_sum]
  rfl

end Cert.KernelIdeal.Mix

end
-- ==== Proof.Mix.Stats.lean ====
/-
  The block of statistics over the extended reals: each point adds its rows' terms to the lines it holds.
-/
module

public import proofs.«01_k».proof.Proof.Mix.Tile
public import Idealize.ShloMosaic.Lib.Pipeline.ValueKit.Tiles

@[expose] public section

set_option maxRecDepth 16384

noncomputable section

namespace Cert.KernelIdeal.Mix

open Cert.KernelIdeal Cert.KernelIdeal.Gen Cert.Mix
open Idealize.ShloMosaic

/-- A store into a block does not touch an element outside its rectangle. -/
theorem canon_skip {A B : ℕ} {e : EltTy} {o n : Fin 2 → ℕ} (inb : ∀ a, o a + n a ≤ (⟨2, ![A, B]⟩ : Shape).size a) (w)
    (L : List (View.Piece (Elt Ideal) (⟨2, ![A, B]⟩ : Shape) e)) (k : Fin A) (l : Fin B)
    (hk : k.val < o 0 ∨ o 0 + n 0 ≤ k.val ∨ l.val < o 1 ∨ o 1 + n 1 ≤ l.val) :
    View.canon ((⟨Rect.unit (s := (⟨2, ![A, B]⟩ : Shape)) o n inb, w⟩ : View.Piece (Elt Ideal) _ e) :: L) (ix2 k l) = View.canon L (ix2 k l) := by
  refine View.canon_cons_of_not_mem _ _ fun hm => ?_
  rw [Rect.mem_set_unit] at hm
  have h0 := hm 0
  have h1 := hm 1
  have e0 : ((ix2 k l : (⟨2, ![A, B]⟩ : Shape).Idx) 0).val = k.val := rfl
  have e1 : ((ix2 k l : (⟨2, ![A, B]⟩ : Shape).Idx) 1).val = l.val := rfl
  omega

/-- The last store into an element of its rectangle is what the element holds. -/
theorem canon_hit {S : Shape} {e : EltTy} {r : Rect S} (w) (L : List (View.Piece (Elt Ideal) S e)) (x : r.shape.Idx) {y : S.Idx} (hy : r.emb x = y) :
    View.canon ((⟨r, w⟩ : View.Piece (Elt Ideal) S e) :: L) y = w x :=
  hy ▸ View.canon_cons_emb r w L x

/-- Two indices are equal if their coordinates are. -/
theorem idx_ext {a b : ℕ} {y y' : (⟨2, ![a, b]⟩ : Shape).Idx} (h0 : (y 0).val = (y' 0).val) (h1 : (y 1).val = (y' 1).val) : y = y' := by
  funext i
  apply Fin.ext
  match i with
  | 0 => exact h0
  | 1 => exact h1

/-- A store of a rectangle into a matrix, read at an element inside the rectangle. -/
theorem canon_at {A B a b o0 o1 : ℕ} {e : EltTy} (inb : ∀ x, ![o0, o1] x + ![a, b] x ≤ (⟨2, ![A, B]⟩ : Shape).size x)
    (w : (⟨2, ![a, b]⟩ : Shape).Idx → Elt Ideal e) (L : List (View.Piece (Elt Ideal) (⟨2, ![A, B]⟩ : Shape) e)) (k : Fin A) (l : Fin B)
    (k' : Fin a) (l' : Fin b) (hk : o0 + 1 * k'.val = k.val) (hl : o1 + 1 * l'.val = l.val) :
    View.canon ((⟨Rect.unit (s := (⟨2, ![A, B]⟩ : Shape)) ![o0, o1] ![a, b] inb, w⟩ : View.Piece (Elt Ideal) _ e) :: L) (ix2 k l) = w (ix2 k' l') :=
  canon_hit (r := Rect.unit (s := (⟨2, ![A, B]⟩ : Shape)) ![o0, o1] ![a, b] inb) w L (ix2 k' l') (idx_ext hk hl)

/-- A matrix written in its left half and in its right half. -/
theorem canon_halves {B b o : ℕ} {e : EltTy} (i1 : ∀ x, ![0, o] x + ![256, b] x ≤ (⟨2, ![256, B]⟩ : Shape).size x)
    (i0 : ∀ x, ![0, 0] x + ![256, b] x ≤ (⟨2, ![256, B]⟩ : Shape).size x) (w1 w0 : (⟨2, ![256, b]⟩ : Shape).Idx → Elt Ideal e)
    (r : Fin 256) (k : Fin B) (j : Fin b) :
    let c := View.canon [(⟨Rect.unit (s := (⟨2, ![256, B]⟩ : Shape)) ![0, o] ![256, b] i1, w1⟩ : View.Piece (Elt Ideal) _ e),
      ⟨Rect.unit (s := (⟨2, ![256, B]⟩ : Shape)) ![0, 0] ![256, b] i0, w0⟩]
    (k.val = j.val → j.val < o → c (ix2 r k) = w0 (ix2 r j)) ∧ (k.val = o + j.val → c (ix2 r k) = w1 (ix2 r j)) := by
  refine ⟨fun hk hj => ?_, fun hk => canon_at i1 w1 _ r k r j (by omega) (by omega)⟩
  refine (canon_skip i1 w1 _ r k (.inr (.inr (.inl ?_)))).trans (canon_at i0 w0 _ r k r j (by omega) (by omega))
  show k.val < o
  omega

/-- The statistics block's lines: five rows, the two halves of the sixth, and two rows of zeros. -/
structure StIs (st : Vec Ideal S8x1024 .f32) (y0 y1 y3 y4 : Fin 1024 → ℝ) (y2 : ℝ) (y5l y5r : Fin 512 → ℝ) : Prop where
  r0 : ∀ l, st (ix2 0 l) = ((y0 l : ℝ) : EReal)
  r1 : ∀ l, st (ix2 1 l) = ((y1 l : ℝ) : EReal)
  r2 : ∀ l : Fin 1024, st (ix2 2 l) = ((y2 : ℝ) : EReal)
  r3 : ∀ l, st (ix2 3 l) = ((y3 l : ℝ) : EReal)
  r4 : ∀ l, st (ix2 4 l) = ((y4 l : ℝ) : EReal)
  r5l : ∀ l, st (ix2 5 (lo512 l)) = ((y5l l : ℝ) : EReal)
  r5r : ∀ l, st (ix2 5 (hi512 l)) = ((y5r l : ℝ) : EReal)
  r6 : ∀ l : Fin 1024, st (ix2 6 l) = ((0 : ℝ) : EReal)
  r7 : ∀ l : Fin 1024, st (ix2 7 l) = ((0 : ℝ) : EReal)

/-- Cleared, it holds zeros. -/
theorem stIs_zero : StIs (k0_pay2 (F := Ideal)) (fun _ => 0) (fun _ => 0) (fun _ => 0) (fun _ => 0) 0 (fun _ => 0) (fun _ => 0) := by
  have e : ∀ (k : Fin 8) (l : Fin 1024), k0_pay2 (F := Ideal) (ix2 k l) = ((0 : ℝ) : EReal) := fun k l => by
    pointwise [k0_pay2]
    rfl
  exact ⟨e _, e _, e _, e _, e _, fun l => e _ _, fun l => e _ _, e _, e _⟩

variable {L : Ld Ideal} {W : Wts} {R : Fin 256 → Row} (h : IsReal L W R)
include h

/-- A point adds its rows' terms. -/
theorem stIs_stats {st : Vec Ideal S8x1024 .f32} {y0 y1 y3 y4 : Fin 1024 → ℝ} {y2 : ℝ} {y5l y5r : Fin 512 → ℝ}
    (s : StIs st y0 y1 y3 y4 y2 y5l y5r) :
    StIs (L.stats st) (fun l => y0 l + ∑ r, tm0 W (R r) l) (fun l => y1 l + ∑ r, tm1 W (R r) l) (fun l => y3 l + ∑ r, tm3 W (R r) l)
      (fun l => y4 l + ∑ r, tm4 W (R r) l) (y2 + (∑ r, tm2 W (R r)) * (1 / 2048)) (fun l => y5l l + ∑ r, tm5l W (R r) l)
      (fun l => y5r l + ∑ r, tm5r W (R r) l) where
  r0 l := by
    unfold Ld.stats Ld.statsOf
    rw [canon_skip (hk := .inl (by decide)), canon_skip (hk := .inl (by decide)), canon_skip (hk := .inl (by decide)),
      canon_skip (hk := .inl (by decide)), canon_skip (hk := .inl (by decide)), canon_skip (hk := .inl (by decide))]
    refine Eq.trans (canon_hit _ _ (ix2 (n0 := 1) (n1 := 1024) 0 l) ?_) ?_
    · exact idx_ext rfl (show 0 + 1 * l.val = l.val by omega)
    exact st0_coe h _ y0 (fun l => by
      refine Eq.trans ?_ (s.r0 l)
      refine congrArg st ?_
      exact idx_ext rfl (show 0 + 1 * l.val = l.val by omega)) l
  r1 l := by
    unfold Ld.stats Ld.statsOf
    rw [canon_skip (hk := .inl (by decide)), canon_skip (hk := .inl (by decide)), canon_skip (hk := .inl (by decide)),
      canon_skip (hk := .inl (by decide)), canon_skip (hk := .inl (by decide))]
    refine Eq.trans (canon_hit _ _ (ix2 (n0 := 1) (n1 := 1024) 0 l) ?_) ?_
    · exact idx_ext rfl (show 0 + 1 * l.val = l.val by omega)
    exact st1_coe h _ y1 (fun l => by
      refine Eq.trans ?_ (s.r1 l)
      refine congrArg st ?_
      exact idx_ext rfl (show 0 + 1 * l.val = l.val by omega)) l
  r2 l := by
    unfold Ld.stats Ld.statsOf
    rw [canon_skip (hk := .inl (by decide)), canon_skip (hk := .inl (by decide)), canon_skip (hk := .inl (by decide)),
      canon_skip (hk := .inl (by decide))]
    refine Eq.trans (canon_hit _ _ (ix2 (n0 := 1) (n1 := 1024) 0 l) ?_) ?_
    · exact idx_ext rfl (show 0 + 1 * l.val = l.val by omega)
    exact st2_coe h _ y2 (fun l => by
      refine Eq.trans ?_ (s.r2 l)
      refine congrArg st ?_
      exact idx_ext rfl (show 0 + 1 * l.val = l.val by omega)) l
  r3 l := by
    unfold Ld.stats Ld.statsOf
    rw [canon_skip (hk := .inl (by decide)), canon_skip (hk := .inl (by decide)), canon_skip (hk := .inl (by decide))]
    refine Eq.trans (canon_hit _ _ (ix2 (n0 := 1) (n1 := 1024) 0 l) ?_) ?_
    · exact idx_ext rfl (show 0 + 1 * l.val = l.val by omega)
    exact st3_coe h _ y3 (fun l => by
      refine Eq.trans ?_ (s.r3 l)
      refine congrArg st ?_
      exact idx_ext rfl (show 0 + 1 * l.val = l.val by omega)) l
  r4 l := by
    unfold Ld.stats Ld.statsOf
    rw [canon_skip (hk := .inl (by decide)), canon_skip (hk := .inl (by decide))]
    refine Eq.trans (canon_hit _ _ (ix2 (n0 := 1) (n1 := 1024) 0 l) ?_) ?_
    · exact idx_ext rfl (show 0 + 1 * l.val = l.val by omega)
    exact st4_coe h _ y4 (fun l => by
      refine Eq.trans ?_ (s.r4 l)
      refine congrArg st ?_
      exact idx_ext rfl (show 0 + 1 * l.val = l.val by omega)) l
  r5l l := by
    unfold Ld.stats Ld.statsOf
    rw [canon_skip (hk := .inr (.inr (.inl l.isLt)))]
    refine Eq.trans (canon_hit _ _ (ix2 (n0 := 1) (n1 := 512) 0 l) ?_) ?_
    · exact idx_ext rfl (show 0 + 1 * l.val = l.val by omega)
    exact st5l_coe h _ y5l (fun l => by
      refine Eq.trans ?_ (s.r5l l)
      refine congrArg st ?_
      exact idx_ext rfl (show 0 + 1 * l.val = l.val by omega)) l
  r5r l := by
    unfold Ld.stats Ld.statsOf
    refine Eq.trans (canon_hit _ _ (ix2 (n0 := 1) (n1 := 512) 0 l) ?_) ?_
    · exact idx_ext rfl (show 512 + 1 * l.val = 512 + l.val by omega)
    exact st5r_coe h _ y5r (fun l => by
      refine Eq.trans ?_ (s.r5r l)
      refine congrArg st ?_
      exact idx_ext rfl (show 512 + 1 * l.val = 512 + l.val by omega)) l
  r6 l := by
    unfold Ld.stats Ld.statsOf
    rw [canon_skip (hk := .inr (.inl (by decide))), canon_skip (hk := .inr (.inl (by decide))), canon_skip (hk := .inr (.inl (by decide))),
      canon_skip (hk := .inr (.inl (by decide))), canon_skip (hk := .inr (.inl (by decide))), canon_skip (hk := .inr (.inl (by decide))),
      canon_skip (hk := .inr (.inl (by decide)))]
    refine Eq.trans (canon_hit _ _ (ix2 (n0 := 8) (n1 := 1024) 6 l) ?_) ?_
    · exact Rect.emb_whole_apply _ _
    exact s.r6 l
  r7 l := by
    unfold Ld.stats Ld.statsOf
    rw [canon_skip (hk := .inr (.inl (by decide))), canon_skip (hk := .inr (.inl (by decide))), canon_skip (hk := .inr (.inl (by decide))),
      canon_skip (hk := .inr (.inl (by decide))), canon_skip (hk := .inr (.inl (by decide))), canon_skip (hk := .inr (.inl (by decide))),
      canon_skip (hk := .inr (.inl (by decide)))]
    refine Eq.trans (canon_hit _ _ (ix2 (n0 := 8) (n1 := 1024) 7 l) ?_) ?_
    · exact Rect.emb_whole_apply _ _
    exact s.r7 l

/-- The block of the merged heads, and that of the gradient at the gate and up products. -/
theorem merged_coe (r : Fin 256) (k : Fin 1024) : L.merged (ix2 r k) = ((mg W (R r) k : ℝ) : EReal) := by
  have key := fun k j => canon_halves inb_S256x1024_S256x512_0_512 inb_S256x1024_S256x512_0_0 L.mgHi L.mgLo r k j
  refine half512 (p := fun k => L.merged (ix2 r k) = ((mg W (R r) k : ℝ) : EReal)) (fun k => ?_) (fun k => ?_) k
  · rw [mg_lo, ← mgLo_coe h r k]
    exact (key (lo512 k) k).1 rfl k.isLt
  · rw [mg_hi, ← mgHi_coe h r k]
    exact (key (hi512 k) k).2 rfl

@[inherit_doc merged_coe]
theorem dgu_coe (r : Fin 256) (k : Fin 5632) : L.dgu (ix2 r k) = ((dg W (R r) k : ℝ) : EReal) := by
  have key := fun k j => canon_halves inb_S256x5632_S256x2816_0_2816 inb_S256x5632_S256x2816_0_0 L.dgHi L.dgLo r k j
  refine half2816 (p := fun k => L.dgu (ix2 r k) = ((dg W (R r) k : ℝ) : EReal)) (fun k => ?_) (fun k => ?_) k
  · rw [dg_lo, ← dgLo_coe h r k]
    exact (key (lo2816 k) k).1 rfl k.isLt
  · rw [dg_hi, ← dgHi_coe h r k]
    exact (key (hi2816 k) k).2 rfl

end Cert.KernelIdeal.Mix

end
-- ==== Proof.Mix.Arrays.lean ====
/-
  The arrays of the mix_ffn call over the extended reals, from arguments that are images of real numbers: what each point
  loads is the images of its rows' values, and each result array ends, entry by entry, with the image of the block's value
  for that row.
-/
module

public import proofs.«01_k».proof.Proof.Mix.Frame
public import proofs.«01_k».proof.Proof.Mix.Stats
public import Idealize.ShloMosaic.Lib.Pipeline.ValueKit.Geometry
public import Idealize.ShloMosaic.Lib.Pipeline.ValueKit.Acc
public import Idealize.ShloMosaic.Lib.Claim
public import Idealize.ShloMosaic.Lib.Pointwise
public import Idealize.ShloMosaic.Lib.StableHlo.ReadAt

@[expose] public section

set_option maxRecDepth 16384

noncomputable section

namespace Cert.KernelIdeal.Mix

open Cert.KernelIdeal Cert.KernelIdeal.Gen Cert.Mix
open Idealize.ShloMosaic Idealize.ShloMosaic.TcCoe
open Idealize.ShloMosaic.Pipeline (Dat Cfg Window)

/-- One device's arguments are images of real numbers: the weights `W`, and row `g` the row `R g`. -/
structure Args (m : (ℓ : Loc nD τ sig) → Buf (Elt Ideal) ℓ) (c : Dev nD) (W : Wts) (R : Fin 8192 → Row) : Prop where
  sb : ∀ r l, m ((c.tc : Thread nD τ).loc main_arg0) (ix2 r l) = (((R r).sb l : ℝ) : EReal)
  sw : ∀ r l, m ((c.tc : Thread nD τ).loc main_arg1) (ix2 r l) = (((R r).sw l : ℝ) : EReal)
  x : ∀ r l, m ((c.tc : Thread nD τ).loc main_arg2) (ix2 r l) = (((R r).x l : ℝ) : EReal)
  gIn : ∀ l, m ((c.tc : Thread nD τ).loc main_arg3) (ix1 l) = ((W.gIn l : ℝ) : EReal)
  bIn : ∀ l, m ((c.tc : Thread nD τ).loc main_arg4) (ix1 l) = ((W.bIn l : ℝ) : EReal)
  gSb : ∀ l, m ((c.tc : Thread nD τ).loc main_arg5) (ix2 0 l) = ((W.gSb l : ℝ) : EReal)
  gSw : ∀ l, m ((c.tc : Thread nD τ).loc main_arg6) (ix2 0 l) = ((W.gSw l : ℝ) : EReal)
  wo : ∀ k l, m ((c.tc : Thread nD τ).loc main_arg7) (ix2 k l) = ((W.wo k l : ℝ) : EReal)
  g1 : ∀ l, m ((c.tc : Thread nD τ).loc main_arg8) (ix2 0 l) = ((W.g1 l : ℝ) : EReal)
  b1 : ∀ l, m ((c.tc : Thread nD τ).loc main_arg9) (ix2 0 l) = ((W.b1 l : ℝ) : EReal)
  wgu : ∀ k l, m ((c.tc : Thread nD τ).loc main_arg10) (ix2 k l) = ((W.wgu k l : ℝ) : EReal)
  wd : ∀ k l, m ((c.tc : Thread nD τ).loc main_arg11) (ix2 k l) = ((W.wd k l : ℝ) : EReal)
  g2 : ∀ l, m ((c.tc : Thread nD τ).loc main_arg12) (ix2 0 l) = ((W.g2 l : ℝ) : EReal)
  b2 : ∀ l, m ((c.tc : Thread nD τ).loc main_arg13) (ix2 0 l) = ((W.b2 l : ℝ) : EReal)
  tgt : ∀ r l, m ((c.tc : Thread nD τ).loc main_arg14) (ix2 r l) = (((R r).tgt l : ℝ) : EReal)

/-- The arrays' row that row `r` of the blocks of point `t` is. -/
def rowOf (t : Fin cfg0.N) (r : Fin 256) : Fin 8192 := ⟨t.val * 256 + r.val, by
  have : t.val < 32 := lt_of_lt_of_eq t.isLt (show cfg0.N = 32 from N_0)
  omega⟩

/-- The blocks of the row arrays are numbered by the point, -/
theorem index_row : ∀ t : Fin cfg0.N, win0_0.index t = ![t.val, 0] ∧ win0_1.index t = ![t.val, 0] ∧ win0_2.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

/-- and those of the vectors are the whole vectors. -/
theorem index_vec : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_20.index t = ![0, 0] :=
  (by decide +kernel : ∀ t : Fin grid0.N, _)

variable (m : (ℓ : Loc nD τ sig) → Buf (Elt Ideal) ℓ) (c : Dev nD)

theorem V_gIn (l : Fin 1024) : V m c main_v0 (ix2 0 l) = m ((c.tc : Thread nD τ).loc main_arg3) (ix1 l) := by
  entry_read
  pointwise

theorem V_bIn (l : Fin 1024) : V m c main_v1 (ix2 0 l) = m ((c.tc : Thread nD τ).loc main_arg4) (ix1 l) := by
  entry_read
  pointwise

theorem V_wo (k l : Fin 1024) : V m c main_v2 (ix2 k l) = m ((c.tc : Thread nD τ).loc main_arg7) (ix2 k l) := by
  entry_read
  pointwise

theorem V_wgu (k : Fin 5632) (l : Fin 1024) : V m c main_v4 (ix2 k l) = m ((c.tc : Thread nD τ).loc main_arg10) (ix2 l k) := by
  entry_read
  pointwise

theorem V_wd (k : Fin 2816) (l : Fin 1024) : V m c main_v5 (ix2 k l) = m ((c.tc : Thread nD τ).loc main_arg11) (ix2 k l) := by
  entry_read
  pointwise

variable {m c} {W : Wts} {R : Fin 8192 → Row} (h : Args m c W R)
include h

set_option maxHeartbeats 1600000 in
/-- What point `t` loads is the images of its rows' values and of the weights. -/
theorem isReal_ld (t : Fin cfg0.N) : IsReal (ld m c t) W (fun r => R (rowOf t r)) where
  sb r l := by
    refine Eq.trans ?_ (h.sb (rowOf t r) l)
    show iblk m c 0 t (ix2 r l) = _
    blk_simp [iblk]
    rw [V_main_arg0]
    refine congrArg _ ?_
    blk_ext [(index_row t).1]
    rfl
  sw r l := by
    refine Eq.trans ?_ (h.sw (rowOf t r) l)
    show iblk m c 1 t (ix2 r l) = _
    blk_simp [iblk]
    rw [V_main_arg1]
    refine congrArg _ ?_
    blk_ext [(index_row t).2.1]
    rfl
  x r l := by
    refine Eq.trans ?_ (h.x (rowOf t r) l)
    show iblk m c 2 t (ix2 r l) = _
    blk_simp [iblk]
    rw [V_main_arg2]
    refine congrArg _ ?_
    blk_ext [(index_row t).2.2.1]
    rfl
  tgt r l := by
    refine Eq.trans ?_ (h.tgt (rowOf t r) l)
    show iblk m c 11 t (ix2 r l) = _
    blk_simp [iblk]
    rw [V_main_arg14]
    refine congrArg _ ?_
    blk_ext [(index_row t).2.2.2.1]
    rfl
  gIn l := by
    refine Eq.trans ?_ ((V_gIn m c l).trans (h.gIn l))
    show iblk m c 3 t (ix2 0 l) = _
    blk_simp [iblk]
    refine congrArg _ ?_
    blk_ext [(index_vec t).1]
  bIn l := by
    refine Eq.trans ?_ ((V_bIn m c l).trans (h.bIn l))
    show iblk m c 4 t (ix2 0 l) = _
    blk_simp [iblk]
    refine congrArg _ ?_
    blk_ext [(index_vec t).2.1]
  gSb l := by
    refine Eq.trans ?_ (h.gSb l)
    show iblk m c 5 t (ix2 0 l) = _
    blk_simp [iblk]
    rw [V_main_arg5]
    refine congrArg _ ?_
    blk_ext [(index_vec t).2.2.1]
  gSw l := by
    refine Eq.trans ?_ (h.gSw l)
    show iblk m c 6 t (ix2 0 l) = _
    blk_simp [iblk]
    rw [V_main_arg6]
    refine congrArg _ ?_
    blk_ext [(index_vec t).2.2.2.1]
  g1 l := by
    refine Eq.trans ?_ (h.g1 l)
    show iblk m c 7 t (ix2 0 l) = _
    blk_simp [iblk]
    rw [V_main_arg8]
    refine congrArg _ ?_
    blk_ext [(index_vec t).2.2.2.2.1]
  b1 l := by
    refine Eq.trans ?_ (h.b1 l)
    show iblk m c 8 t (ix2 0 l) = _
    blk_simp [iblk]
    rw [V_main_arg9]
    refine congrArg _ ?_
    blk_ext [(index_vec t).2.2.2.2.2.1]
  g2 l := by
    refine Eq.trans ?_ (h.g2 l)
    show iblk m c 9 t (ix2 0 l) = _
    blk_simp [iblk]
    rw [V_main_arg12]
    refine congrArg _ ?_
    blk_ext [(index_vec t).2.2.2.2.2.2.1]
  b2 l := by
    refine Eq.trans ?_ (h.b2 l)
    show iblk m c 10 t (ix2 0 l) = _
    blk_simp [iblk]
    rw [V_main_arg13]
    refine congrArg _ ?_
    blk_ext [(index_vec t).2.2.2.2.2.2.2.1]
  woLo k l := by
    refine Eq.trans ?_ ((V_wo m c (lo512 k) l).trans (h.wo (lo512 k) l))
    refine congrArg (V m c main_v2) ?_
    exact idx_ext (show 0 + 1 * k.val = k.val by omega) (show 0 + 1 * l.val = l.val by omega)
  woHi k l := by
    refine Eq.trans ?_ ((V_wo m c (hi512 k) l).trans (h.wo (hi512 k) l))
    refine congrArg (V m c main_v2) ?_
    exact idx_ext (show 512 + 1 * k.val = 512 + k.val by omega) (show 0 + 1 * l.val = l.val by omega)
  wo k l := (V_wo m c k l).trans (h.wo k l)
  wGate k l := by
    refine Eq.trans ?_ ((V_wgu m c (lo2816 k) l).trans (h.wgu l (lo2816 k)))
    refine congrArg (V m c main_v4) ?_
    exact idx_ext (show 0 + 1 * k.val = k.val by omega) (show 0 + 1 * l.val = l.val by omega)
  wUp k l := by
    refine Eq.trans ?_ ((V_wgu m c (hi2816 k) l).trans (h.wgu l (hi2816 k)))
    refine congrArg (V m c main_v4) ?_
    exact idx_ext (show 2816 + 1 * k.val = 2816 + k.val by omega) (show 0 + 1 * l.val = l.val by omega)
  wDown k l := (V_wd m c k l).trans (h.wd k l)

/-! ## The results -/

theorem out_du1 : (dats m 0 c).arrAt 12 cfg0.N = fun i => ((du1 W (R (i 0)) (i 1) : ℝ) : EReal) := by
  refine (dats m 0 c).arrAt_eq_of_covers 12 _ (by decide +kernel) fun t hf y => ?_
  have e : (win0_12.blk t).view.emb y = ix2 (rowOf t (y 0)) (y 1) := by
    blk_ext [(index_row t).2.2.2.2.1]
    rfl
  blk_simp
  rw [after_12, e]
  exact (congrArg _ (eq_ix2 y)).trans (du1_coe (isReal_ld h t) (y 0) (y 1))

theorem out_merged : (dats m 0 c).arrAt 13 cfg0.N = fun i => ((mg W (R (i 0)) (i 1) : ℝ) : EReal) := by
  refine (dats m 0 c).arrAt_eq_of_covers 13 _ (by decide +kernel) fun t hf y => ?_
  have e : (win0_13.blk t).view.emb y = ix2 (rowOf t (y 0)) (y 1) := by
    blk_ext [(index_row t).2.2.2.2.2.1]
    rfl
  blk_simp
  rw [after_13, e]
  exact (congrArg _ (eq_ix2 y)).trans (merged_coe (isReal_ld h t) (y 0) (y 1))

theorem out_h1 : (dats m 0 c).arrAt 14 cfg0.N = fun i => ((h1 W (R (i 0)) (i 1) : ℝ) : EReal) := by
  refine (dats m 0 c).arrAt_eq_of_covers 14 _ (by decide +kernel) fun t hf y => ?_
  have e : (win0_14.blk t).view.emb y = ix2 (rowOf t (y 0)) (y 1) := by
    blk_ext [(index_row t).2.2.2.2.2.2.1]
    rfl
  blk_simp
  rw [after_14, e]
  exact (congrArg _ (eq_ix2 y)).trans (h1_coe (isReal_ld h t) (y 0) (y 1))

theorem out_act : (dats m 0 c).arrAt 15 cfg0.N = fun i => ((act W (R (i 0)) (i 1) : ℝ) : EReal) := by
  refine (dats m 0 c).arrAt_eq_of_covers 15 _ (by decide +kernel) fun t hf y => ?_
  have e : (win0_15.blk t).view.emb y = ix2 (rowOf t (y 0)) (y 1) := by
    blk_ext [(index_row t).2.2.2.2.2.2.2.1]
    rfl
  blk_simp
  rw [after_15, e]
  exact (congrArg _ (eq_ix2 y)).trans (act_coe (isReal_ld h t) (y 0) (y 1))

theorem out_dgu : (dats m 0 c).arrAt 16 cfg0.N = fun i => ((dg W (R (i 0)) (i 1) : ℝ) : EReal) := by
  refine (dats m 0 c).arrAt_eq_of_covers 16 _ (by decide +kernel) fun t hf y => ?_
  have e : (win0_16.blk t).view.emb y = ix2 (rowOf t (y 0)) (y 1) := by
    blk_ext [(index_row t).2.2.2.2.2.2.2.2.1]
    rfl
  blk_simp
  rw [after_16, e]
  exact (congrArg _ (eq_ix2 y)).trans (dgu_coe (isReal_ld h t) (y 0) (y 1))

theorem out_du2 : (dats m 0 c).arrAt 17 cfg0.N = fun i => ((du2 W (R (i 0)) (i 1) : ℝ) : EReal) := by
  refine (dats m 0 c).arrAt_eq_of_covers 17 _ (by decide +kernel) fun t hf y => ?_
  have e : (win0_17.blk t).view.emb y = ix2 (rowOf t (y 0)) (y 1) := by
    blk_ext [(index_row t).2.2.2.2.2.2.2.2.2.1]
    rfl
  blk_simp
  rw [after_17, e]
  exact (congrArg _ (eq_ix2 y)).trans (du2b_coe (isReal_ld h t) (y 0) (y 1))

theorem out_dsb : (dats m 0 c).arrAt 18 cfg0.N = fun i => ((dsb W (R (i 0)) (i 1) : ℝ) : EReal) := by
  refine (dats m 0 c).arrAt_eq_of_covers 18 _ (by decide +kernel) fun t hf y => ?_
  have e : (win0_18.blk t).view.emb y = ix2 (rowOf t (y 0)) (y 1) := by
    blk_ext [(index_row t).2.2.2.2.2.2.2.2.2.2.1]
    rfl
  blk_simp
  rw [after_18, e]
  exact (congrArg _ (eq_ix2 y)).trans (dsb_coe (isReal_ld h t) (y 0) (y 1))

theorem out_dsw : (dats m 0 c).arrAt 19 cfg0.N = fun i => ((dsw W (R (i 0)) (i 1) : ℝ) : EReal) := by
  refine (dats m 0 c).arrAt_eq_of_covers 19 _ (by decide +kernel) fun t hf y => ?_
  have e : (win0_19.blk t).view.emb y = ix2 (rowOf t (y 0)) (y 1) := by
    blk_ext [(index_row t).2.2.2.2.2.2.2.2.2.2.2]
    rfl
  blk_simp
  rw [after_19, e]
  exact (congrArg _ (eq_ix2 y)).trans (dsw_coe (isReal_ld h t) (y 0) (y 1))

/-- The statistics before point `n`: the sums over the first `n` tiles. -/
theorem stIs_stAt (n : ℕ) (hn : n ≤ 32) : StIs (stAt m c n) (fun l => tot (tm0 W · l) R n) (fun l => tot (tm1 W · l) R n)
    (fun l => tot (tm3 W · l) R n) (fun l => tot (tm4 W · l) R n) (tot (tm2 W) R n * (1 / 2048)) (fun l => tot (tm5l W · l) R n)
    (fun l => tot (tm5r W · l) R n) := by
  induction n with
  | zero =>
    simp only [tot_zero, zero_mul]
    exact stIs_zero
  | succ n ih =>
    have ht : n < cfg0.N := lt_of_lt_of_eq hn (show 32 = cfg0.N from N_0.symm)
    have hg : ∀ r, (rowOf ⟨n, ht⟩ r).val = n * 256 + r.val := fun _ => rfl
    simp only [tot_succ _ R n (rowOf ⟨n, ht⟩) hg, add_mul]
    rw [show stAt m c (n + 1) = _ from stAt_succ m c ⟨n, ht⟩]
    exact stIs_stats (isReal_ld h ⟨n, ht⟩) (ih (Nat.le_of_succ_le hn))

theorem out_stats : (dats m 0 c).arrAt 20 cfg0.N = stAt m c 32 := by
  refine (dats m 0 c).arrAt_eq_of_after_last 20 ⟨31, lt_of_lt_of_eq (by decide : 31 < 32) (show 32 = cfg0.N from N_0.symm)⟩ (by decide +kernel) _ fun j => ?_
  refine (congrFun (after_20 m c ⟨31, lt_of_lt_of_eq (by decide : 31 < 32) (show 32 = cfg0.N from N_0.symm)⟩) _).trans ?_
  exact congrArg (stAt m c 32) (idx_ext rfl rfl)

end Cert.KernelIdeal.Mix

end
-- ==== Proof.Mix.Ref.lean ====
/-
  The values of the reference program over the extended reals, when its arguments are images of real numbers: every
  named term is, entry by entry, the image of the block's value for that row.
-/
module

public import proofs.«01_k».proof.Proof.Gen.ReferenceIdeal.Run
public import proofs.«01_k».proof.Proof.Mix.Model

@[expose] public section

set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

/-- The arguments are images of real numbers: the weights `W`, and row `g` the row `R g`. -/
structure IsReal (V0 : Valuation τ sig (Elt Ideal)) (W : Wts) (R : Fin 8192 → Row) : Prop where
  sb : ∀ r l, V0 (Proc.devRef .tc main_arg0) (ix2 r l) = (((R r).sb l : ℝ) : EReal)
  sw : ∀ r l, V0 (Proc.devRef .tc main_arg1) (ix2 r l) = (((R r).sw l : ℝ) : EReal)
  x : ∀ r l, V0 (Proc.devRef .tc main_arg2) (ix2 r l) = (((R r).x l : ℝ) : EReal)
  tgt : ∀ r l, V0 (Proc.devRef .tc main_arg14) (ix2 r l) = (((R r).tgt l : ℝ) : EReal)
  gIn : ∀ l, V0 (Proc.devRef .tc main_arg3) (ix1 l) = ((W.gIn l : ℝ) : EReal)
  bIn : ∀ l, V0 (Proc.devRef .tc main_arg4) (ix1 l) = ((W.bIn l : ℝ) : EReal)
  gSb : ∀ l, V0 (Proc.devRef .tc main_arg5) (ix2 0 l) = ((W.gSb l : ℝ) : EReal)
  gSw : ∀ l, V0 (Proc.devRef .tc main_arg6) (ix2 0 l) = ((W.gSw l : ℝ) : EReal)
  wo : ∀ k l, V0 (Proc.devRef .tc main_arg7) (ix2 k l) = ((W.wo k l : ℝ) : EReal)
  g1 : ∀ l, V0 (Proc.devRef .tc main_arg8) (ix2 0 l) = ((W.g1 l : ℝ) : EReal)
  b1 : ∀ l, V0 (Proc.devRef .tc main_arg9) (ix2 0 l) = ((W.b1 l : ℝ) : EReal)
  wgu : ∀ k l, V0 (Proc.devRef .tc main_arg10) (ix2 k l) = ((W.wgu k l : ℝ) : EReal)
  wd : ∀ k l, V0 (Proc.devRef .tc main_arg11) (ix2 k l) = ((W.wd k l : ℝ) : EReal)
  g2 : ∀ l, V0 (Proc.devRef .tc main_arg12) (ix2 0 l) = ((W.g2 l : ℝ) : EReal)
  b2 : ∀ l, V0 (Proc.devRef .tc main_arg13) (ix2 0 l) = ((W.b2 l : ℝ) : EReal)

variable {V0 : Valuation τ sig (Elt Ideal)} {W : Wts} {R : Fin 8192 → Row} (h : IsReal V0 W R)
include h

theorem v3_coe (r : Fin 8192) : res_main_v3 V0 (ix2 r 0) = ((mean (R r).x : ℝ) : EReal) := by
  pointwise [res_main_v3]
  simp only [h.x, bits_1024, coe_sum, div_nat]
  rfl

theorem v5_coe (r : Fin 8192) (l : Fin 1024) : res_main_v5 V0 (ix2 r l) = ((cen (R r).x l : ℝ) : EReal) := by
  pointwise [res_main_v5]
  simp only [h.x, v3_coe h, coe_sub']
  rfl

theorem v34_coe (r : Fin 8192) : res_main_v34 V0 (ix2 r 0) = ((msq epsR (R r).sb : ℝ) : EReal) := by
  pointwise [res_main_v34]
  simp only [h.sb, bits_512, bits_epsR, coe_mul', coe_add', coe_sum, div_nat]
  rfl

theorem v35_coe (r : Fin 8192) : res_main_v35 V0 (ix2 r 0) = ((irms epsR (R r).sb : ℝ) : EReal) := by
  pointwise [res_main_v35]
  rw [v34_coe h, rsqrt_pos (msq_pos epsR_pos _)]
  rfl

theorem v40_coe (r : Fin 8192) (l : Fin 512) : res_main_v40 V0 (ix2 r l) = ((nrm epsR (R r).sb l : ℝ) : EReal) := by
  pointwise [res_main_v40]
  simp only [h.sb, v35_coe h, coe_mul']
  rfl

theorem v41_coe (l : Fin 512) : res_main_v41 V0 (ix2 0 l) = ((W.gSb l : ℝ) : EReal) := by
  pointwise [res_main_v41]
  simp only [h.gSb]

theorem v52_coe (r : Fin 8192) : res_main_v52 V0 (ix2 r 0) = ((msq epsR (R r).sw : ℝ) : EReal) := by
  pointwise [res_main_v52]
  simp only [h.sw, bits_512, bits_epsR, coe_mul', coe_add', coe_sum, div_nat]
  rfl

theorem v53_coe (r : Fin 8192) : res_main_v53 V0 (ix2 r 0) = ((irms epsR (R r).sw : ℝ) : EReal) := by
  pointwise [res_main_v53]
  rw [v52_coe h, rsqrt_pos (msq_pos epsR_pos _)]
  rfl

theorem v58_coe (r : Fin 8192) (l : Fin 512) : res_main_v58 V0 (ix2 r l) = ((nrm epsR (R r).sw l : ℝ) : EReal) := by
  pointwise [res_main_v58]
  simp only [h.sw, v53_coe h, coe_mul']
  rfl

theorem v59_coe (l : Fin 512) : res_main_v59 V0 (ix2 0 l) = ((W.gSw l : ℝ) : EReal) := by
  pointwise [res_main_v59]
  simp only [h.gSw]

theorem v62_lo (r : Fin 8192) (l : Fin 512) : res_main_v62 V0 (ix2 r (lo512 l)) = ((mgLo W (R r) l : ℝ) : EReal) := by
  pointwise [res_main_v62, lo512]
  simp only [v40_coe h, v41_coe h, coe_mul']
  rfl

theorem v62_hi (r : Fin 8192) (l : Fin 512) : res_main_v62 V0 (ix2 r (hi512 l)) = ((mgHi W (R r) l : ℝ) : EReal) := by
  pointwise [res_main_v62, hi512]
  simp only [v58_coe h, v59_coe h, coe_mul']
  rfl

omit h in
/-- A sum over the merged heads' columns whose terms are known in each half. -/
theorem sum_1024 (f : Fin 1024 → EReal) (p q : Fin 512 → ℝ) (hp : ∀ k, f (lo512 k) = ((p k : ℝ) : EReal))
    (hq : ∀ k, f (hi512 k) = ((q k : ℝ) : EReal)) : ∑ k, f k = (((∑ k, p k) + ∑ k, q k : ℝ) : EReal) := by
  rw [Fin.sum_univ_two_halves 512 512 rfl, ← coe_add', ← coe_sum, ← coe_sum]
  exact congrArg₂ (· + ·) (Finset.sum_congr rfl fun k _ => hp k) (Finset.sum_congr rfl fun k _ => hq k)

omit h in
/-- The same over the gate and up product's columns. -/
theorem sum_5632 (f : Fin 5632 → EReal) (p q : Fin 2816 → ℝ) (hp : ∀ k, f (lo2816 k) = ((p k : ℝ) : EReal))
    (hq : ∀ k, f (hi2816 k) = ((q k : ℝ) : EReal)) : ∑ k, f k = (((∑ k, p k) + ∑ k, q k : ℝ) : EReal) := by
  rw [Fin.sum_univ_two_halves 2816 2816 rfl, ← coe_add', ← coe_sum, ← coe_sum]
  exact congrArg₂ (· + ·) (Finset.sum_congr rfl fun k _ => hp k) (Finset.sum_congr rfl fun k _ => hq k)

theorem v66_coe (r : Fin 8192) (l : Fin 1024) : res_main_v66 V0 (ix2 r l) = ((u1 W (R r) l : ℝ) : EReal) := by
  have e := sum_1024 (fun k => HMul.hMul (α := EReal) (β := EReal) (res_main_v62 V0 (ix2 r k)) (V0 (Proc.devRef .tc main_arg7) (ix2 k l)))
    (fun k => mgLo W (R r) k * W.wo (lo512 k) l) (fun k => mgHi W (R r) k * W.wo (hi512 k) l)
    (fun k => by rw [v62_lo h, h.wo, coe_mul']) (fun k => by rw [v62_hi h, h.wo, coe_mul'])
  pointwise [res_main_v66]
  rw [e]
  simp only [h.x, h.gIn, h.bIn, v3_coe h, v5_coe h, bits_1024, bits_epsL, bits_alpha, coe_mul', coe_add', coe_sub', coe_sum, div_nat, rsqrt_msqL]
  refine congrArg Real.toEReal ?_
  unfold u1
  rw [add_assoc]
  rfl

theorem v72_coe (r : Fin 8192) : res_main_v72 V0 (ix2 r 0) = ((mean (u1 W (R r)) : ℝ) : EReal) := by
  pointwise [res_main_v72]
  simp only [v66_coe h, bits_1024, coe_sum, div_nat]
  rfl

theorem v74_coe (r : Fin 8192) (l : Fin 1024) : res_main_v74 V0 (ix2 r l) = ((cen (u1 W (R r)) l : ℝ) : EReal) := by
  pointwise [res_main_v74]
  simp only [v66_coe h, v72_coe h, coe_sub']
  rfl

theorem v83_coe (r : Fin 8192) (l : Fin 1024) : res_main_v83 V0 (ix2 r l) = ((cen (u1 W (R r)) l : ℝ) : EReal) :=
  v74_coe h r l

theorem v85_coe (r : Fin 8192) : res_main_v85 V0 (ix2 r 0) = ((msq epsL (cen (u1 W (R r))) : ℝ) : EReal) := by
  pointwise [res_main_v85]
  simp only [v74_coe h, bits_1024, bits_epsL, coe_mul', coe_add', coe_sum, div_nat]
  rfl

theorem v86_coe (r : Fin 8192) : res_main_v86 V0 (ix2 r 0) = ((i1 W (R r) : ℝ) : EReal) := by
  pointwise [res_main_v86]
  rw [v85_coe h, rsqrt_pos (msq_pos epsL_pos _)]
  rfl

theorem v91_coe (r : Fin 8192) (l : Fin 1024) : res_main_v91 V0 (ix2 r l) = ((n1 W (R r) l : ℝ) : EReal) := by
  pointwise [res_main_v91]
  simp only [v83_coe h, v86_coe h, coe_mul']
  rfl

theorem v92_coe (l : Fin 1024) : res_main_v92 V0 (ix2 0 l) = ((W.g1 l : ℝ) : EReal) := by
  pointwise [res_main_v92]
  simp only [h.g1]

theorem v97_coe (r : Fin 8192) (l : Fin 1024) : res_main_v97 V0 (ix2 r l) = ((h1 W (R r) l : ℝ) : EReal) := by
  pointwise [res_main_v97]
  simp only [v91_coe h, v92_coe h, h.b1, coe_mul', coe_add']
  rfl

theorem v98_coe (r : Fin 8192) (l : Fin 5632) : res_main_v98 V0 (ix2 r l) = ((∑ k, h1 W (R r) k * W.wgu k l : ℝ) : EReal) := by
  pointwise [res_main_v98]
  simp only [v97_coe h, h.wgu, coe_mul', coe_sum]

theorem v99_coe (r : Fin 8192) (l : Fin 2816) : res_main_v99 V0 (ix2 r l) = ((gate W (R r) l : ℝ) : EReal) := by
  pointwise [res_main_v99]
  exact v98_coe h r (lo2816 l)

theorem v100_coe (r : Fin 8192) (l : Fin 2816) : res_main_v100 V0 (ix2 r l) = ((up W (R r) l : ℝ) : EReal) := by
  pointwise [res_main_v100]
  exact v98_coe h r (hi2816 l)

theorem v101_2_coe (r : Fin 8192) (l : Fin 2816) : res_main_v101_2 V0 (ix2 r l) = ((sg W (R r) l : ℝ) : EReal) := by
  pointwise [res_main_v101_2]
  simp only [v99_coe h, coe_neg', Ideal.exp_coe, one_coe, coe_add']
  have hp : (0 : ℝ) < 1 + Real.exp (-gate W (R r) l) := by positivity
  rw [Ideal.div_coe hp.ne', coe_mul', one_mul, one_div]
  rfl

theorem v101_0_coe (r : Fin 8192) (l : Fin 2816) : res_main_v101_0 V0 (ix2 r l) = ((silu W (R r) l : ℝ) : EReal) := by
  pointwise [res_main_v101_0]
  simp only [v99_coe h, v101_2_coe h, coe_mul']
  rfl

theorem v102_coe (r : Fin 8192) (l : Fin 2816) : res_main_v102 V0 (ix2 r l) = ((act W (R r) l : ℝ) : EReal) := by
  pointwise [res_main_v102]
  simp only [v101_0_coe h, v100_coe h, coe_mul']
  rfl

theorem v106_coe (r : Fin 8192) (l : Fin 1024) : res_main_v106 V0 (ix2 r l) = ((u2 W (R r) l : ℝ) : EReal) := by
  pointwise [res_main_v106]
  simp only [v97_coe h, v102_coe h, h.wd, bits_alpha, coe_mul', coe_add', coe_sum]
  rfl

theorem v112_coe (r : Fin 8192) : res_main_v112 V0 (ix2 r 0) = ((mean (u2 W (R r)) : ℝ) : EReal) := by
  pointwise [res_main_v112]
  simp only [v106_coe h, bits_1024, coe_sum, div_nat]
  rfl

theorem v114_coe (r : Fin 8192) (l : Fin 1024) : res_main_v114 V0 (ix2 r l) = ((cen (u2 W (R r)) l : ℝ) : EReal) := by
  pointwise [res_main_v114]
  simp only [v106_coe h, v112_coe h, coe_sub']
  rfl

theorem v123_coe (r : Fin 8192) (l : Fin 1024) : res_main_v123 V0 (ix2 r l) = ((cen (u2 W (R r)) l : ℝ) : EReal) :=
  v114_coe h r l

theorem v125_coe (r : Fin 8192) : res_main_v125 V0 (ix2 r 0) = ((msq epsL (cen (u2 W (R r))) : ℝ) : EReal) := by
  pointwise [res_main_v125]
  simp only [v114_coe h, bits_1024, bits_epsL, coe_mul', coe_add', coe_sum, div_nat]
  rfl

theorem v126_coe (r : Fin 8192) : res_main_v126 V0 (ix2 r 0) = ((i2 W (R r) : ℝ) : EReal) := by
  pointwise [res_main_v126]
  rw [v125_coe h, rsqrt_pos (msq_pos epsL_pos _)]
  rfl

theorem v131_coe (r : Fin 8192) (l : Fin 1024) : res_main_v131 V0 (ix2 r l) = ((n2 W (R r) l : ℝ) : EReal) := by
  pointwise [res_main_v131]
  simp only [v123_coe h, v126_coe h, coe_mul']
  rfl

theorem v132_coe (l : Fin 1024) : res_main_v132 V0 (ix2 0 l) = ((W.g2 l : ℝ) : EReal) := by
  pointwise [res_main_v132]
  simp only [h.g2]

theorem v138_coe (r : Fin 8192) (l : Fin 1024) : res_main_v138 V0 (ix2 r l) = ((err W (R r) l : ℝ) : EReal) := by
  pointwise [res_main_v138]
  simp only [v131_coe h, v132_coe h, h.b2, h.tgt, coe_mul', coe_add', coe_sub']
  rfl

theorem v152_coe (r : Fin 8192) (l : Fin 1024) : res_main_v152 V0 (ix2 r l) = ((dh2 W (R r) l : ℝ) : EReal) := by
  pointwise [res_main_v152]
  simp only [v138_coe h, one_coe, bits_half, bits_two, bits_1024, coe_mul', div_nat]
  refine congrArg Real.toEReal ?_
  unfold dh2
  push_cast
  ring

theorem v160_coe (r : Fin 8192) (l : Fin 1024) : res_main_v160 V0 (ix2 r l) = ((dn2 W (R r) l : ℝ) : EReal) := by
  pointwise [res_main_v160]
  simp only [v152_coe h, v132_coe h, coe_mul']
  rfl

theorem v166_coe (r : Fin 8192) (l : Fin 1024) : res_main_v166 V0 (ix2 r l) = ((dn2 W (R r) l * i2 W (R r) : ℝ) : EReal) := by
  pointwise [res_main_v166]
  simp only [v160_coe h, v126_coe h, coe_mul']

theorem v175_coe (r : Fin 8192) (l : Fin 1024) :
    res_main_v175 V0 (ix2 r l) = ((viaMsq epsL (cen (u2 W (R r))) (dn2 W (R r)) l : ℝ) : EReal) := by
  have e : ∀ x : Fin 1, res_main_v126 V0 (ix2 r x) = ((irms epsL (cen (u2 W (R r))) : ℝ) : EReal) := fun x => by
    rw [Subsingleton.elim x 0]; exact v126_coe h r
  have e' : ∀ x : Fin 1, res_main_v125 V0 (ix2 r x) = ((msq epsL (cen (u2 W (R r))) : ℝ) : EReal) := fun x => by
    rw [Subsingleton.elim x 0]; exact v125_coe h r
  pointwise [res_main_v175]
  simp only [v123_coe h, v160_coe h, e, e', v114_coe h, div_msq epsL_pos, bits_neg_half, bits_two, bits_1024, coe_mul', coe_sum, div_nat,
    Finset.univ_unique, Finset.sum_singleton]
  rfl

theorem v185_coe (r : Fin 8192) (l : Fin 1024) : res_main_v185 V0 (ix2 r l) = ((du2 W (R r) l : ℝ) : EReal) := by
  pointwise [res_main_v185]
  simp only [v166_coe h, v175_coe h, bits_1024, coe_neg', coe_add', coe_sum, div_nat, Finset.univ_unique, Finset.sum_singleton]
  exact congrArg Real.toEReal (lnBack_eq epsL_pos (by norm_num) (u2 W (R r)) (dn2 W (R r)) l)

theorem v186_coe (r : Fin 8192) (l : Fin 2816) : res_main_v186 V0 (ix2 r l) = ((dact W (R r) l : ℝ) : EReal) := by
  pointwise [res_main_v186]
  simp only [v185_coe h, h.wd, coe_mul', coe_sum]
  rfl

theorem v190_coe (r : Fin 8192) (l : Fin 2816) : res_main_v190 V0 (ix2 r l) = ((dsilu W (R r) l : ℝ) : EReal) := by
  pointwise [res_main_v190]
  simp only [v186_coe h, v100_coe h, coe_mul']
  rfl

theorem v192_lo (r : Fin 8192) (l : Fin 2816) : res_main_v192 V0 (ix2 r (lo2816 l)) = ((dgLo W (R r) l : ℝ) : EReal) := by
  pointwise [res_main_v192, lo2816]
  simp only [v190_coe h, v101_2_coe h, v99_coe h, one_coe, coe_mul', coe_add', coe_sub']
  refine congrArg Real.toEReal ?_
  unfold dgLo
  ring

theorem v192_hi (r : Fin 8192) (l : Fin 2816) : res_main_v192 V0 (ix2 r (hi2816 l)) = ((dgHi W (R r) l : ℝ) : EReal) := by
  pointwise [res_main_v192, hi2816]
  simp only [v101_0_coe h, v186_coe h, coe_mul']
  exact congrArg Real.toEReal (mul_comm _ _)

theorem v194_coe (r : Fin 8192) (l : Fin 1024) : res_main_v194 V0 (ix2 r l) = ((dh1 W (R r) l : ℝ) : EReal) := by
  have e := sum_5632 (fun k => HMul.hMul (α := EReal) (β := EReal) (res_main_v192 V0 (ix2 r k)) (V0 (Proc.devRef .tc main_arg10) (ix2 l k)))
    (fun k => dgLo W (R r) k * W.wgu l (lo2816 k)) (fun k => dgHi W (R r) k * W.wgu l (hi2816 k))
    (fun k => by rw [v192_lo h, h.wgu, coe_mul']) (fun k => by rw [v192_hi h, h.wgu, coe_mul'])
  pointwise [res_main_v194]
  rw [e]
  simp only [v185_coe h, bits_alpha, coe_mul', coe_add']
  rfl

theorem v202_coe (r : Fin 8192) (l : Fin 1024) : res_main_v202 V0 (ix2 r l) = ((dn1 W (R r) l : ℝ) : EReal) := by
  pointwise [res_main_v202]
  simp only [v194_coe h, v92_coe h, coe_mul']
  rfl

theorem v208_coe (r : Fin 8192) (l : Fin 1024) : res_main_v208 V0 (ix2 r l) = ((dn1 W (R r) l * i1 W (R r) : ℝ) : EReal) := by
  pointwise [res_main_v208]
  simp only [v202_coe h, v86_coe h, coe_mul']

theorem v217_coe (r : Fin 8192) (l : Fin 1024) :
    res_main_v217 V0 (ix2 r l) = ((viaMsq epsL (cen (u1 W (R r))) (dn1 W (R r)) l : ℝ) : EReal) := by
  have e : ∀ x : Fin 1, res_main_v86 V0 (ix2 r x) = ((irms epsL (cen (u1 W (R r))) : ℝ) : EReal) := fun x => by
    rw [Subsingleton.elim x 0]; exact v86_coe h r
  have e' : ∀ x : Fin 1, res_main_v85 V0 (ix2 r x) = ((msq epsL (cen (u1 W (R r))) : ℝ) : EReal) := fun x => by
    rw [Subsingleton.elim x 0]; exact v85_coe h r
  pointwise [res_main_v217]
  simp only [v83_coe h, v202_coe h, e, e', v74_coe h, div_msq epsL_pos, bits_neg_half, bits_two, bits_1024, coe_mul', coe_sum, div_nat,
    Finset.univ_unique, Finset.sum_singleton]
  rfl

omit h in
/-- The reference's gradient at the first residual sum. -/
def du1T (V0 : Valuation τ sig (Elt Ideal)) : FVec Ideal S8192x1024 .f32 :=
  addf (addf (res_main_v208 V0) (res_main_v217 V0)) (broadcastInDim S8192x1024 ![0] bcast_S8192_S8192x1024_0 (Host.reduceAdd (Host.divf (addf (shapeCast _ (Host.reduceAdd (Host.negf (res_main_v208 V0)) (constant S_ .f32 0x00000000#32) reducesTo_S8192x1024_S8192_d1 h_S_) shapeCasts_S8192_S8192x1) (shapeCast _ (Host.reduceAdd (Host.negf (res_main_v217 V0)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))

theorem du1T_coe (r : Fin 8192) (l : Fin 1024) : du1T V0 (ix2 r l) = ((du1 W (R r) l : ℝ) : EReal) := by
  pointwise [du1T]
  simp only [v208_coe h, v217_coe h, bits_1024, coe_neg', coe_add', coe_sum, div_nat, Finset.univ_unique, Finset.sum_singleton]
  exact congrArg Real.toEReal (lnBack_eq epsL_pos (by norm_num) (u1 W (R r)) (dn1 W (R r)) l)

theorem v228_coe (r : Fin 8192) (l : Fin 1024) : res_main_v228 V0 (ix2 r l) = ((dmg W (R r) l : ℝ) : EReal) := by
  have e : res_main_v228 V0 = Host.dotGeneral dot_S8192x1024_S1024x1024_S8192x1024_1_1_0_0_n_n none (du1T V0) (V0 (Proc.devRef .tc main_arg7)) := rfl
  rw [e]
  pointwise
  simp only [du1T_coe h, h.wo, coe_mul', coe_sum]
  rfl

theorem v229_coe (r : Fin 8192) (l : Fin 512) : res_main_v229 V0 (ix2 r l) = ((dmg W (R r) (lo512 l) : ℝ) : EReal) := by
  pointwise [res_main_v229]
  exact v228_coe h r (lo512 l)

theorem v230_coe (r : Fin 8192) (l : Fin 512) : res_main_v230 V0 (ix2 r l) = ((dmg W (R r) (hi512 l) : ℝ) : EReal) := by
  pointwise [res_main_v230]
  exact v228_coe h r (hi512 l)

theorem v235_coe (r : Fin 8192) (l : Fin 512) : res_main_v235 V0 (ix2 r l) = ((dmg W (R r) (hi512 l) * W.gSw l : ℝ) : EReal) := by
  pointwise [res_main_v235]
  simp only [v230_coe h, v59_coe h, coe_mul']

theorem v253_coe (r : Fin 8192) (l : Fin 512) : res_main_v253 V0 (ix2 r l) = ((dmg W (R r) (lo512 l) * W.gSb l : ℝ) : EReal) := by
  pointwise [res_main_v253]
  simp only [v229_coe h, v41_coe h, coe_mul']

omit h in
/-- The gradient of a root-mean-square norm as the reference composes it, from the norm's row `x`, the gradient `d` at the
    normalised row, the mean square `v` and its reciprocal root `i`. -/
def rmsT (x d : FVec Ideal S8192x512 .f32) (v i : FVec Ideal S8192x1 .f32) : FVec Ideal S8192x512 .f32 :=
  addf (mulf d (broadcastInDim S8192x512 ![0, 1] bcast_S8192x1_S8192x512_0_1 i)) (mulf (broadcastInDim S8192x512 ![0] bcast_S8192_S8192x512_0 (Host.reduceAdd (Host.divf (mulf (shapeCast _ (Host.reduceAdd (mulf x d) (constant S_ .f32 0x00000000#32) reducesTo_S8192x512_S8192_d1 h_S_) shapeCasts_S8192_S8192x1) (mulf (broadcastInDim S8192x1 ![] bcast_S_S8192x1 (constant S_ .f32 0xBF000000#32)) (Host.divf i v))) (broadcastInDim S8192x1 ![] bcast_S_S8192x1 (constant S_ .f32 0x44000000#32))) (constant S_ .f32 0x00000000#32) reducesTo_S8192x1_S8192_d1 h_S_)) (mulf (broadcastInDim S8192x512 ![] bcast_S_S8192x512 (constant S_ .f32 0x40000000#32)) x))

omit h in
theorem rmsT_coe (x d : FVec Ideal S8192x512 .f32) (v i : FVec Ideal S8192x1 .f32) (r : Fin 8192) (a b : Fin 512 → ℝ)
    (hx : ∀ l, x (ix2 r l) = ((a l : ℝ) : EReal)) (hd : ∀ l, d (ix2 r l) = ((b l : ℝ) : EReal))
    (hv : v (ix2 r 0) = ((msq epsR a : ℝ) : EReal)) (hi : i (ix2 r 0) = ((irms epsR a : ℝ) : EReal)) (l : Fin 512) :
    rmsT x d v i (ix2 r l) = ((rmsBack (irms epsR a) (nrm epsR a) b l : ℝ) : EReal) := by
  have e : ∀ x : Fin 1, i (ix2 r x) = ((irms epsR a : ℝ) : EReal) := fun x => by rw [Subsingleton.elim x 0, hi]
  have e' : ∀ x : Fin 1, v (ix2 r x) = ((msq epsR a : ℝ) : EReal) := fun x => by rw [Subsingleton.elim x 0, hv]
  pointwise [rmsT]
  simp only [hx, hd, e, e', div_msq epsR_pos, bits_neg_half, bits_two, bits_512, coe_mul', coe_add', coe_sum, div_nat,
    Finset.univ_unique, Finset.sum_singleton]
  exact congrArg Real.toEReal (rmsBack_eq epsR_pos a b l)

theorem dsbT_coe (r : Fin 8192) (l : Fin 512) :
    rmsT (V0 (Proc.devRef .tc main_arg0)) (res_main_v253 V0) (res_main_v34 V0) (res_main_v35 V0) (ix2 r l) = ((dsb W (R r) l : ℝ) : EReal) :=
  rmsT_coe _ _ _ _ r _ _ (h.sb r) (v253_coe h r) (v34_coe h r) (v35_coe h r) l

theorem dswT_coe (r : Fin 8192) (l : Fin 512) :
    rmsT (V0 (Proc.devRef .tc main_arg1)) (res_main_v235 V0) (res_main_v52 V0) (res_main_v53 V0) (ix2 r l) = ((dsw W (R r) l : ℝ) : EReal) :=
  rmsT_coe _ _ _ _ r _ _ (h.sw r) (v235_coe h r) (v52_coe h r) (v53_coe h r) l

end Cert.ReferenceIdeal.Mix

end
-- ==== Proof.Mix.Finite.lean ====
/-
  What the precondition gives: every entry of every argument is the image of a real number, so the kernel's and the
  reference's arguments are the images of the same weights and rows.
-/
module

public import proofs.«01_k».proof.Defs
public import proofs.«01_k».proof.Proof.Mix.Arrays
public import proofs.«01_k».proof.Proof.Mix.Ref

@[expose] public section

set_option maxRecDepth 16384

noncomputable section

namespace Cert.Mix

open Idealize.ShloMosaic

/-- The shape relations the precondition's operations take. -/
theorem pre_facts : Cert.Pre_finite.Facts where
  bcast_S_S8192x512 := by decide
  bcast_S_S8192x1024 := by decide
  bcast_S_S1024 := by decide
  bcast_S_S1x512 := by decide
  bcast_S_S1024x1024 := by decide
  bcast_S_S1x1024 := by decide
  bcast_S_S1024x5632 := by decide
  bcast_S_S2816x1024 := by decide

theorem bits_inf : Ideal.ofBits .f32 0x7F800000#32 = (⊤ : EReal) := by
  simp [Ideal.ofBits, Ideal.ieee]

/-- An extended real whose absolute value is below infinity is a real number. -/
theorem coe_of_cmp (x : EReal) (h : Ideal.cmp .olt (max x (-x)) (Ideal.ofBits .f32 0x7F800000#32) = 1#1) : x = ((x.toReal : ℝ) : EReal) := by
  have hlt : max x (-x) < ⊤ := by
    by_contra hn
    simp [Ideal.cmp, bits_inf, hn] at h
  refine (EReal.coe_toReal (ne_of_lt (lt_of_le_of_lt (le_max_left _ _) hlt)) fun hb => ?_).symm
  rw [hb] at hlt
  simp at hlt

/-- One conjunct of the precondition, read at an entry. -/
theorem coe_of_pre {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    x i = (((x i).toReal : ℝ) : EReal) :=
  coe_of_cmp (x i) (congrFun h i)

section

open Cert.KernelIdeal

variable (m : (ℓ : Loc nD τ sig) → Buf (Elt Ideal) ℓ) (c : Dev nD)

/-- The weights that the arguments are the images of. -/
def wts : Wts where
  gIn l := EReal.toReal (m ((c.tc : Thread nD τ).loc main_arg3) (ix1 l))
  bIn l := EReal.toReal (m ((c.tc : Thread nD τ).loc main_arg4) (ix1 l))
  gSb l := EReal.toReal (m ((c.tc : Thread nD τ).loc main_arg5) (ix2 0 l))
  gSw l := EReal.toReal (m ((c.tc : Thread nD τ).loc main_arg6) (ix2 0 l))
  wo k l := EReal.toReal (m ((c.tc : Thread nD τ).loc main_arg7) (ix2 k l))
  g1 l := EReal.toReal (m ((c.tc : Thread nD τ).loc main_arg8) (ix2 0 l))
  b1 l := EReal.toReal (m ((c.tc : Thread nD τ).loc main_arg9) (ix2 0 l))
  wgu k l := EReal.toReal (m ((c.tc : Thread nD τ).loc main_arg10) (ix2 k l))
  wd k l := EReal.toReal (m ((c.tc : Thread nD τ).loc main_arg11) (ix2 k l))
  g2 l := EReal.toReal (m ((c.tc : Thread nD τ).loc main_arg12) (ix2 0 l))
  b2 l := EReal.toReal (m ((c.tc : Thread nD τ).loc main_arg13) (ix2 0 l))

/-- The rows that they are the images of. -/
def rows (r : Fin 8192) : Row where
  sb l := EReal.toReal (m ((c.tc : Thread nD τ).loc main_arg0) (ix2 r l))
  sw l := EReal.toReal (m ((c.tc : Thread nD τ).loc main_arg1) (ix2 r l))
  x l := EReal.toReal (m ((c.tc : Thread nD τ).loc main_arg2) (ix2 r l))
  tgt l := EReal.toReal (m ((c.tc : Thread nD τ).loc main_arg14) (ix2 r l))

theorem args_of_pre (h : Cert.Pre_KernelIdeal_finite (hPre_finite := pre_facts) m) : Cert.KernelIdeal.Mix.Args m c (wts m c) (rows m c) := by
  obtain ⟨h0, h1, h2, h3, h4, h5, h6, h7, h8, h9, h10, h11, h12, h13, h14⟩ := h c
  exact
    { sb := fun r l => coe_of_pre _ pre_facts.bcast_S_S8192x512 h0 _
      sw := fun r l => coe_of_pre _ pre_facts.bcast_S_S8192x512 h1 _
      x := fun r l => coe_of_pre _ pre_facts.bcast_S_S8192x1024 h2 _
      gIn := fun l => coe_of_pre _ pre_facts.bcast_S_S1024 h3 _
      bIn := fun l => coe_of_pre _ pre_facts.bcast_S_S1024 h4 _
      gSb := fun l => coe_of_pre _ pre_facts.bcast_S_S1x512 h5 _
      gSw := fun l => coe_of_pre _ pre_facts.bcast_S_S1x512 h6 _
      wo := fun k l => coe_of_pre _ pre_facts.bcast_S_S1024x1024 h7 _
      g1 := fun l => coe_of_pre _ pre_facts.bcast_S_S1x1024 h8 _
      b1 := fun l => coe_of_pre _ pre_facts.bcast_S_S1x1024 h9 _
      wgu := fun k l => coe_of_pre _ pre_facts.bcast_S_S1024x5632 h10 _
      wd := fun k l => coe_of_pre _ pre_facts.bcast_S_S2816x1024 h11 _
      g2 := fun l => coe_of_pre _ pre_facts.bcast_S_S1x1024 h12 _
      b2 := fun l => coe_of_pre _ pre_facts.bcast_S_S1x1024 h13 _
      tgt := fun r l => coe_of_pre _ pre_facts.bcast_S_S8192x1024 h14 _ }

end

end Cert.Mix

end
-- ==== Proof.Mix.RefStats.lean ====
/-
  The statistics array of the reference over the extended reals, when its arguments are images of real numbers: each row is
  the column sums of a row's terms over all rows, the loss row half the mean square error, and the last two rows zero.
-/
module

public import proofs.«01_k».proof.Proof.Mix.Ref

@[expose] public section

set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

/-- The column sums of a matrix, as the reference composes them: reduced over the rows, then over an axis of length one. -/
def sums (x : FVec Ideal S8192x1024 .f32) : FVec Ideal S1024 .f32 :=
  Host.reduceAdd (shapeCast _ (Host.reduceAdd x (constant S_ .f32 0x00000000#32) reducesTo_S8192x1024_S1024_d0 h_S_) shapeCasts_S1024_S1x1024) (constant S_ .f32 0x00000000#32) reducesTo_S1x1024_S1024_d0 h_S_

@[inherit_doc sums]
def sums512 (x : FVec Ideal S8192x512 .f32) : FVec Ideal S512 .f32 :=
  Host.reduceAdd (shapeCast _ (Host.reduceAdd x (constant S_ .f32 0x00000000#32) reducesTo_S8192x512_S512_d0 h_S_) shapeCasts_S512_S1x512) (constant S_ .f32 0x00000000#32) reducesTo_S1x512_S512_d0 h_S_

/-- Half the sum of the rows' mean squares. -/
def lossOf (x : FVec Ideal S8192x1024 .f32) : FVec Ideal S_ .f32 :=
  mulf (constant S_ .f32 0x3F000000#32) (Host.reduceAdd (Host.divf (Host.reduceAdd (mulf x x) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

theorem sums_coe (x : FVec Ideal S8192x1024 .f32) (f : Fin 8192 → Fin 1024 → ℝ) (hx : ∀ r l, x (ix2 r l) = ((f r l : ℝ) : EReal)) (l : Fin 1024) :
    sums x (ix1 l) = ((∑ r, f r l : ℝ) : EReal) := by
  pointwise [sums]
  simp only [hx, coe_sum, Finset.univ_unique, Finset.sum_singleton]

theorem sums512_coe (x : FVec Ideal S8192x512 .f32) (f : Fin 8192 → Fin 512 → ℝ) (hx : ∀ r l, x (ix2 r l) = ((f r l : ℝ) : EReal)) (l : Fin 512) :
    sums512 x (ix1 l) = ((∑ r, f r l : ℝ) : EReal) := by
  pointwise [sums512]
  simp only [hx, coe_sum, Finset.univ_unique, Finset.sum_singleton]

theorem lossOf_coe (x : FVec Ideal S8192x1024 .f32) (f : Fin 8192 → Fin 1024 → ℝ) (hx : ∀ r l, x (ix2 r l) = ((f r l : ℝ) : EReal)) :
    lossOf x (fun a => a.elim0) = (((∑ r, ∑ l, f r l * f r l) * (1 / 2048) : ℝ) : EReal) := by
  pointwise [lossOf]
  simp only [hx, bits_1024, bits_half, coe_mul', coe_sum, div_nat]
  refine congrArg Real.toEReal ?_
  rw [← Finset.sum_div]
  ring

/-- The reference's statistics array: eight rows, one under the other. -/
def statsT (V0 : Valuation τ sig (Elt Ideal)) : FVec Ideal S8x1024 .f32 :=
  concatenate S8x1024 0 [
    ⟨S1x1024, broadcastInDim S1x1024 ![1] bcast_S1024_S1x1024_1 (sums (mulf (res_main_v131 V0) (res_main_v152 V0)))⟩,
    ⟨S1x1024, broadcastInDim S1x1024 ![1] bcast_S1024_S1x1024_1 (sums (res_main_v152 V0))⟩,
    ⟨S1x1024, broadcastInDim S1x1024 ![1] bcast_S1024_S1x1024_1 (broadcastInDim S1024 ![] bcast_S_S1024 (lossOf (res_main_v138 V0)))⟩,
    ⟨S1x1024, broadcastInDim S1x1024 ![1] bcast_S1024_S1x1024_1 (sums (mulf (res_main_v91 V0) (res_main_v194 V0)))⟩,
    ⟨S1x1024, broadcastInDim S1x1024 ![1] bcast_S1024_S1x1024_1 (sums (res_main_v194 V0))⟩,
    ⟨S1x1024, broadcastInDim S1x1024 ![1] bcast_S1024_S1x1024_1 (concatenate S1024 0 [
      ⟨S512, sums512 (mulf (res_main_v40 V0) (res_main_v229 V0))⟩,
      ⟨S512, sums512 (mulf (res_main_v58 V0) (res_main_v230 V0))⟩] concatenates_S512_S512_S1024_d0)⟩,
    ⟨S1x1024, broadcastInDim S1x1024 ![1] bcast_S1024_S1x1024_1 (res_main_v267 V0)⟩,
    ⟨S1x1024, broadcastInDim S1x1024 ![1] bcast_S1024_S1x1024_1 (res_main_v267 V0)⟩]
    concatenates_S1x1024_S1x1024_S1x1024_S1x1024_S1x1024_S1x1024_S1x1024_S1x1024_S8x1024_d0

variable {V0 : Valuation τ sig (Elt Ideal)} {W : Wts} {R : Fin 8192 → Row} (h : IsReal V0 W R)
include h

theorem stats_r0 (l : Fin 1024) : statsT V0 (ix2 0 l) = ((∑ r, tm0 W (R r) l : ℝ) : EReal) := by
  pointwise [statsT]
  exact sums_coe _ _ (fun r l => by pointwise; rw [v131_coe h, v152_coe h, coe_mul']; exact congrArg Real.toEReal (mul_comm _ _)) l

theorem stats_r1 (l : Fin 1024) : statsT V0 (ix2 1 l) = ((∑ r, tm1 W (R r) l : ℝ) : EReal) := by
  pointwise [statsT]
  exact sums_coe _ _ (fun r l => v152_coe h r l) l

theorem stats_r2 (l : Fin 1024) : statsT V0 (ix2 2 l) = (((∑ r, tm2 W (R r)) * (1 / 2048) : ℝ) : EReal) := by
  pointwise [statsT]
  exact lossOf_coe _ _ (fun r l => v138_coe h r l)

theorem stats_r3 (l : Fin 1024) : statsT V0 (ix2 3 l) = ((∑ r, tm3 W (R r) l : ℝ) : EReal) := by
  pointwise [statsT]
  exact sums_coe _ _ (fun r l => by pointwise; rw [v91_coe h, v194_coe h, coe_mul']; exact congrArg Real.toEReal (mul_comm _ _)) l

theorem stats_r4 (l : Fin 1024) : statsT V0 (ix2 4 l) = ((∑ r, tm4 W (R r) l : ℝ) : EReal) := by
  pointwise [statsT]
  exact sums_coe _ _ (fun r l => v194_coe h r l) l

theorem stats_r5l (l : Fin 512) : statsT V0 (ix2 5 (lo512 l)) = ((∑ r, tm5l W (R r) l : ℝ) : EReal) := by
  pointwise [statsT, lo512]
  exact sums512_coe _ _ (fun r l => by pointwise; rw [v40_coe h, v229_coe h, coe_mul']; exact congrArg Real.toEReal (mul_comm _ _)) l

theorem stats_r5r (l : Fin 512) : statsT V0 (ix2 5 (hi512 l)) = ((∑ r, tm5r W (R r) l : ℝ) : EReal) := by
  pointwise [statsT, hi512]
  exact sums512_coe _ _ (fun r l => by pointwise; rw [v58_coe h, v230_coe h, coe_mul']; exact congrArg Real.toEReal (mul_comm _ _)) l

omit h in
theorem stats_r6 (l : Fin 1024) : statsT V0 (ix2 6 l) = ((0 : ℝ) : EReal) := by
  pointwise [statsT, res_main_v267]
  exact zero_coe

omit h in
theorem stats_r7 (l : Fin 1024) : statsT V0 (ix2 7 l) = ((0 : ℝ) : EReal) := by
  pointwise [statsT, res_main_v267]
  exact zero_coe

theorem v62_coe (r : Fin 8192) (l : Fin 1024) : res_main_v62 V0 (ix2 r l) = ((mg W (R r) l : ℝ) : EReal) :=
  half512 (p := fun l => res_main_v62 V0 (ix2 r l) = ((mg W (R r) l : ℝ) : EReal))
    (fun l => by rw [v62_lo h, mg_lo]) (fun l => by rw [v62_hi h, mg_hi]) l

theorem v192_coe (r : Fin 8192) (l : Fin 5632) : res_main_v192 V0 (ix2 r l) = ((dg W (R r) l : ℝ) : EReal) :=
  half2816 (p := fun l => res_main_v192 V0 (ix2 r l) = ((dg W (R r) l : ℝ) : EReal))
    (fun l => by rw [v192_lo h, dg_lo]) (fun l => by rw [v192_hi h, dg_hi]) l

end Cert.ReferenceIdeal.Mix

end
-- ==== Proof.Mix.Value.lean ====
/-
  The kernel's and the reference's nine results are the same arrays over the extended reals, when every entry of every
  argument is finite: each is, entry by entry, the image of the block's value for that row, and the two statistics arrays
  hold the same sums over all rows.
-/
module

public import proofs.«01_k».proof.Defs
public import proofs.«01_k».proof.Proof.Mix.Finite
public import proofs.«01_k».proof.Proof.Mix.RefStats
public import Idealize.ShloMosaic.Adequacy

@[expose] public section

set_option maxRecDepth 16384

noncomputable section

namespace Cert.Mix

open Idealize.ShloMosaic Idealize.ShloMosaic.TcCoe Idealize.SL.Sem

/-- The array whose row `r` is the image of `f r`. -/
def image {A B : ℕ} (f : Fin A → Fin B → ℝ) : (⟨2, ![A, B]⟩ : Shape).Idx → EReal := fun i => ((f (i 0) (i 1) : ℝ) : EReal)

theorem eq_image {A B : ℕ} (x : (⟨2, ![A, B]⟩ : Shape).Idx → EReal) (f : Fin A → Fin B → ℝ) (h : ∀ r l, x (ix2 r l) = ((f r l : ℝ) : EReal)) :
    x = image f :=
  funext fun i => (congrArg x (eq_ix2 i)).trans (h (i 0) (i 1))

/-- The rows of a statistics array determine it. -/
theorem stIs_unique {a b : Vec Ideal Cert.KernelIdeal.S8x1024 .f32} {y0 y1 y3 y4 : Fin 1024 → ℝ} {y2 : ℝ} {y5l y5r : Fin 512 → ℝ}
    (ha : Cert.KernelIdeal.Mix.StIs a y0 y1 y3 y4 y2 y5l y5r) (hb : Cert.KernelIdeal.Mix.StIs b y0 y1 y3 y4 y2 y5l y5r) : a = b := by
  have key : ∀ (k : Fin 8) (l : Fin 1024), a (ix2 k l) = b (ix2 k l) := fun k l => by
    fin_cases k
    · exact (ha.r0 l).trans (hb.r0 l).symm
    · exact (ha.r1 l).trans (hb.r1 l).symm
    · exact (ha.r2 l).trans (hb.r2 l).symm
    · exact (ha.r3 l).trans (hb.r3 l).symm
    · exact (ha.r4 l).trans (hb.r4 l).symm
    · exact half512 (p := fun l => a (ix2 5 l) = b (ix2 5 l)) (fun l => (ha.r5l l).trans (hb.r5l l).symm)
        (fun l => (ha.r5r l).trans (hb.r5r l).symm) l
    · exact (ha.r6 l).trans (hb.r6 l).symm
    · exact (ha.r7 l).trans (hb.r7 l).symm
  exact funext fun i => (congrArg a (eq_ix2 i)).trans ((key (i 0) (i 1)).trans (congrArg b (eq_ix2 i)).symm)

section Reference

open Cert.ReferenceIdeal Cert.ReferenceIdeal.Gen Cert.ReferenceIdeal.Value Cert.ReferenceIdeal.Mix Idealize.ShloMosaic.StableHlo

/-- The reference's arguments, being the kernel's, are the images of the same weights and rows. -/
theorem ref_args (m : (ℓ : Loc Cert.KernelIdeal.nD Cert.KernelIdeal.τ Cert.KernelIdeal.sig) → Buf (Elt Ideal) ℓ)
    (m' : (ℓ : Loc nD τ sig) → Buf (Elt Ideal) ℓ) (c : Dev nD) (W : Wts) (R : Fin 8192 → Row) (h : Cert.KernelIdeal.Mix.Args m c W R)
    (hag : m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)
      ∧ m' ((c.tc : Thread nD τ).loc main_arg4) = m ((c.tc : Thread Cert.KernelIdeal.nD Cert.KernelIdeal.τ).loc Cert.KernelIdeal.main_arg4)
      ∧ m' ((c.tc : Thread nD τ).loc main_arg5) = m ((c.tc : Thread Cert.KernelIdeal.nD Cert.KernelIdeal.τ).loc Cert.KernelIdeal.main_arg5)
      ∧ m' ((c.tc : Thread nD τ).loc main_arg6) = m ((c.tc : Thread Cert.KernelIdeal.nD Cert.KernelIdeal.τ).loc Cert.KernelIdeal.main_arg6)
      ∧ m' ((c.tc : Thread nD τ).loc main_arg7) = m ((c.tc : Thread Cert.KernelIdeal.nD Cert.KernelIdeal.τ).loc Cert.KernelIdeal.main_arg7)
      ∧ m' ((c.tc : Thread nD τ).loc main_arg8) = m ((c.tc : Thread Cert.KernelIdeal.nD Cert.KernelIdeal.τ).loc Cert.KernelIdeal.main_arg8)
      ∧ m' ((c.tc : Thread nD τ).loc main_arg9) = m ((c.tc : Thread Cert.KernelIdeal.nD Cert.KernelIdeal.τ).loc Cert.KernelIdeal.main_arg9)
      ∧ m' ((c.tc : Thread nD τ).loc main_arg10) = m ((c.tc : Thread Cert.KernelIdeal.nD Cert.KernelIdeal.τ).loc Cert.KernelIdeal.main_arg10)
      ∧ m' ((c.tc : Thread nD τ).loc main_arg11) = m ((c.tc : Thread Cert.KernelIdeal.nD Cert.KernelIdeal.τ).loc Cert.KernelIdeal.main_arg11)
      ∧ m' ((c.tc : Thread nD τ).loc main_arg12) = m ((c.tc : Thread Cert.KernelIdeal.nD Cert.KernelIdeal.τ).loc Cert.KernelIdeal.main_arg12)
      ∧ m' ((c.tc : Thread nD τ).loc main_arg13) = m ((c.tc : Thread Cert.KernelIdeal.nD Cert.KernelIdeal.τ).loc Cert.KernelIdeal.main_arg13)
      ∧ m' ((c.tc : Thread nD τ).loc main_arg14) = m ((c.tc : Thread Cert.KernelIdeal.nD Cert.KernelIdeal.τ).loc Cert.KernelIdeal.main_arg14)) :
    IsReal (launchContents m' c) W R := by
  obtain ⟨h0, h1, h2, h3, h4, h5, h6, h7, h8, h9, h10, h11, h12, h13, h14⟩ := hag
  exact
    { sb := fun r l => (congrFun h0 _).trans (h.sb r l)
      sw := fun r l => (congrFun h1 _).trans (h.sw r l)
      x := fun r l => (congrFun h2 _).trans (h.x r l)
      gIn := fun l => (congrFun h3 _).trans (h.gIn l)
      bIn := fun l => (congrFun h4 _).trans (h.bIn l)
      gSb := fun l => (congrFun h5 _).trans (h.gSb l)
      gSw := fun l => (congrFun h6 _).trans (h.gSw l)
      wo := fun k l => (congrFun h7 _).trans (h.wo k l)
      g1 := fun l => (congrFun h8 _).trans (h.g1 l)
      b1 := fun l => (congrFun h9 _).trans (h.b1 l)
      wgu := fun k l => (congrFun h10 _).trans (h.wgu k l)
      wd := fun k l => (congrFun h11 _).trans (h.wd k l)
      g2 := fun l => (congrFun h12 _).trans (h.g2 l)
      b2 := fun l => (congrFun h13 _).trans (h.b2 l)
      tgt := fun r l => (congrFun h14 _).trans (h.tgt r l) }

/-- The reference's statistics are the sums over all rows. -/
theorem ref_stats {V0 : Valuation τ sig (Elt Ideal)} {W : Wts} {R : Fin 8192 → Row} (h : IsReal V0 W R) :
    Cert.KernelIdeal.Mix.StIs (statsT V0) (fun l => tot (tm0 W · l) R 32) (fun l => tot (tm1 W · l) R 32)
      (fun l => tot (tm3 W · l) R 32) (fun l => tot (tm4 W · l) R 32) (tot (tm2 W) R 32 * (1 / 2048)) (fun l => tot (tm5l W · l) R 32)
      (fun l => tot (tm5r W · l) R 32) where
  r0 l := by rw [tot_all]; exact stats_r0 h l
  r1 l := by rw [tot_all]; exact stats_r1 h l
  r2 l := by rw [tot_all]; exact stats_r2 h l
  r3 l := by rw [tot_all]; exact stats_r3 h l
  r4 l := by rw [tot_all]; exact stats_r4 h l
  r5l l := by rw [tot_all]; exact stats_r5l h l
  r5r l := by rw [tot_all]; exact stats_r5r h l
  r6 l := stats_r6 l
  r7 l := stats_r7 l

end Reference

set_option maxHeartbeats 1600000 in
/-- The value claim. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  have hA := fun c => args_of_pre m c hpre
  have hR := fun c => ref_args m m' c _ _ (hA c) (hag c)
  refine ⟨fun c => image fun r => du1 (wts m c) (rows m c r), fun c => image fun r => mg (wts m c) (rows m c r),
    fun c => image fun r => h1 (wts m c) (rows m c r), fun c => image fun r => act (wts m c) (rows m c r),
    fun c => image fun r => dg (wts m c) (rows m c r), fun c => image fun r => du2 (wts m c) (rows m c r),
    fun c => image fun r => dsb (wts m c) (rows m c r), fun c => image fun r => dsw (wts m c) (rows m c r),
    fun c => Cert.KernelIdeal.Mix.stAt m c 32, ?_, ?_⟩
  · refine (θ_run Cert.KernelIdeal.defs _ _).mono (fun r h c => ?_) (Cert.KernelIdeal.Mix.run_main_quiescent (F := Ideal) m g)
    have k := fun w => (h.1 c).1 w
    have a := hA c
    exact ⟨(k 12).trans (Cert.KernelIdeal.Mix.out_du1 a), (k 13).trans (Cert.KernelIdeal.Mix.out_merged a),
      (k 14).trans (Cert.KernelIdeal.Mix.out_h1 a), (k 15).trans (Cert.KernelIdeal.Mix.out_act a),
      (k 16).trans (Cert.KernelIdeal.Mix.out_dgu a), (k 17).trans (Cert.KernelIdeal.Mix.out_du2 a),
      (k 18).trans (Cert.KernelIdeal.Mix.out_dsb a), (k 19).trans (Cert.KernelIdeal.Mix.out_dsw a),
      (k 20).trans (Cert.KernelIdeal.Mix.out_stats a), Cert.KernelIdeal.Mix.args_unchanged m r h.1 c⟩
  · refine (θ_run Cert.ReferenceIdeal.defs _ _).mono (fun r h c => ?_) (Cert.ReferenceIdeal.Value.run (F := Ideal) m' g')
    obtain ⟨e0, e1, e2, e3, e4, e5, e6, e7, e8, ea⟩ := h c
    have a := hR c
    exact ⟨e0.trans (eq_image _ _ (Cert.ReferenceIdeal.Mix.du1T_coe a)), e1.trans (eq_image _ _ (Cert.ReferenceIdeal.Mix.v62_coe a)),
      e2.trans (eq_image _ _ (Cert.ReferenceIdeal.Mix.v97_coe a)), e3.trans (eq_image _ _ (Cert.ReferenceIdeal.Mix.v102_coe a)),
      e4.trans (eq_image _ _ (Cert.ReferenceIdeal.Mix.v192_coe a)), e5.trans (eq_image _ _ (Cert.ReferenceIdeal.Mix.v185_coe a)),
      e6.trans (eq_image _ _ (Cert.ReferenceIdeal.Mix.dsbT_coe a)), e7.trans (eq_image _ _ (Cert.ReferenceIdeal.Mix.dswT_coe a)),
      e8.trans (stIs_unique (ref_stats a) (Cert.KernelIdeal.Mix.stIs_stAt (hA c) 32 le_rfl)), ea⟩

end Cert.Mix

end
-- ==== Proof.Wgrad.Tiles.lean ====
/-
  A product summed over the tokens in tiles: a running sum that is set to the first tile's sum at the first of every `P`
  points and grows by one tile's sum at each of the others holds, at the last of them, the sum over all the tiles.
-/
module

public import Idealize.ShloMosaic.Lib.Pointwise.Sums
public import Idealize.ShloMosaic.PureOps.Ideal

@[expose] public section

noncomputable section

namespace Cert.Wgrad

open Idealize.ShloMosaic

/-- What the running sum holds after point `n`: the tiles from the last restart up to it. -/
theorem running {N P : ℕ} (hP : 0 < P) (s : (n : ℕ) → n < N → EReal) (x : ℕ → EReal)
    (first : ∀ n h, n % P = 0 → s n h = 0 + x n)
    (next : ∀ n h h', (n + 1) % P ≠ 0 → s (n + 1) h' = s n h + x (n + 1)) :
    ∀ n h, s n h = ∑ j ∈ Finset.range (n % P + 1), x (n - n % P + j) := by
  intro n
  induction n with
  | zero => intro h; rw [first 0 h (Nat.zero_mod P)]; simp
  | succ n ih =>
    intro h
    by_cases h0 : (n + 1) % P = 0
    · rw [first _ h h0, h0]; simp
    · have hm : (n + 1) % P = n % P + 1 := by
        have a := Nat.div_add_mod n P
        have b : n % P + 1 < P := by
          rcases Nat.lt_or_ge (n % P + 1) P with g | g
          · exact g
          · have l := Nat.mod_lt n hP
            have e : n + 1 = P * (n / P + 1) := by rw [Nat.mul_add]; omega
            exact absurd (by rw [e]; exact Nat.mul_mod_right _ _) h0
        conv_lhs => rw [← a, Nat.add_assoc, Nat.mul_add_mod, Nat.mod_eq_of_lt b]
      have hle : n % P ≤ n := Nat.mod_le n P
      rw [next n (Nat.lt_of_succ_lt h) h h0, ih, hm, Finset.sum_range_succ _ (n % P + 1)]
      have e1 : n + 1 - (n % P + 1) = n - n % P := by omega
      rw [e1]
      congr 2
      omega

/-- At the last of the `P` points the running sum is the sum over all the tokens, point `P * r + j` of the run adding
    the sum over tile `j`. -/
theorem total {N P T K : ℕ} (hP : 0 < P) (hK : P * T = K) (s : (n : ℕ) → n < N → EReal) (x : ℕ → EReal)
    (first : ∀ n h, n % P = 0 → s n h = 0 + x n)
    (next : ∀ n h h', (n + 1) % P ≠ 0 → s (n + 1) h' = s n h + x (n + 1))
    (r : ℕ) (f : Fin K → EReal)
    (tile : ∀ j : Fin P, x (P * r + j.val) = ∑ t : Fin T, f ⟨j.val * T + t.val, by
      have hj := j.isLt; have ht := t.isLt; subst hK
      calc j.val * T + t.val < j.val * T + T := by omega
        _ = (j.val + 1) * T := by rw [Nat.add_mul, Nat.one_mul]
        _ ≤ P * T := Nat.mul_le_mul_right _ (by omega)⟩)
    (n : ℕ) (h : n < N) (hn : n = P * r + (P - 1)) : s n h = ∑ k, f k := by
  have hm : n % P = P - 1 := by rw [hn, Nat.mul_add_mod, Nat.mod_eq_of_lt (by omega)]
  rw [running hP s x first next n h, Fin.sum_univ_tiles P T hK f, hm, Nat.sub_add_cancel hP, Finset.sum_range]
  refine Finset.sum_congr rfl fun j _ => ?_
  rw [← tile j]
  congr 1
  omega

end Cert.Wgrad

end
-- ==== Proof.Wgrad.GateUp.lean ====
/-
  The gradient of the gate and up weight: what the kernel's grid leaves in its result array is, entry by entry, the sum
  over all the tokens, and so is the reference's product.
-/
module

public import proofs.«01_k».proof.Defs
public import proofs.«01_k».proof.Proof.Wgrad.Tiles
public import proofs.«01_k».proof.Proof.Gen.WgradGateUpIdeal.Value
public import proofs.«01_k».proof.Proof.Gen.RefWgradGateUpIdeal.Run
public import Idealize.ShloMosaic.Lib.Pipeline.ValueKit.Basic
public import Idealize.ShloMosaic.Lib.Pipeline.ValueKit.Geometry
public import Idealize.ShloMosaic.Lib.WholeRead
public import Idealize.ShloMosaic.Lib.Pointwise
public import Idealize.ShloMosaic.Adequacy

@[expose] public section

set_option maxRecDepth 16384

noncomputable section

namespace Cert.WgradGateUpIdeal.Sum

open Cert.WgradGateUpIdeal Cert.WgradGateUpIdeal.Gen Cert.WgradGateUpIdeal.Value
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section Cases

variable (c : Dev nD) (i : grid0.Coords) (a3 : Memref sig .tc .vmem S2048x2816 .bf16) (h3 : a3.IsWhole)
  (a4 : Memref sig .tc .vmem S2048x1024 .bf16) (h4 : a4.IsWhole) (a5 : Memref sig .tc .vmem S2816x1024 .bf16) (h5 : a5.IsWhole)
  (a6 : Memref sig .tc .vmem S2816x1024 .f32) (h6 : a6.IsWhole)
  (x0 : Vec F S2048x2816 .bf16) (x1 : Vec F S2048x1024 .bf16) (xs : Vec F S2816x1024 .f32)

/-- The first point of a run leaves its product added to zero in scratch. -/
theorem first (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2816x1024) hz, View.readCov_unit_zero (S := S2816x1024) _ hz]
  simp only [View.readAt_eq_ld, h3.read_unread, h4.read_unread, View.ld_unit_zero (S := S2048x2816) hz, View.ld_unit_zero (S := S2048x1024) hz]

/-- A middle point adds its product to what scratch held. -/
theorem middle (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x2816) hz,
    View.ld_unit_zero (S := S2048x1024) hz, View.ld_unit_zero (S := S2816x1024) hz]

/-- So does the last point of a run, -/
theorem last (hc0 : ¬cond0_0 i) (hc1 : cond0_1 i) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x2816) hz,
    View.ld_unit_zero (S := S2048x1024) hz, View.ld_unit_zero (S := S2816x1024) hz]

/-- and it writes that sum out, rounded. -/
theorem stored (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S2816x1024) _ hz]
  simp only [View.readAt_eq_ld, h3.read_unread, h4.read_unread, h6.read_unread, View.ld_unit_zero (S := S2048x2816) hz,
    View.ld_unit_zero (S := S2048x1024) hz, View.ld_unit_zero (S := S2816x1024) hz]

end Cases

/-- One point's product, entry by entry, -/
def part (a : Vec Ideal S2048x2816 .bf16) (b : Vec Ideal S2048x1024 .bf16) (p : Fin 2816) (q : Fin 1024) : EReal :=
  ∑ k : Fin 2048, a (ix2 k p) * b (ix2 k q)

/-- and its addition. -/
theorem step (a : Vec Ideal S2048x2816 .bf16) (s : Vec Ideal S2816x1024 .f32) (b : Vec Ideal S2048x1024 .bf16) (p : Fin 2816) (q : Fin 1024) :
    k0_pay2 (F := Ideal) a s b (ix2 p q) = s (ix2 p q) + part a b p q := by
  pointwise [k0_pay2]
  rfl

theorem zero (p : Fin 2816) (q : Fin 1024) : k0_pay1 (F := Ideal) (ix2 p q) = 0 := by
  pointwise [k0_pay1]

variable (m : (ℓ : Loc nD τ sig) → Buf (Elt Ideal) ℓ) (c : Dev nD)

/-- The two arguments. -/
abbrev argA : Fin 8192 → Fin 5632 → EReal := fun k p => m ((c.tc : Thread nD τ).loc main_arg0) (ix2 k p)
abbrev argB : Fin 8192 → Fin 1024 → EReal := fun k q => m ((c.tc : Thread nD τ).loc main_arg1) (ix2 k q)

/-- Which blocks a point loads. -/
theorem index : ∀ t : Fin cfg0.N, win0_0.index t = ![t.val % 4, t.val / 4] ∧ win0_1.index t = ![t.val % 4, 0] :=
  (by decide +kernel : ∀ t : Fin grid0.N, _)

theorem blkA (t : Fin cfg0.N) (k : Fin 2048) (p : Fin 2816) (k' : Fin 8192) (p' : Fin 5632) (hk : k'.val = t.val % 4 * 2048 + k.val)
    (hp : p'.val = t.val / 4 * 2816 + p.val) : iblk m c 0 t (ix2 k p) = argA m c k' p' := by
  blk_simp [iblk]
  rw [V_main_arg0]
  refine congrArg _ ?_
  blk_ext [(index t).1, hk, hp]

theorem blkB (t : Fin cfg0.N) (k : Fin 2048) (q : Fin 1024) (k' : Fin 8192) (hk : k'.val = t.val % 4 * 2048 + k.val) :
    iblk m c 1 t (ix2 k q) = argB m c k' q := by
  blk_simp [iblk]
  rw [V_main_arg1]
  refine congrArg _ ?_
  blk_ext [(index t).2, hk]

/-- Point `n`'s product, entry `(p, q)`. -/
def tile (p : Fin 2816) (q : Fin 1024) (n : ℕ) : EReal :=
  if h : n < cfg0.N then part (iblk m c 0 ⟨n, h⟩) (iblk m c 1 ⟨n, h⟩) p q else 0

/-- At the last point of run `r` scratch holds the sums over all the tokens. -/
theorem scratch (r : Fin 2) (p : Fin 2816) (q : Fin 1024) (n : ℕ) (h : n < cfg0.N) (hn : n = 4 * r.val + 3) :
    (outsAt0 m c n h).2 (ix2 p q) = ∑ k : Fin 8192, argA m c k ⟨r.val * 2816 + p.val, by omega⟩ * argB m c k q := by
  have hN : cfg0.N = 8 := N_0
  refine Cert.Wgrad.total (P := 4) (T := 2048) (by decide) (by decide) (fun n h => (outsAt0 m c n h).2 (ix2 p q)) (tile m c p q)
    (fun n h h0 => ?_) (fun n h h' h0 => ?_) r.val (fun k => argA m c k ⟨r.val * 2816 + p.val, by omega⟩ * argB m c k q)
    (fun j => ?_) n h hn
  · have h1 : ¬n % 4 = 3 := by omega
    show (outsAt0 m c n h).2 (ix2 p q) = _
    rw [outsAt0_A m c ⟨n, h⟩ h0 h1]
    dsimp only
    rw [first, step, zero, tile, dif_pos h]
  · show (outsAt0 m c (n + 1) h').2 (ix2 p q) = (outsAt0 m c n h).2 (ix2 p q) + _
    by_cases h1 : (n + 1) % 4 = 3
    · rw [outsAt0_C m c ⟨n + 1, h'⟩ h0 h1]
      dsimp only
      rw [last, step, tile, dif_pos h']
      rfl
    · rw [outsAt0_B m c ⟨n + 1, h'⟩ h0 h1]
      dsimp only
      rw [middle, step, tile, dif_pos h']
      rfl
  · have hj := j.isLt
    have hr := r.isLt
    rw [tile, dif_pos (by omega)]
    exact Finset.sum_congr rfl fun k _ => congrArg₂ (· * ·)
      (blkA m c _ k p _ _ (by dsimp only; omega) (by dsimp only; omega)) (blkB m c _ k q _ (by dsimp only; omega))

/-- What the output block holds there is what scratch holds. -/
theorem out (n : ℕ) (h : n < cfg0.N) (h3 : n % 4 = 3) (y : S2816x1024.Idx) : (outsAt0 m c n h).1 y = (outsAt0 m c n h).2 y := by
  have h0 : ¬n % 4 = 0 := by omega
  rw [outsAt0_C m c ⟨n, h⟩ h0 h3]
  dsimp only
  rw [stored, last]
  rfl

/-- The result array. -/
def result : Buf (Elt Ideal) ((c : Thread nD τ).loc main_v0) := fun i =>
  (∑ k : Fin 8192, argA m c k (i 0) * argB m c k (i 1) : EReal)

theorem final : G2 m c = result m c := by
  funext i
  have h0 : (i 0).val < 5632 := (i 0).isLt
  have h1 : (i 1).val < 1024 := (i 1).isLt
  have hN : cfg0.N = 8 := N_0
  have hr : run2Of i = (i 0).val / 2816 := by show 1 * ((i 0).val / 2816 - 0) + 1 * ((i 1).val / 1024 - 0) = _; omega
  have hp : pt2Of i = 4 * ((i 0).val / 2816) + 3 := by show 4 * run2Of i + 3 = _; rw [hr]
  have hlt : pt2Of i < cfg0.N := by omega
  have hl : loc2Of i = ix2 (n0 := 2816) (n1 := 1024) ⟨(i 0).val % 2816, by omega⟩ ⟨(i 1).val, h1⟩ := by
    funext a; apply Fin.ext
    match a with
    | ⟨0, _⟩ => rfl
    | ⟨1, _⟩ => exact Nat.mod_eq_of_lt h1
  unfold G2
  rw [dif_pos hlt, ← outsAt0_sweep m c _ hlt, out m c _ hlt (by omega), hl,
    scratch m c ⟨(i 0).val / 2816, by omega⟩ _ _ _ hlt hp]
  refine Eq.trans (α := EReal) (b := ∑ k : Fin 8192, argA m c k (i 0) * argB m c k (i 1))
    (Finset.sum_congr rfl fun k _ => congrArg (argA m c k · * argB m c k (i 1)) (Fin.ext ?_)) rfl
  show (i 0).val / 2816 * 2816 + (i 0).val % 2816 = (i 0).val
  omega

end Cert.WgradGateUpIdeal.Sum

namespace Cert.Wgrad

open Idealize.ShloMosaic Idealize.ShloMosaic.TcCoe Idealize.SL.Sem

open Cert.RefWgradGateUpIdeal Cert.RefWgradGateUpIdeal.Gen in
/-- The reference's product, entry by entry. -/
theorem gateUp_ref (a : FVec Ideal S8192x5632 .bf16) (b : FVec Ideal S8192x1024 .bf16) (p : Fin 5632) (q : Fin 1024) :
    (truncf .bf16 (transpose S5632x1024 [1, 0] (transpose S1024x5632 [1, 0] (Host.dotGeneral (F := Ideal)
      dot_S8192x5632_S8192x1024_S5632x1024_0_0_1_1_n_n none (extf .f32 a bitsLt_bf16_f32) (extf .f32 b bitsLt_bf16_f32))
      transposes_S5632x1024_S1024x5632_1_0) transposes_S1024x5632_S5632x1024_1_0) bitsLt_bf16_f32 : FVec Ideal S5632x1024 .bf16) (ix2 p q)
      = ∑ k : Fin 8192, a (ix2 k p) * b (ix2 k q) := by
  pointwise

/-- The gate and up weight's gradient: the value claim. -/
theorem gateUp : Cert.algebraic_WgradGateUpIdeal_RefWgradGateUpIdeal (hWgradGateUpIdeal := Cert.WgradGateUpIdeal.Gen.facts)
    (hRefWgradGateUpIdeal := Cert.RefWgradGateUpIdeal.Gen.facts) := by
  intro m g m' g' _ hag
  refine ⟨fun c => Cert.WgradGateUpIdeal.Sum.result m c, ?_, ?_⟩
  · exact (θ_run Cert.WgradGateUpIdeal.defs _ _).mono
      (fun r h c => ⟨(h c).1.trans (Cert.WgradGateUpIdeal.Sum.final m c), (h c).2⟩) (Cert.WgradGateUpIdeal.Value.run (F := Ideal) m g)
  · refine (θ_run Cert.RefWgradGateUpIdeal.defs _ _).mono (fun r h c => ⟨(h c).1.trans (funext fun i => ?_), (h c).2⟩)
      (Cert.RefWgradGateUpIdeal.Value.run (F := Ideal) m' g')
    obtain ⟨e0, e1⟩ := hag c
    rw [e0, e1, eq_ix2 i]
    exact gateUp_ref _ _ _ _

end Cert.Wgrad

end
-- ==== Proof.Wgrad.Down.lean ====
/-
  The gradient of the down projection: what the kernel's grid leaves in its result array is, entry by entry, the sum
  over all the tokens, and so is the reference's product.
-/
module

public import proofs.«01_k».proof.Defs
public import proofs.«01_k».proof.Proof.Wgrad.Tiles
public import proofs.«01_k».proof.Proof.Gen.WgradDownIdeal.Value
public import proofs.«01_k».proof.Proof.Gen.RefWgradDownIdeal.Run
public import Idealize.ShloMosaic.Lib.Pipeline.ValueKit.Basic
public import Idealize.ShloMosaic.Lib.Pipeline.ValueKit.Geometry
public import Idealize.ShloMosaic.Lib.WholeRead
public import Idealize.ShloMosaic.Lib.Pointwise
public import Idealize.ShloMosaic.Adequacy

@[expose] public section

set_option maxRecDepth 16384

noncomputable section

namespace Cert.WgradDownIdeal.Sum

open Cert.WgradDownIdeal Cert.WgradDownIdeal.Gen Cert.WgradDownIdeal.Value
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section Cases

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16) (h5 : a5.IsWhole)
  (a6 : Memref sig .tc .vmem S1408x1024 .f32) (h6 : a6.IsWhole)
  (x0 : Vec F S2048x1408 .bf16) (x1 : Vec F S2048x1024 .bf16) (xs : Vec F S1408x1024 .f32)

/-- The first point of a run leaves its product added to zero in scratch. -/
theorem first (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]

/-- A middle point adds its product to what scratch held. -/
theorem middle (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1408) hz,
    View.ld_unit_zero (S := S2048x1024) hz, View.ld_unit_zero (S := S1408x1024) hz]

/-- So does the last point of a run, -/
theorem last (hc0 : ¬cond0_0 i) (hc1 : cond0_1 i) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1408) hz,
    View.ld_unit_zero (S := S2048x1024) hz, View.ld_unit_zero (S := S1408x1024) hz]

/-- and it writes that sum out, rounded. -/
theorem stored (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S2048x1408) hz,
    View.ld_unit_zero (S := S2048x1024) hz, View.ld_unit_zero (S := S1408x1024) hz]

end Cases

/-- One point's product, entry by entry, -/
def part (a : Vec Ideal S2048x1408 .bf16) (b : Vec Ideal S2048x1024 .bf16) (p : Fin 1408) (q : Fin 1024) : EReal :=
  ∑ k : Fin 2048, a (ix2 k p) * b (ix2 k q)

/-- and its addition. -/
theorem step (a : Vec Ideal S2048x1408 .bf16) (s : Vec Ideal S1408x1024 .f32) (b : Vec Ideal S2048x1024 .bf16) (p : Fin 1408) (q : Fin 1024) :
    k0_pay2 (F := Ideal) a s b (ix2 p q) = s (ix2 p q) + part a b p q := by
  pointwise [k0_pay2]
  rfl

theorem zero (p : Fin 1408) (q : Fin 1024) : k0_pay1 (F := Ideal) (ix2 p q) = 0 := by
  pointwise [k0_pay1]

variable (m : (ℓ : Loc nD τ sig) → Buf (Elt Ideal) ℓ) (c : Dev nD)

/-- The two arguments. -/
abbrev argA : Fin 8192 → Fin 2816 → EReal := fun k p => m ((c.tc : Thread nD τ).loc main_arg0) (ix2 k p)
abbrev argB : Fin 8192 → Fin 1024 → EReal := fun k q => m ((c.tc : Thread nD τ).loc main_arg1) (ix2 k q)

/-- Which blocks a point loads. -/
theorem index : ∀ t : Fin cfg0.N, win0_0.index t = ![t.val % 4, t.val / 4] ∧ win0_1.index t = ![t.val % 4, 0] :=
  (by decide +kernel : ∀ t : Fin grid0.N, _)

theorem blkA (t : Fin cfg0.N) (k : Fin 2048) (p : Fin 1408) (k' : Fin 8192) (p' : Fin 2816) (hk : k'.val = t.val % 4 * 2048 + k.val)
    (hp : p'.val = t.val / 4 * 1408 + p.val) : iblk m c 0 t (ix2 k p) = argA m c k' p' := by
  blk_simp [iblk]
  rw [V_main_arg0]
  refine congrArg _ ?_
  blk_ext [(index t).1, hk, hp]

theorem blkB (t : Fin cfg0.N) (k : Fin 2048) (q : Fin 1024) (k' : Fin 8192) (hk : k'.val = t.val % 4 * 2048 + k.val) :
    iblk m c 1 t (ix2 k q) = argB m c k' q := by
  blk_simp [iblk]
  rw [V_main_arg1]
  refine congrArg _ ?_
  blk_ext [(index t).2, hk]

/-- Point `n`'s product, entry `(p, q)`. -/
def tile (p : Fin 1408) (q : Fin 1024) (n : ℕ) : EReal :=
  if h : n < cfg0.N then part (iblk m c 0 ⟨n, h⟩) (iblk m c 1 ⟨n, h⟩) p q else 0

/-- At the last point of run `r` scratch holds the sums over all the tokens. -/
theorem scratch (r : Fin 2) (p : Fin 1408) (q : Fin 1024) (n : ℕ) (h : n < cfg0.N) (hn : n = 4 * r.val + 3) :
    (outsAt0 m c n h).2 (ix2 p q) = ∑ k : Fin 8192, argA m c k ⟨r.val * 1408 + p.val, by omega⟩ * argB m c k q := by
  have hN : cfg0.N = 8 := N_0
  refine Cert.Wgrad.total (P := 4) (T := 2048) (by decide) (by decide) (fun n h => (outsAt0 m c n h).2 (ix2 p q)) (tile m c p q)
    (fun n h h0 => ?_) (fun n h h' h0 => ?_) r.val (fun k => argA m c k ⟨r.val * 1408 + p.val, by omega⟩ * argB m c k q)
    (fun j => ?_) n h hn
  · have h1 : ¬n % 4 = 3 := by omega
    show (outsAt0 m c n h).2 (ix2 p q) = _
    rw [outsAt0_A m c ⟨n, h⟩ h0 h1]
    dsimp only
    rw [first, step, zero, tile, dif_pos h]
  · show (outsAt0 m c (n + 1) h').2 (ix2 p q) = (outsAt0 m c n h).2 (ix2 p q) + _
    by_cases h1 : (n + 1) % 4 = 3
    · rw [outsAt0_C m c ⟨n + 1, h'⟩ h0 h1]
      dsimp only
      rw [last, step, tile, dif_pos h']
      rfl
    · rw [outsAt0_B m c ⟨n + 1, h'⟩ h0 h1]
      dsimp only
      rw [middle, step, tile, dif_pos h']
      rfl
  · have hj := j.isLt
    have hr := r.isLt
    rw [tile, dif_pos (by omega)]
    exact Finset.sum_congr rfl fun k _ => congrArg₂ (· * ·)
      (blkA m c _ k p _ _ (by dsimp only; omega) (by dsimp only; omega)) (blkB m c _ k q _ (by dsimp only; omega))

/-- What the output block holds there is what scratch holds. -/
theorem out (n : ℕ) (h : n < cfg0.N) (h3 : n % 4 = 3) (y : S1408x1024.Idx) : (outsAt0 m c n h).1 y = (outsAt0 m c n h).2 y := by
  have h0 : ¬n % 4 = 0 := by omega
  rw [outsAt0_C m c ⟨n, h⟩ h0 h3]
  dsimp only
  rw [stored, last]
  rfl

/-- The result array. -/
def result : Buf (Elt Ideal) ((c : Thread nD τ).loc main_v0) := fun i =>
  (∑ k : Fin 8192, argA m c k (i 0) * argB m c k (i 1) : EReal)

theorem final : G2 m c = result m c := by
  funext i
  have h0 : (i 0).val < 2816 := (i 0).isLt
  have h1 : (i 1).val < 1024 := (i 1).isLt
  have hN : cfg0.N = 8 := N_0
  have hr : run2Of i = (i 0).val / 1408 := by show 1 * ((i 0).val / 1408 - 0) + 1 * ((i 1).val / 1024 - 0) = _; omega
  have hp : pt2Of i = 4 * ((i 0).val / 1408) + 3 := by show 4 * run2Of i + 3 = _; rw [hr]
  have hlt : pt2Of i < cfg0.N := by omega
  have hl : loc2Of i = ix2 (n0 := 1408) (n1 := 1024) ⟨(i 0).val % 1408, by omega⟩ ⟨(i 1).val, h1⟩ := by
    funext a; apply Fin.ext
    match a with
    | ⟨0, _⟩ => rfl
    | ⟨1, _⟩ => exact Nat.mod_eq_of_lt h1
  unfold G2
  rw [dif_pos hlt, ← outsAt0_sweep m c _ hlt, out m c _ hlt (by omega), hl,
    scratch m c ⟨(i 0).val / 1408, by omega⟩ _ _ _ hlt hp]
  refine Eq.trans (α := EReal) (b := ∑ k : Fin 8192, argA m c k (i 0) * argB m c k (i 1))
    (Finset.sum_congr rfl fun k _ => congrArg (argA m c k · * argB m c k (i 1)) (Fin.ext ?_)) rfl
  show (i 0).val / 1408 * 1408 + (i 0).val % 1408 = (i 0).val
  omega

end Cert.WgradDownIdeal.Sum

namespace Cert.Wgrad

open Idealize.ShloMosaic Idealize.ShloMosaic.TcCoe Idealize.SL.Sem

open Cert.RefWgradDownIdeal Cert.RefWgradDownIdeal.Gen in
/-- The reference's product, entry by entry. -/
theorem down_ref (a : FVec Ideal S8192x2816 .bf16) (b : FVec Ideal S8192x1024 .bf16) (p : Fin 2816) (q : Fin 1024) :
    (truncf .bf16 (transpose S2816x1024 [1, 0] (Host.dotGeneral (F := Ideal)
      dot_S8192x1024_S8192x2816_S1024x2816_0_0_1_1_n_n none (extf .f32 b bitsLt_bf16_f32) (extf .f32 a bitsLt_bf16_f32))
      transposes_S1024x2816_S2816x1024_1_0) bitsLt_bf16_f32 : FVec Ideal S2816x1024 .bf16) (ix2 p q)
      = ∑ k : Fin 8192, a (ix2 k p) * b (ix2 k q) := by
  pointwise
  exact Finset.sum_congr rfl fun k _ => mul_comm _ _

/-- The down projection's gradient: the value claim. -/
theorem down : Cert.algebraic_WgradDownIdeal_RefWgradDownIdeal (hWgradDownIdeal := Cert.WgradDownIdeal.Gen.facts)
    (hRefWgradDownIdeal := Cert.RefWgradDownIdeal.Gen.facts) := by
  intro m g m' g' _ hag
  refine ⟨fun c => Cert.WgradDownIdeal.Sum.result m c, ?_, ?_⟩
  · exact (θ_run Cert.WgradDownIdeal.defs _ _).mono
      (fun r h c => ⟨(h c).1.trans (Cert.WgradDownIdeal.Sum.final m c), (h c).2⟩) (Cert.WgradDownIdeal.Value.run (F := Ideal) m g)
  · refine (θ_run Cert.RefWgradDownIdeal.defs _ _).mono (fun r h c => ⟨(h c).1.trans (funext fun i => ?_), (h c).2⟩)
      (Cert.RefWgradDownIdeal.Value.run (F := Ideal) m' g')
    obtain ⟨e0, e1⟩ := hag c
    rw [e0, e1, eq_ix2 i]
    exact down_ref _ _ _ _

end Cert.Wgrad

end
-- ==== Proof.Wgrad.Out.lean ====
/-
  The gradient of the out projection: what the kernel's grid leaves in its result array is, entry by entry, the sum
  over all the tokens, and so is the reference's product.
-/
module

public import proofs.«01_k».proof.Defs
public import proofs.«01_k».proof.Proof.Wgrad.Tiles
public import proofs.«01_k».proof.Proof.Gen.WgradOutIdeal.Value
public import proofs.«01_k».proof.Proof.Gen.RefWgradOutIdeal.Run
public import Idealize.ShloMosaic.Lib.Pipeline.ValueKit.Basic
public import Idealize.ShloMosaic.Lib.Pipeline.ValueKit.Geometry
public import Idealize.ShloMosaic.Lib.WholeRead
public import Idealize.ShloMosaic.Lib.Pointwise
public import Idealize.ShloMosaic.Adequacy

@[expose] public section

set_option maxRecDepth 16384

noncomputable section

namespace Cert.WgradOutIdeal.Sum

open Cert.WgradOutIdeal Cert.WgradOutIdeal.Gen Cert.WgradOutIdeal.Value
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section Cases

variable (c : Dev nD) (i : grid0.Coords) (a3 : Memref sig .tc .vmem S1024x512 .bf16) (h3 : a3.IsWhole)
  (a4 : Memref sig .tc .vmem S1024x1024 .f32) (h4 : a4.IsWhole) (a5 : Memref sig .tc .vmem S512x1024 .bf16) (h5 : a5.IsWhole)
  (a6 : Memref sig .tc .vmem S512x1024 .f32) (h6 : a6.IsWhole)
  (x0 : Vec F S1024x512 .bf16) (x1 : Vec F S1024x1024 .f32) (xs : Vec F S512x1024 .f32)

/-- The first point of a run leaves its product added to zero in scratch. -/
theorem first (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz, View.ld_unit_zero (S := S1024x1024) hz]

/-- A middle point adds its product to what scratch held. -/
theorem middle (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz,
    View.ld_unit_zero (S := S1024x1024) hz, View.ld_unit_zero (S := S512x1024) hz]

/-- So does the last point of a run, -/
theorem last (hc0 : ¬cond0_0 i) (hc1 : cond0_1 i) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S1024x1024) hz, View.ld_unit_zero (S := S512x1024) hz]

/-- and it writes that sum out, rounded. -/
theorem stored (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz,
    View.ld_unit_zero (S := S1024x1024) hz, View.ld_unit_zero (S := S512x1024) hz]

end Cases

/-- One point's product, entry by entry, -/
def part (a : Vec Ideal S1024x512 .bf16) (b : Vec Ideal S1024x1024 .f32) (p : Fin 512) (q : Fin 1024) : EReal :=
  ∑ k : Fin 1024, a (ix2 k p) * b (ix2 k q)

/-- and its addition. -/
theorem step (a : Vec Ideal S1024x512 .bf16) (s : Vec Ideal S512x1024 .f32) (b : Vec Ideal S1024x1024 .f32) (p : Fin 512) (q : Fin 1024) :
    k0_pay2 (F := Ideal) a s b (ix2 p q) = s (ix2 p q) + part a b p q := by
  pointwise [k0_pay2]
  rfl

theorem zero (p : Fin 512) (q : Fin 1024) : k0_pay1 (F := Ideal) (ix2 p q) = 0 := by
  pointwise [k0_pay1]

variable (m : (ℓ : Loc nD τ sig) → Buf (Elt Ideal) ℓ) (c : Dev nD)

/-- The two arguments. -/
abbrev argA : Fin 8192 → Fin 1024 → EReal := fun k p => m ((c.tc : Thread nD τ).loc main_arg0) (ix2 k p)
abbrev argB : Fin 8192 → Fin 1024 → EReal := fun k q => m ((c.tc : Thread nD τ).loc main_arg1) (ix2 k q)

/-- Which blocks a point loads. -/
theorem index : ∀ t : Fin cfg0.N, win0_0.index t = ![t.val % 8, t.val / 8] ∧ win0_1.index t = ![t.val % 8, 0] :=
  (by decide +kernel : ∀ t : Fin grid0.N, _)

theorem blkA (t : Fin cfg0.N) (k : Fin 1024) (p : Fin 512) (k' : Fin 8192) (p' : Fin 1024) (hk : k'.val = t.val % 8 * 1024 + k.val)
    (hp : p'.val = t.val / 8 * 512 + p.val) : iblk m c 0 t (ix2 k p) = argA m c k' p' := by
  blk_simp [iblk]
  rw [V_main_arg0]
  refine congrArg _ ?_
  blk_ext [(index t).1, hk, hp]

theorem blkB (t : Fin cfg0.N) (k : Fin 1024) (q : Fin 1024) (k' : Fin 8192) (hk : k'.val = t.val % 8 * 1024 + k.val) :
    iblk m c 1 t (ix2 k q) = argB m c k' q := by
  blk_simp [iblk]
  rw [V_main_arg1]
  refine congrArg _ ?_
  blk_ext [(index t).2, hk]

/-- Point `n`'s product, entry `(p, q)`. -/
def tile (p : Fin 512) (q : Fin 1024) (n : ℕ) : EReal :=
  if h : n < cfg0.N then part (iblk m c 0 ⟨n, h⟩) (iblk m c 1 ⟨n, h⟩) p q else 0

/-- At the last point of run `r` scratch holds the sums over all the tokens. -/
theorem scratch (r : Fin 2) (p : Fin 512) (q : Fin 1024) (n : ℕ) (h : n < cfg0.N) (hn : n = 8 * r.val + 7) :
    (outsAt0 m c n h).2 (ix2 p q) = ∑ k : Fin 8192, argA m c k ⟨r.val * 512 + p.val, by omega⟩ * argB m c k q := by
  have hN : cfg0.N = 16 := N_0
  refine Cert.Wgrad.total (P := 8) (T := 1024) (by decide) (by decide) (fun n h => (outsAt0 m c n h).2 (ix2 p q)) (tile m c p q)
    (fun n h h0 => ?_) (fun n h h' h0 => ?_) r.val (fun k => argA m c k ⟨r.val * 512 + p.val, by omega⟩ * argB m c k q)
    (fun j => ?_) n h hn
  · have h1 : ¬n % 8 = 7 := by omega
    show (outsAt0 m c n h).2 (ix2 p q) = _
    rw [outsAt0_A m c ⟨n, h⟩ h0 h1]
    dsimp only
    rw [first, step, zero, tile, dif_pos h]
  · show (outsAt0 m c (n + 1) h').2 (ix2 p q) = (outsAt0 m c n h).2 (ix2 p q) + _
    by_cases h1 : (n + 1) % 8 = 7
    · rw [outsAt0_C m c ⟨n + 1, h'⟩ h0 h1]
      dsimp only
      rw [last, step, tile, dif_pos h']
      rfl
    · rw [outsAt0_B m c ⟨n + 1, h'⟩ h0 h1]
      dsimp only
      rw [middle, step, tile, dif_pos h']
      rfl
  · have hj := j.isLt
    have hr := r.isLt
    rw [tile, dif_pos (by omega)]
    exact Finset.sum_congr rfl fun k _ => congrArg₂ (· * ·)
      (blkA m c _ k p _ _ (by dsimp only; omega) (by dsimp only; omega)) (blkB m c _ k q _ (by dsimp only; omega))

/-- What the output block holds there is what scratch holds. -/
theorem written (n : ℕ) (h : n < cfg0.N) (h3 : n % 8 = 7) (y : S512x1024.Idx) : (outsAt0 m c n h).1 y = (outsAt0 m c n h).2 y := by
  have h0 : ¬n % 8 = 0 := by omega
  rw [outsAt0_C m c ⟨n, h⟩ h0 h3]
  dsimp only
  rw [stored, last]
  rfl

/-- The result array. -/
def result : Buf (Elt Ideal) ((c : Thread nD τ).loc main_v0) := fun i =>
  (∑ k : Fin 8192, argA m c k (i 0) * argB m c k (i 1) : EReal)

theorem final : G2 m c = result m c := by
  funext i
  have h0 : (i 0).val < 1024 := (i 0).isLt
  have h1 : (i 1).val < 1024 := (i 1).isLt
  have hN : cfg0.N = 16 := N_0
  have hr : run2Of i = (i 0).val / 512 := by show 1 * ((i 0).val / 512 - 0) + 1 * ((i 1).val / 1024 - 0) = _; omega
  have hp : pt2Of i = 8 * ((i 0).val / 512) + 7 := by show 8 * run2Of i + 7 = _; rw [hr]
  have hlt : pt2Of i < cfg0.N := by omega
  have hl : loc2Of i = ix2 (n0 := 512) (n1 := 1024) ⟨(i 0).val % 512, by omega⟩ ⟨(i 1).val, h1⟩ := by
    funext a; apply Fin.ext
    match a with
    | ⟨0, _⟩ => rfl
    | ⟨1, _⟩ => exact Nat.mod_eq_of_lt h1
  unfold G2
  rw [dif_pos hlt, ← outsAt0_sweep m c _ hlt, written m c _ hlt (by omega), hl,
    scratch m c ⟨(i 0).val / 512, by omega⟩ _ _ _ hlt hp]
  refine Eq.trans (α := EReal) (b := ∑ k : Fin 8192, argA m c k (i 0) * argB m c k (i 1))
    (Finset.sum_congr rfl fun k _ => congrArg (argA m c k · * argB m c k (i 1)) (Fin.ext ?_)) rfl
  show (i 0).val / 512 * 512 + (i 0).val % 512 = (i 0).val
  omega

end Cert.WgradOutIdeal.Sum

namespace Cert.Wgrad

open Idealize.ShloMosaic Idealize.ShloMosaic.TcCoe Idealize.SL.Sem

open Cert.RefWgradOutIdeal Cert.RefWgradOutIdeal.Gen in
/-- The reference's product, entry by entry. -/
theorem out_ref (a : FVec Ideal S8192x1024 .bf16) (b : FVec Ideal S8192x1024 .f32) (p : Fin 1024) (q : Fin 1024) :
    (truncf .bf16 (transpose S1024x1024 [1, 0] (Host.dotGeneral (F := Ideal)
      dot_S8192x1024_S8192x1024_S1024x1024_0_0_1_1_n_n none b (extf .f32 a bitsLt_bf16_f32))
      transposes_S1024x1024_S1024x1024_1_0) bitsLt_bf16_f32 : FVec Ideal S1024x1024 .bf16) (ix2 p q)
      = ∑ k : Fin 8192, a (ix2 k p) * b (ix2 k q) := by
  pointwise
  exact Finset.sum_congr rfl fun k _ => mul_comm _ _

/-- The out projection's gradient: the value claim. -/
theorem out : Cert.algebraic_WgradOutIdeal_RefWgradOutIdeal (hWgradOutIdeal := Cert.WgradOutIdeal.Gen.facts)
    (hRefWgradOutIdeal := Cert.RefWgradOutIdeal.Gen.facts) := by
  intro m g m' g' _ hag
  refine ⟨fun c => Cert.WgradOutIdeal.Sum.result m c, ?_, ?_⟩
  · exact (θ_run Cert.WgradOutIdeal.defs _ _).mono
      (fun r h c => ⟨(h c).1.trans (Cert.WgradOutIdeal.Sum.final m c), (h c).2⟩) (Cert.WgradOutIdeal.Value.run (F := Ideal) m g)
  · refine (θ_run Cert.RefWgradOutIdeal.defs _ _).mono (fun r h c => ⟨(h c).1.trans (funext fun i => ?_), (h c).2⟩)
      (Cert.RefWgradOutIdeal.Value.run (F := Ideal) m' g')
    obtain ⟨e0, e1⟩ := hag c
    rw [e0, e1, eq_ix2 i]
    exact out_ref _ _ _ _

end Cert.Wgrad

end
-- ==== Proof.Wgrad.In.lean ====
/-
  The gradient of the input projection: its left factor is six arrays side by side. What the kernel's grid leaves in its
  result array is, entry by entry, the sum over all the tokens, and so is the reference's product.
-/
module

public import proofs.«01_k».proof.Defs
public import proofs.«01_k».proof.Proof.Wgrad.Tiles
public import proofs.«01_k».proof.Proof.Gen.WgradInIdeal.Value
public import proofs.«01_k».proof.Proof.Gen.RefWgradInIdeal.Run
public import Idealize.ShloMosaic.Lib.Pipeline.ValueKit.Basic
public import Idealize.ShloMosaic.Lib.Pipeline.ValueKit.Geometry
public import Idealize.ShloMosaic.Lib.WholeRead
public import Idealize.ShloMosaic.Lib.Pointwise
public import Idealize.ShloMosaic.Adequacy

@[expose] public section

set_option maxRecDepth 16384

noncomputable section

namespace Cert.Wgrad

/-- Six rows side by side, entry `p`. -/
def side (r0 r1 r2 r3 : Fin 512 → EReal) (r4 r5 : Fin 128 → EReal) (p : Fin 2304) : EReal :=
  if h : p.val < 512 then r0 ⟨p.val, h⟩
  else if h : p.val - 512 < 512 then r1 ⟨p.val - 512, h⟩
  else if h : p.val - 512 - 512 < 512 then r2 ⟨p.val - 512 - 512, h⟩
  else if h : p.val - 512 - 512 - 512 < 512 then r3 ⟨p.val - 512 - 512 - 512, h⟩
  else if h : p.val - 512 - 512 - 512 - 512 < 128 then r4 ⟨p.val - 512 - 512 - 512 - 512, h⟩
  else r5 ⟨p.val - 512 - 512 - 512 - 512 - 128, by omega⟩

end Cert.Wgrad

namespace Cert.WgradInIdeal.Sum

open Cert.WgradInIdeal Cert.WgradInIdeal.Gen Cert.WgradInIdeal.Value Cert.Wgrad
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section Cases

variable (c : Dev nD) (i : grid0.Coords) (a3 : Memref sig .tc .vmem S1024x512 .bf16) (h3 : a3.IsWhole)
  (a4 : Memref sig .tc .vmem S1024x512 .bf16) (h4 : a4.IsWhole) (a5 : Memref sig .tc .vmem S1024x512 .bf16) (h5 : a5.IsWhole)
  (a6 : Memref sig .tc .vmem S1024x512 .bf16) (h6 : a6.IsWhole) (a7 : Memref sig .tc .vmem S1024x128 .bf16) (h7 : a7.IsWhole)
  (a8 : Memref sig .tc .vmem S1024x128 .bf16) (h8 : a8.IsWhole) (a9 : Memref sig .tc .vmem S1024x1024 .bf16) (h9 : a9.IsWhole)
  (a10 : Memref sig .tc .vmem S2304x1024 .bf16) (h10 : a10.IsWhole) (a11 : Memref sig .tc .vmem S2304x1024 .f32) (h11 : a11.IsWhole)
  (x0 x1 x2 x3 : Vec F S1024x512 .bf16) (x4 x5 : Vec F S1024x128 .bf16) (x6 : Vec F S1024x1024 .bf16) (xs : Vec F S2304x1024 .f32)

/-- The first point leaves its product added to zero in scratch. -/
theorem first (hc0 : cond0_0 i) (hc1 : ¬cond0_1 i) :
    sout0_A_0 c i a3 h3 a4 h4 a5 h5 a6 h6 a7 h7 a8 h8 a9 h9 a10 h10 a11 h11 hc0 hc1 x0 x1 x2 x3 x4 x5 x6
      = k0_pay2 x0 x1 x2 x3 x4 x5 k0_pay1 x6 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S2304x1024) hz, View.readCov_unit_zero (S := S2304x1024) _ hz]
  simp only [View.readAt_eq_ld, h3.read_unread, h4.read_unread, h5.read_unread, h6.read_unread, h7.read_unread, h8.read_unread,
    h9.read_unread, View.ld_unit_zero (S := S1024x512) hz, View.ld_unit_zero (S := S1024x128) hz, View.ld_unit_zero (S := S1024x1024) hz]

/-- A middle point adds its product to what scratch held. -/
theorem middle (hc0 : ¬cond0_0 i) (hc1 : ¬cond0_1 i) :
    sout0_B_0 c i a3 h3 a4 h4 a5 h5 a6 h6 a7 h7 a8 h8 a9 h9 a10 h10 a11 h11 hc0 hc1 x0 x1 x2 x3 x4 x5 x6 xs
      = k0_pay2 x0 x1 x2 x3 x4 x5 xs x6 := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 x6 xs)]
  unfold kernelRun0_B
  dsimp only
  rw [View.canon_unit_zero hz]
  simp only [View.readAt_eq_ld, h3.read_unread, h4.read_unread, h5.read_unread, h6.read_unread, h7.read_unread, h8.read_unread,
    h9.read_unread, h11.read_unread, View.ld_unit_zero (S := S1024x512) hz, View.ld_unit_zero (S := S1024x128) hz,
    View.ld_unit_zero (S := S1024x1024) hz, View.ld_unit_zero (S := S2304x1024) hz]

/-- So does the last point, -/
theorem last (hc0 : ¬cond0_0 i) (hc1 : cond0_1 i) :
    sout0_C_0 c i a3 h3 a4 h4 a5 h5 a6 h6 a7 h7 a8 h8 a9 h9 a10 h10 a11 h11 hc0 hc1 x0 x1 x2 x3 x4 x5 x6 xs
      = k0_pay2 x0 x1 x2 x3 x4 x5 xs x6 := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero hz]
  simp only [View.readAt_eq_ld, h3.read_unread, h4.read_unread, h5.read_unread, h6.read_unread, h7.read_unread, h8.read_unread,
    h9.read_unread, h11.read_unread, View.ld_unit_zero (S := S1024x512) hz, View.ld_unit_zero (S := S1024x128) hz,
    View.ld_unit_zero (S := S1024x1024) hz, View.ld_unit_zero (S := S2304x1024) hz]

/-- and it writes that sum out, rounded. -/
theorem stored (hc0 : ¬cond0_0 i) (hc1 : cond0_1 i) :
    out0_C_7 c i a3 h3 a4 h4 a5 h5 a6 h6 a7 h7 a8 h8 a9 h9 a10 h10 a11 h11 hc0 hc1 x0 x1 x2 x3 x4 x5 x6 xs
      = k0_pay3 (k0_pay2 x0 x1 x2 x3 x4 x5 xs x6) := by
  unfold out0_C_7
  rw [View.read_writes_eq_canon _ _ _ (cover0_C_7 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero hz, View.readCov_unit_zero (S := S2304x1024) _ hz]
  simp only [View.readAt_eq_ld, h3.read_unread, h4.read_unread, h5.read_unread, h6.read_unread, h7.read_unread, h8.read_unread,
    h9.read_unread, h11.read_unread, View.ld_unit_zero (S := S1024x512) hz, View.ld_unit_zero (S := S1024x128) hz,
    View.ld_unit_zero (S := S1024x1024) hz, View.ld_unit_zero (S := S2304x1024) hz]

end Cases

/-- One point's left factor, -/
def leftAt (a0 a1 a2 a3 : Vec Ideal S1024x512 .bf16) (a4 a5 : Vec Ideal S1024x128 .bf16) (k : Fin 1024) (p : Fin 2304) : EReal :=
  side (fun l => a0 (ix2 k l)) (fun l => a1 (ix2 k l)) (fun l => a2 (ix2 k l)) (fun l => a3 (ix2 k l)) (fun l => a4 (ix2 k l))
    (fun l => a5 (ix2 k l)) p

/-- its product, entry by entry, -/
def part (a0 a1 a2 a3 : Vec Ideal S1024x512 .bf16) (a4 a5 : Vec Ideal S1024x128 .bf16) (b : Vec Ideal S1024x1024 .bf16)
    (p : Fin 2304) (q : Fin 1024) : EReal :=
  ∑ k : Fin 1024, leftAt a0 a1 a2 a3 a4 a5 k p * b (ix2 k q)

/-- and its addition. -/
theorem step (a0 a1 a2 a3 : Vec Ideal S1024x512 .bf16) (a4 a5 : Vec Ideal S1024x128 .bf16) (s : Vec Ideal S2304x1024 .f32)
    (b : Vec Ideal S1024x1024 .bf16) (p : Fin 2304) (q : Fin 1024) :
    k0_pay2 (F := Ideal) a0 a1 a2 a3 a4 a5 s b (ix2 p q) = s (ix2 p q) + part a0 a1 a2 a3 a4 a5 b p q := by
  pointwise [k0_pay2]
  rfl

theorem zero (p : Fin 2304) (q : Fin 1024) : k0_pay1 (F := Ideal) (ix2 p q) = 0 := by
  pointwise [k0_pay1]

variable (m : (ℓ : Loc nD τ sig) → Buf (Elt Ideal) ℓ) (c : Dev nD)

/-- The left factor, the six arguments side by side, and the right one. -/
def argA (k : Fin 8192) (p : Fin 2304) : EReal :=
  side (fun l => m ((c.tc : Thread nD τ).loc main_arg0) (ix2 k l)) (fun l => m ((c.tc : Thread nD τ).loc main_arg1) (ix2 k l))
    (fun l => m ((c.tc : Thread nD τ).loc main_arg2) (ix2 k l)) (fun l => m ((c.tc : Thread nD τ).loc main_arg3) (ix2 k l))
    (fun l => m ((c.tc : Thread nD τ).loc main_arg4) (ix2 k l)) (fun l => m ((c.tc : Thread nD τ).loc main_arg5) (ix2 k l)) p
abbrev argB : Fin 8192 → Fin 1024 → EReal := fun k q => m ((c.tc : Thread nD τ).loc main_arg6) (ix2 k q)

/-- A point loads the blocks of its own number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

section Blocks

variable (t : Fin cfg0.N) (k : Fin 1024) (k' : Fin 8192) (hk : k'.val = t.val * 1024 + k.val)
include hk

theorem blk0 (l : Fin 512) : iblk m c 0 t (ix2 k l) = m ((c.tc : Thread nD τ).loc main_arg0) (ix2 k' l) := by
  blk_simp [iblk]
  rw [V_main_arg0]
  refine congrArg _ ?_
  blk_ext [(index t).1, hk]

theorem blk1 (l : Fin 512) : iblk m c 1 t (ix2 k l) = m ((c.tc : Thread nD τ).loc main_arg1) (ix2 k' l) := by
  blk_simp [iblk]
  rw [V_main_arg1]
  refine congrArg _ ?_
  blk_ext [(index t).2.1, hk]

theorem blk2 (l : Fin 512) : iblk m c 2 t (ix2 k l) = m ((c.tc : Thread nD τ).loc main_arg2) (ix2 k' l) := by
  blk_simp [iblk]
  rw [V_main_arg2]
  refine congrArg _ ?_
  blk_ext [(index t).2.2.1, hk]

theorem blk3 (l : Fin 512) : iblk m c 3 t (ix2 k l) = m ((c.tc : Thread nD τ).loc main_arg3) (ix2 k' l) := by
  blk_simp [iblk]
  rw [V_main_arg3]
  refine congrArg _ ?_
  blk_ext [(index t).2.2.2.1, hk]

theorem blk4 (l : Fin 128) : iblk m c 4 t (ix2 k l) = m ((c.tc : Thread nD τ).loc main_arg4) (ix2 k' l) := by
  blk_simp [iblk]
  rw [V_main_arg4]
  refine congrArg _ ?_
  blk_ext [(index t).2.2.2.2.1, hk]

theorem blk5 (l : Fin 128) : iblk m c 5 t (ix2 k l) = m ((c.tc : Thread nD τ).loc main_arg5) (ix2 k' l) := by
  blk_simp [iblk]
  rw [V_main_arg5]
  refine congrArg _ ?_
  blk_ext [(index t).2.2.2.2.2.1, hk]

theorem blkB (q : Fin 1024) : iblk m c 6 t (ix2 k q) = argB m c k' q := by
  blk_simp [iblk]
  rw [V_main_arg6]
  refine congrArg _ ?_
  blk_ext [(index t).2.2.2.2.2.2, hk]

end Blocks

theorem left (t : Fin cfg0.N) (k : Fin 1024) (p : Fin 2304) (k' : Fin 8192) (hk : k'.val = t.val * 1024 + k.val) :
    leftAt (iblk m c 0 t) (iblk m c 1 t) (iblk m c 2 t) (iblk m c 3 t) (iblk m c 4 t) (iblk m c 5 t) k p = argA m c k' p := by
  unfold leftAt argA
  rw [funext (blk0 m c t k k' hk), funext (blk1 m c t k k' hk), funext (blk2 m c t k k' hk), funext (blk3 m c t k k' hk),
    funext (blk4 m c t k k' hk), funext (blk5 m c t k k' hk)]

/-- Point `n`'s product, entry `(p, q)`. -/
def tile (p : Fin 2304) (q : Fin 1024) (n : ℕ) : EReal :=
  if h : n < cfg0.N then part (iblk m c 0 ⟨n, h⟩) (iblk m c 1 ⟨n, h⟩) (iblk m c 2 ⟨n, h⟩) (iblk m c 3 ⟨n, h⟩) (iblk m c 4 ⟨n, h⟩)
    (iblk m c 5 ⟨n, h⟩) (iblk m c 6 ⟨n, h⟩) p q else 0

/-- At the last point scratch holds the sums over all the tokens. -/
theorem scratch (p : Fin 2304) (q : Fin 1024) (n : ℕ) (h : n < cfg0.N) (hn : n = 7) :
    (outsAt0 m c n h).2 (ix2 p q) = ∑ k : Fin 8192, argA m c k p * argB m c k q := by
  have hN : cfg0.N = 8 := N_0
  refine Cert.Wgrad.total (P := 8) (T := 1024) (by decide) (by decide) (fun n h => (outsAt0 m c n h).2 (ix2 p q)) (tile m c p q)
    (fun n h h0 => ?_) (fun n h h' h0 => ?_) 0 (fun k => argA m c k p * argB m c k q) (fun j => ?_) n h (by omega)
  · have h1 : ¬n % 8 = 7 := by omega
    show (outsAt0 m c n h).2 (ix2 p q) = _
    rw [outsAt0_A m c ⟨n, h⟩ h0 h1]
    dsimp only
    rw [first, step, zero, tile, dif_pos h]
  · show (outsAt0 m c (n + 1) h').2 (ix2 p q) = (outsAt0 m c n h).2 (ix2 p q) + _
    by_cases h1 : (n + 1) % 8 = 7
    · rw [outsAt0_C m c ⟨n + 1, h'⟩ h0 h1]
      dsimp only
      rw [last, step, tile, dif_pos h']
      rfl
    · rw [outsAt0_B m c ⟨n + 1, h'⟩ h0 h1]
      dsimp only
      rw [middle, step, tile, dif_pos h']
      rfl
  · have hj := j.isLt
    rw [tile, dif_pos (by omega)]
    exact Finset.sum_congr rfl fun k _ => congrArg₂ (· * ·)
      (left m c _ k p _ (by dsimp only; omega)) (blkB m c _ k _ (by dsimp only; omega) q)

/-- What the output block holds there is what scratch holds. -/
theorem written (n : ℕ) (h : n < cfg0.N) (h3 : n % 8 = 7) (y : S2304x1024.Idx) : (outsAt0 m c n h).1 y = (outsAt0 m c n h).2 y := by
  have h0 : ¬n % 8 = 0 := by omega
  rw [outsAt0_C m c ⟨n, h⟩ h0 h3]
  dsimp only
  rw [stored, last]
  rfl

/-- The result array. -/
def result : Buf (Elt Ideal) ((c : Thread nD τ).loc main_v0) := fun i =>
  (∑ k : Fin 8192, argA m c k (i 0) * argB m c k (i 1) : EReal)

theorem final : G7 m c = result m c := by
  funext i
  have h0 : (i 0).val < 2304 := (i 0).isLt
  have h1 : (i 1).val < 1024 := (i 1).isLt
  have hN : cfg0.N = 8 := N_0
  have hp : pt7Of i = 7 := by
    show 8 * (1 * ((i 0).val / 2304 - 0) + 1 * ((i 1).val / 1024 - 0)) + 7 = _
    omega
  have hlt : pt7Of i < cfg0.N := by omega
  have hl : loc7Of i = ix2 (n0 := 2304) (n1 := 1024) ⟨(i 0).val, h0⟩ ⟨(i 1).val, h1⟩ := by
    funext a; apply Fin.ext
    match a with
    | ⟨0, _⟩ => exact Nat.mod_eq_of_lt h0
    | ⟨1, _⟩ => exact Nat.mod_eq_of_lt h1
  unfold G7
  rw [dif_pos hlt, ← outsAt0_sweep m c _ hlt, written m c _ hlt (by omega), hl, scratch m c _ _ _ hlt hp]
  rfl

end Cert.WgradInIdeal.Sum

namespace Cert.Wgrad

open Idealize.ShloMosaic Idealize.ShloMosaic.TcCoe Idealize.SL.Sem

open Cert.RefWgradInIdeal Cert.RefWgradInIdeal.Gen in
/-- The reference's product, entry by entry. -/
theorem in_ref (a0 a1 a2 a3 : FVec Ideal S8192x512 .bf16) (a4 a5 : FVec Ideal S8192x128 .bf16) (b : FVec Ideal S8192x1024 .bf16)
    (p : Fin 2304) (q : Fin 1024) :
    (truncf .bf16 (transpose S2304x1024 [1, 0] (transpose S1024x2304 [1, 0] (Host.dotGeneral (F := Ideal)
      dot_S8192x2304_S8192x1024_S2304x1024_0_0_1_1_n_n none
      (concatenate S8192x2304 1 [⟨S8192x512, extf .f32 a0 bitsLt_bf16_f32⟩, ⟨S8192x512, extf .f32 a1 bitsLt_bf16_f32⟩,
        ⟨S8192x512, extf .f32 a2 bitsLt_bf16_f32⟩, ⟨S8192x512, extf .f32 a3 bitsLt_bf16_f32⟩,
        ⟨S8192x128, extf .f32 a4 bitsLt_bf16_f32⟩, ⟨S8192x128, extf .f32 a5 bitsLt_bf16_f32⟩]
        concatenates_S8192x512_S8192x512_S8192x512_S8192x512_S8192x128_S8192x128_S8192x2304_d1 : FVec Ideal S8192x2304 .f32)
      (extf .f32 b bitsLt_bf16_f32))
      transposes_S2304x1024_S1024x2304_1_0) transposes_S1024x2304_S2304x1024_1_0) bitsLt_bf16_f32 : FVec Ideal S2304x1024 .bf16) (ix2 p q)
      = ∑ k : Fin 8192, side (fun l => a0 (ix2 k l)) (fun l => a1 (ix2 k l)) (fun l => a2 (ix2 k l)) (fun l => a3 (ix2 k l))
          (fun l => a4 (ix2 k l)) (fun l => a5 (ix2 k l)) p * b (ix2 k q) := by
  pointwise
  rfl

/-- The input projection's gradient: the value claim. -/
theorem input : Cert.algebraic_WgradInIdeal_RefWgradInIdeal (hWgradInIdeal := Cert.WgradInIdeal.Gen.facts)
    (hRefWgradInIdeal := Cert.RefWgradInIdeal.Gen.facts) := by
  intro m g m' g' _ hag
  refine ⟨fun c => Cert.WgradInIdeal.Sum.result m c, ?_, ?_⟩
  · exact (θ_run Cert.WgradInIdeal.defs _ _).mono
      (fun r h c => ⟨(h c).1.trans (Cert.WgradInIdeal.Sum.final m c), (h c).2⟩) (Cert.WgradInIdeal.Value.run (F := Ideal) m g)
  · refine (θ_run Cert.RefWgradInIdeal.defs _ _).mono (fun r h c => ⟨(h c).1.trans (funext fun i => ?_), (h c).2⟩)
      (Cert.RefWgradInIdeal.Value.run (F := Ideal) m' g')
    obtain ⟨e0, e1, e2, e3, e4, e5, e6⟩ := hag c
    rw [e0, e1, e2, e3, e4, e5, e6, eq_ix2 i]
    exact in_ref _ _ _ _ _ _ _ _ _

end Cert.Wgrad

end
-- ==== Proof.Proj.LnProj.lean ====
/-
  The input norm and projection: over the extended reals the kernel leaves, row by row, the norm of the row and its
  products with the projection's columns, and so does the reference.
-/
module

public import proofs.«01_k».proof.Defs
public import proofs.«01_k».proof.Proof.Gen.LnProjIdeal.Value
public import proofs.«01_k».proof.Proof.Gen.RefLnProjIdeal.Run
public import Idealize.ShloMosaic.Lib.Pipeline.ValueKit.Basic
public import Idealize.ShloMosaic.Lib.Pipeline.ValueKit.Geometry
public import Idealize.ShloMosaic.Lib.Pointwise
public import Idealize.ShloMosaic.Lib.StableHlo.ReadAt
public import Idealize.ShloMosaic.Adequacy

@[expose] public section

set_option maxRecDepth 16384

noncomputable section

namespace Cert.Proj

open Idealize.ShloMosaic Idealize.ShloMosaic.TcCoe Idealize.SL.Sem

/-- The width of a row and the constant under the root, as the programs write them. -/
abbrev width : EReal := Ideal.ofBits .f32 0x44800000#32
abbrev small : EReal := Ideal.ofBits .f32 0x3727C5AC#32

/-- The mean of a row, -/
def mean (x : Fin 1024 → EReal) : EReal := Ideal.div (∑ k, x k) width

/-- and its norm, scaled by `g` and moved by `b`. -/
def norm (x g b : Fin 1024 → EReal) (l : Fin 1024) : EReal :=
  (x l - mean x) * Ideal.rsqrt (Ideal.div (∑ k, (x k - mean x) * (x k - mean x)) width + small) * g l + b l

end Cert.Proj

namespace Cert.LnProjIdeal.Rows

open Cert.LnProjIdeal Cert.LnProjIdeal.Gen Cert.Proj
open Idealize.ShloMosaic Idealize.ShloMosaic.TcCoe Idealize.SL.Sem

theorem hz : (![0, 0] : Fin 2 → Nat) = fun _ => 0 := funext fun a => by fin_cases a <;> rfl

/-- The norm a point stores, -/
theorem norm_at (x : Vec Ideal S512x1024 .f32) (g b : Vec Ideal S1x1024 .f32) (r : Fin 512) (l : Fin 1024) :
    k0_pay1 (F := Ideal) x g b (ix2 r l) = norm (fun k => x (ix2 r k)) (fun k => g (ix2 0 k)) (fun k => b (ix2 0 k)) l := by
  pointwise [k0_pay1]
  rfl

/-- and the products. -/
theorem proj_at (x : Vec Ideal S512x1024 .f32) (g b : Vec Ideal S1x1024 .f32) (w : Vec Ideal S2304x1024 .bf16) (r : Fin 512) (p : Fin 2304) :
    k0_pay2 (F := Ideal) x g b w (ix2 r p)
      = ∑ l, norm (fun k => x (ix2 r k)) (fun k => g (ix2 0 k)) (fun k => b (ix2 0 k)) l * w (ix2 p l) := by
  pointwise [k0_pay2]
  exact Finset.sum_congr rfl fun l _ => congrArg (· * w (ix2 p l)) (norm_at x g b r l)

theorem out4 (x : Vec Ideal S512x1024 .f32) (g b : Vec Ideal S1x1024 .f32) (w : Vec Ideal S2304x1024 .bf16) :
    out0_4 x g b w = k0_pay1 x g b := by
  unfold out0_4
  rw [View.canon_unit_zero hz, View.ld_unit_zero (S := S512x1024) hz, View.ld_unit_zero (S := S1x1024) hz, View.ld_unit_zero (S := S1x1024) hz]

theorem out5 (x : Vec Ideal S512x1024 .f32) (g b : Vec Ideal S1x1024 .f32) (w : Vec Ideal S2304x1024 .bf16) :
    out0_5 x g b w = k0_pay2 x g b w := by
  unfold out0_5
  rw [View.canon_unit_zero hz, View.ld_unit_zero (S := S512x1024) hz, View.ld_unit_zero (S := S1x1024) hz, View.ld_unit_zero (S := S1x1024) hz,
    View.ld_unit_zero (S := S2304x1024) hz]

variable (m : (ℓ : Loc nD τ sig) → Buf (Elt Ideal) ℓ) (c : Dev nD)

/-- The arguments: the rows, the norm's two vectors, and the projection. -/
abbrev argX : Fin 8192 → Fin 1024 → EReal := fun r l => m ((c.tc : Thread nD τ).loc main_arg0) (ix2 r l)
abbrev argG : Fin 1024 → EReal := fun l => m ((c.tc : Thread nD τ).loc main_arg1) (ix1 l)
abbrev argB : Fin 1024 → EReal := fun l => m ((c.tc : Thread nD τ).loc main_arg2) (ix1 l)
abbrev argW : Fin 1024 → Fin 2304 → EReal := fun l p => m ((c.tc : Thread nD τ).loc main_arg3) (ix2 l p)

theorem V_g (l : Fin 1024) : V m c main_v0 (ix2 0 l) = argG m c l := by
  entry_read
  pointwise

theorem V_b (l : Fin 1024) : V m c main_v1 (ix2 0 l) = argB m c l := by
  entry_read
  pointwise

theorem V_w (p : Fin 2304) (l : Fin 1024) : V m c main_v3 (ix2 p l) = argW m c l p := by
  entry_read
  pointwise

/-- The arrays' row that row `r` of the blocks of point `t` is. -/
def rowOf (t : Fin cfg0.N) (r : Fin 512) : Fin 8192 := ⟨t.val * 512 + r.val, by
  have : t.val < 16 := lt_of_lt_of_eq t.isLt (show cfg0.N = 16 from N_0)
  omega⟩

/-- The blocks of the row arrays are numbered by the point, and the others are whole arrays. -/
theorem index : ∀ t : Fin cfg0.N, win0_0.index t = ![t.val, 0] ∧ win0_4.index t = ![t.val, 0] ∧ win0_5.index t = ![t.val, 0]
    ∧ win0_1.index t = ![0, 0] ∧ win0_2.index t = ![0, 0] ∧ win0_3.index t = ![0, 0] :=
  (by decide +kernel : ∀ t : Fin grid0.N, _)

theorem blkX (t : Fin cfg0.N) (r : Fin 512) (l : Fin 1024) : iblk m c 0 t (ix2 r l) = argX m c (rowOf t r) l := by
  blk_simp [iblk]
  rw [V_main_arg0]
  refine congrArg _ ?_
  blk_ext [(index t).1]
  rfl

theorem blkG (t : Fin cfg0.N) (l : Fin 1024) : iblk m c 1 t (ix2 0 l) = argG m c l := by
  refine Eq.trans ?_ (V_g m c l)
  blk_simp [iblk]
  refine congrArg _ ?_
  blk_ext [(index t).2.2.2.1]

theorem blkB (t : Fin cfg0.N) (l : Fin 1024) : iblk m c 2 t (ix2 0 l) = argB m c l := by
  refine Eq.trans ?_ (V_b m c l)
  blk_simp [iblk]
  refine congrArg _ ?_
  blk_ext [(index t).2.2.2.2.1]

theorem blkW (t : Fin cfg0.N) (p : Fin 2304) (l : Fin 1024) : iblk m c 3 t (ix2 p l) = argW m c l p := by
  refine Eq.trans ?_ (V_w m c p l)
  blk_simp [iblk]
  refine congrArg _ ?_
  blk_ext [(index t).2.2.2.2.2]

/-- The norms, -/
def normed : Buf (Elt Ideal) ((c : Thread nD τ).loc main_v4_0) := fun i => norm (argX m c (i 0)) (argG m c) (argB m c) (i 1)

/-- and their products with the projection. -/
def projected : Buf (Elt Ideal) ((c : Thread nD τ).loc main_v4_1) := fun i =>
  (∑ l, norm (argX m c (i 0)) (argG m c) (argB m c) l * argW m c l (i 1) : EReal)

theorem norm_blk (t : Fin cfg0.N) (r : Fin 512) (l : Fin 1024) :
    k0_pay1 (F := Ideal) (iblk m c 0 t) (iblk m c 1 t) (iblk m c 2 t) (ix2 r l) = norm (argX m c (rowOf t r)) (argG m c) (argB m c) l := by
  rw [norm_at, funext (blkX m c t r), funext (blkG m c t), funext (blkB m c t)]

theorem proj_blk (t : Fin cfg0.N) (r : Fin 512) (p : Fin 2304) :
    k0_pay2 (F := Ideal) (iblk m c 0 t) (iblk m c 1 t) (iblk m c 2 t) (iblk m c 3 t) (ix2 r p)
      = ∑ l, norm (argX m c (rowOf t r)) (argG m c) (argB m c) l * argW m c l p := by
  rw [proj_at, funext (blkX m c t r), funext (blkG m c t), funext (blkB m c t)]
  exact Finset.sum_congr rfl fun l _ => congrArg (norm _ _ _ l * ·) (blkW m c t p l)

theorem arr_normed : (dats m 0 c).arrAt 4 cfg0.N = normed m c := by
  refine (dats m 0 c).arrAt_eq_of_covers 4 _ (by decide +kernel) fun t hf y => ?_
  have e : (win0_4.blk t).view.emb y = ix2 (rowOf t (y 0)) (y 1) := by
    blk_ext [(index t).2.1]
    rfl
  blk_simp
  rw [after0_4, e, out4]
  refine (congrArg _ (eq_ix2 y)).trans (norm_blk m c t (y 0) (y 1))

theorem arr_projected : (dats m 0 c).arrAt 5 cfg0.N = projected m c := by
  refine (dats m 0 c).arrAt_eq_of_covers 5 _ (by decide +kernel) fun t hf y => ?_
  have e : (win0_5.blk t).view.emb y = ix2 (rowOf t (y 0)) (y 1) := by
    blk_ext [(index t).2.2.1]
    rfl
  blk_simp
  rw [after0_5, e, out5]
  refine (congrArg _ (eq_ix2 y)).trans (proj_blk m c t (y 0) (y 1))

end Cert.LnProjIdeal.Rows

namespace Cert.RefLnProjIdeal.Rows

open Cert.RefLnProjIdeal Cert.RefLnProjIdeal.Gen Cert.Proj
open Idealize.ShloMosaic Idealize.ShloMosaic.TcCoe Idealize.SL.Sem

/-- The reference's operations: the mean of each row, -/
abbrev means (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))

/-- the rows less their means, -/
abbrev centred (x : FVec Ideal S8192x1024 .f32) : FVec Ideal S8192x1024 .f32 :=
  subf x (broadcastInDim S8192x1024 ![0, 1] bcast_S8192x1_S8192x1024_0_1 (means x))

/-- a vector for every row, -/
abbrev wide (g : FVec Ideal S1024 .f32) : FVec Ideal S8192x1024 .f32 :=
  broadcastInDim S8192x1024 ![0, 1] bcast_S1x1024_S8192x1024_0_1 (broadcastInDim S1x1024 ![1] bcast_S1024_S1x1024_1 g)

/-- and the norm. -/
abbrev normed (x : FVec Ideal S8192x1024 .f32) (g b : FVec Ideal S1024 .f32) : FVec Ideal S8192x1024 .f32 :=
  addf (mulf (mulf (centred x) (broadcastInDim S8192x1024 ![0, 1] bcast_S8192x1_S8192x1024_0_1
    (Host.rsqrt (addf (means (mulf (centred x) (centred x))) (broadcastInDim S8192x1 ![] bcast_S_S8192x1 (constant S_ .f32 0x3727C5AC#32))))))
    (wide g)) (wide b)

theorem norm_at (x : FVec Ideal S8192x1024 .f32) (g b : FVec Ideal S1024 .f32) (r : Fin 8192) (l : Fin 1024) :
    normed x g b (ix2 r l) = norm (fun k => x (ix2 r k)) (fun k => g (ix1 k)) (fun k => b (ix1 k)) l := by
  pointwise [normed, wide, centred, means]
  rfl

theorem proj_at (h : FVec Ideal S8192x1024 .f32) (w : FVec Ideal S1024x2304 .f32) (r : Fin 8192) (p : Fin 2304) :
    Host.dotGeneral (F := Ideal) dot_S8192x1024_S1024x2304_S8192x2304_1_0_0_1_n_n none h w (ix2 r p) = ∑ l, h (ix2 r l) * w (ix2 l p) := by
  pointwise

end Cert.RefLnProjIdeal.Rows

namespace Cert.Proj

open Idealize.ShloMosaic Idealize.ShloMosaic.TcCoe Idealize.SL.Sem

/-- The input norm and projection: the value claim. -/
theorem lnProj : Cert.algebraic_LnProjIdeal_RefLnProjIdeal (hLnProjIdeal := Cert.LnProjIdeal.Gen.facts)
    (hRefLnProjIdeal := Cert.RefLnProjIdeal.Gen.facts) := by
  intro m g m' g' _ hag
  refine ⟨fun c => Cert.LnProjIdeal.Rows.normed m c, fun c => Cert.LnProjIdeal.Rows.projected m c, ?_, ?_⟩
  · exact (θ_run Cert.LnProjIdeal.defs _ _).mono
      (fun r h c => ⟨(h c).1.trans (Cert.LnProjIdeal.Rows.arr_normed m c), (h c).2.1.trans (Cert.LnProjIdeal.Rows.arr_projected m c), (h c).2.2⟩)
      (Cert.LnProjIdeal.Value.run_blocks (F := Ideal) m g)
  · refine (θ_run Cert.RefLnProjIdeal.defs _ _).mono
      (fun r h c => ⟨(h c).1.trans (funext fun i => ?_), (h c).2.1.trans (funext fun i => ?_), (h c).2.2⟩)
      (Cert.RefLnProjIdeal.Value.run (F := Ideal) m' g')
    · obtain ⟨e0, e1, e2, e3⟩ := hag c
      rw [e0, e1, e2, eq_ix2 i]
      exact Cert.RefLnProjIdeal.Rows.norm_at _ _ _ _ _
    · obtain ⟨e0, e1, e2, e3⟩ := hag c
      rw [e0, e1, e2, e3, eq_ix2 i]
      refine (Cert.RefLnProjIdeal.Rows.proj_at _ _ _ _).trans (Finset.sum_congr rfl fun l _ => congrArg (· * _) ?_)
      exact Cert.RefLnProjIdeal.Rows.norm_at _ _ _ _ _

end Cert.Proj

end
-- ==== Proof.Back.Row.lean ====
/-
  The gradients of the input norm and of what it feeds, for one row over the real numbers, and for finite arguments the
  row's values from the entries of the arguments. The kernel and the reference both come to these.
-/
module

public import proofs.«01_k».proof.Proof.Mix.Model
public import proofs.«01_k».proof.Proof.Wgrad.In

@[expose] public section

noncomputable section

namespace Cert.Back

open Idealize.ShloMosaic Cert.Mix

/-- The projection's weight, and the norm's gain. -/
structure Wts where
  w : Fin 1024 → Fin 2304 → ℝ
  g : Fin 1024 → ℝ

/-- A row: the gradient at its projections, the gradient at the residual sum, and the norm's argument. -/
structure Row where
  dp : Fin 2304 → ℝ
  du : Fin 1024 → ℝ
  x : Fin 1024 → ℝ

section

variable (W : Wts) (R : Row)

/-- The normalised row, -/
def nx (l : Fin 1024) : ℝ := nrm epsL (cen R.x) l
/-- the gradient at the norm's output, -/
def dh (l : Fin 1024) : ℝ := (∑ p, R.dp p * W.w l p) + alpha * R.du l
/-- at the normalised row, -/
def dn (l : Fin 1024) : ℝ := dh W R l * W.g l
/-- and at the norm's argument. -/
def dx (l : Fin 1024) : ℝ := lnBack (irms epsL (cen R.x)) (nx R) (dn W R) l
/-- The row's terms of the gain's gradient and of the bias's. -/
def tg (l : Fin 1024) : ℝ := dh W R l * nx R l
@[inherit_doc tg] def tb (l : Fin 1024) : ℝ := dh W R l

end

/-- Six rows of images of real numbers side by side are an image of real numbers. -/
theorem side_coe {r0 r1 r2 r3 : Fin 512 → EReal} {r4 r5 : Fin 128 → EReal} (h0 : ∀ l, r0 l = ((r0 l).toReal : EReal))
    (h1 : ∀ l, r1 l = ((r1 l).toReal : EReal)) (h2 : ∀ l, r2 l = ((r2 l).toReal : EReal)) (h3 : ∀ l, r3 l = ((r3 l).toReal : EReal))
    (h4 : ∀ l, r4 l = ((r4 l).toReal : EReal)) (h5 : ∀ l, r5 l = ((r5 l).toReal : EReal)) (p : Fin 2304) :
    Wgrad.side r0 r1 r2 r3 r4 r5 p = ((Wgrad.side r0 r1 r2 r3 r4 r5 p).toReal : EReal) := by
  unfold Wgrad.side
  split_ifs
  · exact h0 _
  · exact h1 _
  · exact h2 _
  · exact h3 _
  · exact h4 _
  · exact h5 _

/-- The statistics array: the gain's gradient, the bias's, and six rows of zeros. -/
def lines (f g : Fin 1024 → EReal) (k : Fin 8) (l : Fin 1024) : EReal :=
  if k.val = 0 then f l else if k.val = 1 then g l else 0

end Cert.Back

end
-- ==== Proof.Back.Tile.lean ====
/-
  One point of the projection's backward call over the extended reals, from blocks that are images of real numbers: the
  block it stores is the images of its rows' values, and the lines of statistics it stores are those it read with its
  rows' terms added.
-/
module

public import proofs.«01_k».proof.Proof.Gen.ProjBwdIdeal.Skeleton
public import proofs.«01_k».proof.Proof.Back.Row

@[expose] public section

set_option maxRecDepth 16384

noncomputable section

namespace Cert.ProjBwdIdeal.Back

open Cert.ProjBwdIdeal Cert.ProjBwdIdeal.Gen Cert.Back
open Cert.Mix hiding Wts Row
open Idealize.ShloMosaic

/-- What a point loads: six blocks of the gradient at the projections, the weight, the gradient at the residual sum, the
    norm's argument and the gain. -/
structure Ld where
  p0 : Vec Ideal S512x512 .bf16
  p1 : Vec Ideal S512x512 .bf16
  p2 : Vec Ideal S512x512 .bf16
  p3 : Vec Ideal S512x512 .bf16
  p4 : Vec Ideal S512x128 .bf16
  p5 : Vec Ideal S512x128 .bf16
  w : Vec Ideal S2304x1024 .bf16
  du : Vec Ideal S512x1024 .f32
  x : Vec Ideal S512x1024 .f32
  g : Vec Ideal S1x1024 .f32

namespace Ld

variable (L : Ld)

/-- The gradient at the norm's output, the centred rows, and the variances plus epsilon, -/
abbrev dh : FVec Ideal S512x1024 .f32 := k0_pay7 L.p0 L.p1 L.p2 L.p3 L.p4 L.p5 L.w L.du
@[inherit_doc dh] abbrev cen : FVec Ideal S512x1024 .f32 := k0_pay8 L.x
@[inherit_doc dh] abbrev var : FVec Ideal S512x1 .f32 := k0_pay9 L.x
/-- the block of gradients, -/
abbrev dx : FVec Ideal S512x1024 .f32 := k0_pay5 L.dh L.cen L.var L.g
/-- and the two lines of statistics from what they held. -/
abbrev line0 (v : Vec Ideal S1x1024 .f32) : FVec Ideal S1x1024 .f32 := k0_pay3 L.dh L.cen L.var v
@[inherit_doc line0] abbrev line1 (v : Vec Ideal S1x1024 .f32) : FVec Ideal S1x1024 .f32 := k0_pay4 L.dh v

end Ld

/-- What a point loads is images of real numbers: the weights `W`, and row `r` the row `R r`. -/
structure IsReal (L : Ld) (W : Wts) (R : Fin 512 → Row) : Prop where
  p : ∀ r k, Wgrad.side (fun l => L.p0 (ix2 r l)) (fun l => L.p1 (ix2 r l)) (fun l => L.p2 (ix2 r l)) (fun l => L.p3 (ix2 r l))
    (fun l => L.p4 (ix2 r l)) (fun l => L.p5 (ix2 r l)) k = (((R r).dp k : ℝ) : EReal)
  w : ∀ k l, L.w (ix2 k l) = ((W.w l k : ℝ) : EReal)
  du : ∀ r l, L.du (ix2 r l) = (((R r).du l : ℝ) : EReal)
  x : ∀ r l, L.x (ix2 r l) = (((R r).x l : ℝ) : EReal)
  g : ∀ l, L.g (ix2 0 l) = ((W.g l : ℝ) : EReal)

variable {L : Ld} {W : Wts} {R : Fin 512 → Row} (h : IsReal L W R)
include h

theorem dh_coe (r : Fin 512) (l : Fin 1024) : L.dh (ix2 r l) = ((dh W (R r) l : ℝ) : EReal) := by
  have e : L.dh (ix2 r l) = (∑ k : Fin 2304, Wgrad.side (fun l => L.p0 (ix2 r l)) (fun l => L.p1 (ix2 r l)) (fun l => L.p2 (ix2 r l))
      (fun l => L.p3 (ix2 r l)) (fun l => L.p4 (ix2 r l)) (fun l => L.p5 (ix2 r l)) k * L.w (ix2 k l))
      + Ideal.ofBits .f32 0x3F9837F0#32 * L.du (ix2 r l) := by
    pointwise [Ld.dh, k0_pay7]
    rfl
  rw [e]
  simp only [h.p, h.w, h.du, bits_alpha, coe_mul', coe_add', coe_sum]
  rfl

theorem cen_coe (r : Fin 512) (l : Fin 1024) : L.cen (ix2 r l) = ((cen (R r).x l : ℝ) : EReal) := by
  pointwise [Ld.cen, k0_pay8]
  simp only [h.x, bits_1024, coe_sub', coe_sum, div_nat]
  rfl

theorem var_coe (r : Fin 512) : L.var (ix2 r 0) = ((msq epsL (cen (R r).x) : ℝ) : EReal) := by
  pointwise [Ld.var, k0_pay9]
  have e : ∀ k, k0_pay8 (F := Ideal) L.x (ix2 r k) = ((cen (R r).x k : ℝ) : EReal) := cen_coe h r
  simp only [e, bits_1024, bits_epsL, coe_mul', coe_add', coe_sum, div_nat]
  rfl

theorem irs_coe (r : Fin 512) : k0_pay1 (F := Ideal) L.var (ix2 r 0) = ((irms epsL (cen (R r).x) : ℝ) : EReal) := by
  have e : k0_pay1 (F := Ideal) L.var (ix2 r 0) = Ideal.rsqrt (L.var (ix2 r 0)) := rfl
  rw [e, var_coe h, rsqrt_pos (msq_pos epsL_pos _)]
  rfl

theorem nx_coe (r : Fin 512) (l : Fin 1024) : k0_pay2 (F := Ideal) L.cen L.var (ix2 r l) = ((nx (R r) l : ℝ) : EReal) := by
  pointwise [k0_pay2]
  rw [cen_coe h, irs_coe h, coe_mul']
  rfl

theorem dx_coe (r : Fin 512) (l : Fin 1024) : L.dx (ix2 r l) = ((dx W (R r) l : ℝ) : EReal) := by
  pointwise [Ld.dx, k0_pay5]
  simp only [dh_coe h, nx_coe h, irs_coe h, h.g, bits_1024, coe_mul', coe_sub', coe_sum, div_nat]
  rfl

theorem line0_coe (v : Vec Ideal S1x1024 .f32) (l : Fin 1024) :
    L.line0 v (ix2 0 l) = v (ix2 0 l) + ((∑ r, tg W (R r) l : ℝ) : EReal) := by
  pointwise [Ld.line0, k0_pay3]
  simp only [dh_coe h, nx_coe h, coe_mul', coe_sum]
  rfl

theorem line1_coe (v : Vec Ideal S1x1024 .f32) (l : Fin 1024) :
    L.line1 v (ix2 0 l) = v (ix2 0 l) + ((∑ r, tb W (R r) l : ℝ) : EReal) := by
  pointwise [Ld.line1, k0_pay4]
  simp only [dh_coe h, coe_sum]
  rfl

omit h in
theorem zeros_eq (k : Fin 8) (l : Fin 1024) : k0_pay6 (F := Ideal) (ix2 k l) = 0 := by
  pointwise [k0_pay6]

end Cert.ProjBwdIdeal.Back

end
-- ==== Proof.Back.Stores.lean ====
/-
  What a point of the projection's backward call leaves in its two output blocks: the block of gradients, and the lines of
  statistics. The first point clears the lines before it adds to them.
-/
module

public import proofs.«01_k».proof.Proof.Gen.ProjBwdIdeal.Value
public import proofs.«01_k».proof.Proof.Back.Tile
public import proofs.«01_k».proof.Proof.Mix.Stats
public import Idealize.ShloMosaic.Lib.Pipeline.ValueKit.Basic
public import Idealize.ShloMosaic.Lib.WholeRead

@[expose] public section

set_option maxRecDepth 16384

noncomputable section

namespace Cert.ProjBwdIdeal.Back

open Cert.ProjBwdIdeal Cert.ProjBwdIdeal.Gen Cert.Back
open Cert.KernelIdeal.Mix (canon_skip canon_at idx_ext)
open Idealize.ShloMosaic Idealize.ShloMosaic.TcCoe Idealize.ShloMosaic.Tactic Idealize.SL.Sem

theorem hz : (![0, 0] : Fin 2 → Nat) = fun _ => 0 := funext fun a => by fin_cases a <;> rfl

/-- Row `k` of a block of lines. -/
def rowOf (st : Vec Ideal S8x1024 .f32) (k : Fin 8) : Vec Ideal S1x1024 .f32 := fun y => st (ix2 k (y 1))

/-- The first two rows of a block stored over, the rest as it was. -/
theorem over_two (a12 : Memref sig .tc .vmem S8x1024 .f32) (h12 : a12.IsWhole) (st : Vec Ideal S8x1024 .f32) (w1 w0 : Vec Ideal S1x1024 .f32)
    (k : Fin 8) (l : Fin 1024) :
    View.read (Elt Ideal) a12.view (a12.view.writes (Elt Ideal) (h12.unread st)
      [(⟨Rect.unit (s := S8x1024) ![1, 0] ![1, 1024] inb_S8x1024_S1x1024_1_0, w1⟩ : View.Piece (Elt Ideal) S8x1024 .f32),
        ⟨Rect.unit (s := S8x1024) ![0, 0] ![1, 1024] inb_S8x1024_S1x1024_0_0, w0⟩]) (ix2 k l)
      = if k.val = 0 then w0 (ix2 0 l) else if k.val = 1 then w1 (ix2 0 l) else st (ix2 k l) := by
  split_ifs with k0 k1
  · rw [View.read_writes_cons_miss_of_axis _ _ _ _ _ (0 : Fin 2) 1 1 rfl rfl rfl (.inl (by show k.val < 1; omega))]
    exact View.read_writes_cons_hit_of_coords _ _ (Rect.unit (s := S8x1024) ![0, 0] ![1, 1024] inb_S8x1024_S1x1024_0_0) w0 [] (ix2 (n0 := 1) (n1 := 1024) 0 l) _ fun a => by
      match a with
      | 0 => show k.val = 0 + 1 * 0; omega
      | 1 => show l.val = 0 + 1 * l.val; omega
  · exact View.read_writes_cons_hit_of_coords _ _ (Rect.unit (s := S8x1024) ![1, 0] ![1, 1024] inb_S8x1024_S1x1024_1_0) w1 _ (ix2 (n0 := 1) (n1 := 1024) 0 l) _ fun a => by
      match a with
      | 0 => show k.val = 1 + 1 * 0; omega
      | 1 => show l.val = 0 + 1 * l.val; omega
  · rw [View.read_writes_cons_miss_of_axis _ _ _ _ _ (0 : Fin 2) 1 1 rfl rfl rfl (.inr (by show 1 + 1 ≤ k.val; omega)),
      View.read_writes_cons_miss_of_axis _ _ _ _ _ (0 : Fin 2) 0 1 rfl rfl rfl (.inr (by show 0 + 1 ≤ k.val; omega))]
    exact congrFun (h12.read_unread st) _

section Cases

variable (c : Dev nD) (i : grid0.Coords) (a1 : Memref sig .tc .vmem S512x512 .bf16) (h1 : a1.IsWhole)
  (a2 : Memref sig .tc .vmem S512x512 .bf16) (h2 : a2.IsWhole) (a3 : Memref sig .tc .vmem S512x512 .bf16) (h3 : a3.IsWhole)
  (a4 : Memref sig .tc .vmem S512x512 .bf16) (h4 : a4.IsWhole) (a5 : Memref sig .tc .vmem S512x128 .bf16) (h5 : a5.IsWhole)
  (a6 : Memref sig .tc .vmem S512x128 .bf16) (h6 : a6.IsWhole) (a7 : Memref sig .tc .vmem S2304x1024 .bf16) (h7 : a7.IsWhole)
  (a8 : Memref sig .tc .vmem S512x1024 .f32) (h8 : a8.IsWhole) (a9 : Memref sig .tc .vmem S512x1024 .f32) (h9 : a9.IsWhole)
  (a10 : Memref sig .tc .vmem S1x1024 .f32) (h10 : a10.IsWhole) (a11 : Memref sig .tc .vmem S512x1024 .f32) (h11 : a11.IsWhole)
  (a12 : Memref sig .tc .vmem S8x1024 .f32) (h12 : a12.IsWhole) (x0 x1 x2 x3 : Vec Ideal S512x512 .bf16) (x4 x5 : Vec Ideal S512x128 .bf16) (xw : Vec Ideal S2304x1024 .bf16)
  (xu x : Vec Ideal S512x1024 .f32) (xg : Vec Ideal S1x1024 .f32) (st : Vec Ideal S8x1024 .f32)

/-- The first point's block of gradients, -/
theorem first_dx (hc : cond0_0 i) :
    out0_A_10 c i a1 h1 a2 h2 a3 h3 a4 h4 a5 h5 a6 h6 a7 h7 a8 h8 a9 h9 a10 h10 a11 h11 a12 h12 hc
      x0 x1 x2 x3 x4 x5 xw xu x xg = (⟨x0, x1, x2, x3, x4, x5, xw, xu, x, xg⟩ : Ld).dx := by
  unfold out0_A_10
  rw [View.read_writes_eq_canon _ _ _ (cover0_A_10 c i a1 h1 a2 h2 a3 h3 a4 h4 a5 h5 a6 h6 a7 h7 a8 h8 a9 h9 a10 h10 a11 h11 a12 h12 hc
    x0 x1 x2 x3 x4 x5 xw xu x xg)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, View.ld_unit_zero (S := S512x512) hz, View.ld_unit_zero (S := S512x128) hz,
    View.ld_unit_zero (S := S2304x1024) hz, View.ld_unit_zero (S := S512x1024) hz, View.ld_unit_zero (S := S1x1024) hz]

/-- and another point's. -/
theorem next_dx (hc : ¬cond0_0 i) :
    out0_B_10 c i a1 h1 a2 h2 a3 h3 a4 h4 a5 h5 a6 h6 a7 h7 a8 h8 a9 h9 a10 h10 a11 h11 a12 h12 hc
      x0 x1 x2 x3 x4 x5 xw xu x xg st = (⟨x0, x1, x2, x3, x4, x5, xw, xu, x, xg⟩ : Ld).dx := by
  unfold out0_B_10
  rw [View.read_writes_eq_canon _ _ _ (cover0_B_10 c i a1 h1 a2 h2 a3 h3 a4 h4 a5 h5 a6 h6 a7 h7 a8 h8 a9 h9 a10 h10 a11 h11 a12 h12 hc
    x0 x1 x2 x3 x4 x5 xw xu x xg st)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, View.ld_unit_zero (S := S512x512) hz, View.ld_unit_zero (S := S512x128) hz,
    View.ld_unit_zero (S := S2304x1024) hz, View.ld_unit_zero (S := S512x1024) hz, View.ld_unit_zero (S := S1x1024) hz]

/-- The first point's lines: its terms over zeros, -/
theorem first_stats (hc : cond0_0 i) (k : Fin 8) (l : Fin 1024) :
    out0_A_11 c i a1 h1 a2 h2 a3 h3 a4 h4 a5 h5 a6 h6 a7 h7 a8 h8 a9 h9 a10 h10 a11 h11 a12 h12 hc
      x0 x1 x2 x3 x4 x5 xw xu x xg (ix2 k l)
      = lines (fun l => (⟨x0, x1, x2, x3, x4, x5, xw, xu, x, xg⟩ : Ld).line0 (rowOf (k0_pay6 (F := Ideal)) 0) (ix2 0 l)) (fun l => (⟨x0, x1, x2, x3, x4, x5, xw, xu, x, xg⟩ : Ld).line1 (rowOf (k0_pay6 (F := Ideal)) 1) (ix2 0 l)) k l := by
  unfold out0_A_11
  rw [View.read_writes_eq_canon _ _ _ (cover0_A_11 c i a1 h1 a2 h2 a3 h3 a4 h4 a5 h5 a6 h6 a7 h7 a8 h8 a9 h9 a10 h10 a11 h11 a12 h12 hc
    x0 x1 x2 x3 x4 x5 xw xu x xg)]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, View.ld_unit_zero (S := S512x512) hz, View.ld_unit_zero (S := S512x128) hz,
    View.ld_unit_zero (S := S2304x1024) hz, View.ld_unit_zero (S := S512x1024) hz, View.ld_unit_zero (S := S1x1024) hz]
  have e0 : a12.view.readCov [(⟨Rect.unit (s := S8x1024) ![0, 0] ![8, 1024] inb_S8x1024_S8x1024_0_0, k0_pay6 (F := Ideal)⟩ : View.Piece (Elt Ideal) S8x1024 .f32)]
      (Rect.unit (s := S8x1024) ![0, 0] ![1, 1024] inb_S8x1024_S1x1024_0_0).toLoadRect = rowOf (k0_pay6 (F := Ideal)) 0 := by
    rw [View.readCov_eq_canon', View.canon_unit_zero hz]
    funext y
    exact congrArg (k0_pay6 (F := Ideal)) (idx_ext (by show 0 + 1 * (y 0).val = 0; have : (y 0).val < 1 := (y 0).isLt; omega) (show 0 + 1 * (y 1).val = (y 1).val by omega))
  rw [e0]
  have e1 : ∀ w, a12.view.readCov [(⟨Rect.unit (s := S8x1024) ![0, 0] ![1, 1024] inb_S8x1024_S1x1024_0_0, w⟩ : View.Piece (Elt Ideal) S8x1024 .f32),
      ⟨Rect.unit (s := S8x1024) ![0, 0] ![8, 1024] inb_S8x1024_S8x1024_0_0, k0_pay6 (F := Ideal)⟩]
      (Rect.unit (s := S8x1024) ![1, 0] ![1, 1024] inb_S8x1024_S1x1024_1_0).toLoadRect = rowOf (k0_pay6 (F := Ideal)) 1 := by
    intro w
    rw [View.readCov_eq_canon']
    funext y
    have ey : (Rect.unit (s := S8x1024) ![1, 0] ![1, 1024] inb_S8x1024_S1x1024_1_0).toLoadRect.idx y = (ix2 (n0 := 8) (n1 := 1024) 1 (y 1) : S8x1024.Idx) :=
      idx_ext (by show 1 + 1 * (y 0).val = 1; have : (y 0).val < 1 := (y 0).isLt; omega) (show 0 + 1 * (y 1).val = (y 1).val by omega)
    rw [ey]
    refine (canon_skip (A := 8) (B := 1024) _ _ _ 1 (y 1) (.inr (.inl (by decide)))).trans ?_
    rw [View.canon_unit_zero hz]
    rfl
  rw [e1]
  unfold lines
  split_ifs with k0 k1
  · rw [canon_skip (hk := .inl (by show k.val < 1; omega))]
    exact canon_at _ _ _ k l 0 l (by show 0 + 1 * 0 = k.val; omega) (by omega)
  · exact canon_at _ _ _ k l 0 l (by show 1 + 1 * 0 = k.val; omega) (by omega)
  · rw [canon_skip (hk := .inr (.inl (by show 1 + 1 ≤ k.val; omega))), canon_skip (hk := .inr (.inl (by show 0 + 1 ≤ k.val; omega))),
      View.canon_unit_zero hz]
    exact zeros_eq k l

/-- and another point's: its terms over the lines it read. -/
theorem next_stats (hc : ¬cond0_0 i) (k : Fin 8) (l : Fin 1024) :
    out0_B_11 c i a1 h1 a2 h2 a3 h3 a4 h4 a5 h5 a6 h6 a7 h7 a8 h8 a9 h9 a10 h10 a11 h11 a12 h12 hc
      x0 x1 x2 x3 x4 x5 xw xu x xg st (ix2 k l)
      = if k.val = 0 then (⟨x0, x1, x2, x3, x4, x5, xw, xu, x, xg⟩ : Ld).line0 (rowOf st 0) (ix2 0 l) else if k.val = 1 then (⟨x0, x1, x2, x3, x4, x5, xw, xu, x, xg⟩ : Ld).line1 (rowOf st 1) (ix2 0 l) else st (ix2 k l) := by
  unfold out0_B_11
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, View.ld_unit_zero (S := S512x512) hz, View.ld_unit_zero (S := S512x128) hz,
    View.ld_unit_zero (S := S2304x1024) hz, View.ld_unit_zero (S := S512x1024) hz, View.ld_unit_zero (S := S1x1024) hz]
  have e : ∀ (o : ℕ) (k : Fin 8) (hk : k.val = o) (inb), View.ld (View.read (Elt Ideal) a12.view (h12.unread st))
      (Rect.unit (s := S8x1024) ![o, 0] ![1, 1024] inb) = rowOf st k := by
    intro o k hk inb
    rw [h12.read_unread]
    funext y
    exact congrArg st (idx_ext (by show o + 1 * (y 0).val = k.val; have : (y 0).val < 1 := (y 0).isLt; omega) (show 0 + 1 * (y 1).val = (y 1).val by omega))
  rw [e 0 0 rfl, e 1 1 rfl]
  exact over_two a12 h12 st _ _ k l

end Cases

end Cert.ProjBwdIdeal.Back

end
-- ==== Proof.Back.Arrays.lean ====
/-
  The two result arrays of the projection's backward call over the extended reals, from arguments that are images of real
  numbers: the gradients row by row, and the lines of statistics, which end with the sums over all the rows.
-/
module

public import proofs.«01_k».proof.Proof.Back.Stores
public import proofs.«01_k».proof.Proof.Wgrad.Tiles
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.ProjBwdIdeal.Back

open Cert.ProjBwdIdeal Cert.ProjBwdIdeal.Gen Cert.ProjBwdIdeal.Value Cert.Back
open Cert.Mix hiding Wts Row
open Idealize.ShloMosaic Idealize.ShloMosaic.TcCoe

/-- One device's arguments are images of real numbers: the weights `W`, and row `g` the row `R g`. -/
structure Args (m : (ℓ : Loc nD τ sig) → Buf (Elt Ideal) ℓ) (c : Dev nD) (W : Wts) (R : Fin 8192 → Row) : Prop where
  p : ∀ r k, Wgrad.side (fun l => m ((c.tc : Thread nD τ).loc main_arg0) (ix2 r l)) (fun l => m ((c.tc : Thread nD τ).loc main_arg1) (ix2 r l))
    (fun l => m ((c.tc : Thread nD τ).loc main_arg2) (ix2 r l)) (fun l => m ((c.tc : Thread nD τ).loc main_arg3) (ix2 r l))
    (fun l => m ((c.tc : Thread nD τ).loc main_arg4) (ix2 r l)) (fun l => m ((c.tc : Thread nD τ).loc main_arg5) (ix2 r l)) k
    = (((R r).dp k : ℝ) : EReal)
  w : ∀ l k, m ((c.tc : Thread nD τ).loc main_arg6) (ix2 l k) = ((W.w l k : ℝ) : EReal)
  du : ∀ r l, m ((c.tc : Thread nD τ).loc main_arg7) (ix2 r l) = (((R r).du l : ℝ) : EReal)
  x : ∀ r l, m ((c.tc : Thread nD τ).loc main_arg8) (ix2 r l) = (((R r).x l : ℝ) : EReal)
  g : ∀ l, m ((c.tc : Thread nD τ).loc main_arg9) (ix1 l) = ((W.g l : ℝ) : EReal)

/-- The arrays' row that row `r` of the blocks of point `t` is. -/
def gRow (t : Fin cfg0.N) (r : Fin 512) : Fin 8192 := ⟨t.val * 512 + r.val, by
  have : t.val < 16 := lt_of_lt_of_eq t.isLt (show cfg0.N = 16 from N_0)
  omega⟩

/-- A point loads and stores the blocks of rows of its own number, and the whole of the weight, the gain and the lines. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_7.index t = ![t.val, 0]
    ∧ win0_8.index t = ![t.val, 0] ∧ win0_10.index t = ![t.val, 0] ∧ win0_6.index t = ![0, 0] ∧ win0_9.index t = ![0, 0] :=
  (by decide +kernel : ∀ t : Fin grid0.N, _)

variable (m : (ℓ : Loc nD τ sig) → Buf (Elt Ideal) ℓ) (c : Dev nD)

theorem V_w (k : Fin 2304) (l : Fin 1024) : V m c main_v1 (ix2 k l) = m ((c.tc : Thread nD τ).loc main_arg6) (ix2 l k) := by
  entry_read
  pointwise

theorem V_g (l : Fin 1024) : V m c main_v2 (ix2 0 l) = m ((c.tc : Thread nD τ).loc main_arg9) (ix1 l) := by
  entry_read
  pointwise

/-- What point `t` loads. -/
def ld (t : Fin cfg0.N) : Ld where
  p0 := iblk m c 0 t
  p1 := iblk m c 1 t
  p2 := iblk m c 2 t
  p3 := iblk m c 3 t
  p4 := iblk m c 4 t
  p5 := iblk m c 5 t
  w := iblk m c 6 t
  du := iblk m c 7 t
  x := iblk m c 8 t
  g := iblk m c 9 t

section Blocks

variable (t : Fin cfg0.N) (r : Fin 512)

theorem blk0 (l : Fin 512) : iblk m c 0 t (ix2 r l) = m ((c.tc : Thread nD τ).loc main_arg0) (ix2 (gRow t r) l) := by
  blk_simp [iblk]
  rw [V_main_arg0]
  refine congrArg _ ?_
  blk_ext [(index t).1]
  rfl

theorem blk1 (l : Fin 512) : iblk m c 1 t (ix2 r l) = m ((c.tc : Thread nD τ).loc main_arg1) (ix2 (gRow t r) l) := by
  blk_simp [iblk]
  rw [V_main_arg1]
  refine congrArg _ ?_
  blk_ext [(index t).2.1]
  rfl

theorem blk2 (l : Fin 512) : iblk m c 2 t (ix2 r l) = m ((c.tc : Thread nD τ).loc main_arg2) (ix2 (gRow t r) l) := by
  blk_simp [iblk]
  rw [V_main_arg2]
  refine congrArg _ ?_
  blk_ext [(index t).2.2.1]
  rfl

theorem blk3 (l : Fin 512) : iblk m c 3 t (ix2 r l) = m ((c.tc : Thread nD τ).loc main_arg3) (ix2 (gRow t r) l) := by
  blk_simp [iblk]
  rw [V_main_arg3]
  refine congrArg _ ?_
  blk_ext [(index t).2.2.2.1]
  rfl

theorem blk4 (l : Fin 128) : iblk m c 4 t (ix2 r l) = m ((c.tc : Thread nD τ).loc main_arg4) (ix2 (gRow t r) l) := by
  blk_simp [iblk]
  rw [V_main_arg4]
  refine congrArg _ ?_
  blk_ext [(index t).2.2.2.2.1]
  rfl

theorem blk5 (l : Fin 128) : iblk m c 5 t (ix2 r l) = m ((c.tc : Thread nD τ).loc main_arg5) (ix2 (gRow t r) l) := by
  blk_simp [iblk]
  rw [V_main_arg5]
  refine congrArg _ ?_
  blk_ext [(index t).2.2.2.2.2.1]
  rfl

end Blocks

/-- A point's block of gradients. -/
theorem dx_at (t : Fin cfg0.N) : (outsAt0 m c t.val t.isLt).1 = (ld m c t).dx := by
  by_cases h0 : t.val % 16 = 0
  · rw [outsAt0_A m c t h0]
    dsimp only
    rw [first_dx]
    rfl
  · rw [outsAt0_B m c t h0]
    dsimp only
    rw [next_dx]
    rfl

/-- The first point's lines, -/
theorem lines_first (t : Fin cfg0.N) (h0 : t.val % 16 = 0) (k : Fin 8) (l : Fin 1024) : (outsAt0 m c t.val t.isLt).2 (ix2 k l)
    = lines (fun l => (ld m c t).line0 (rowOf (k0_pay6 (F := Ideal)) 0) (ix2 0 l)) (fun l => (ld m c t).line1 (rowOf (k0_pay6 (F := Ideal)) 1) (ix2 0 l)) k l := by
  rw [outsAt0_A m c t h0]
  dsimp only
  rw [first_stats]
  rfl

/-- and a later point's. -/
theorem lines_next (n : ℕ) (h : n < cfg0.N) (h' : n + 1 < cfg0.N) (h0 : (n + 1) % 16 ≠ 0) (k : Fin 8) (l : Fin 1024) :
    (outsAt0 m c (n + 1) h').2 (ix2 k l) = if k.val = 0 then (ld m c ⟨n + 1, h'⟩).line0 (rowOf (outsAt0 m c n h).2 0) (ix2 0 l)
      else if k.val = 1 then (ld m c ⟨n + 1, h'⟩).line1 (rowOf (outsAt0 m c n h).2 1) (ix2 0 l) else (outsAt0 m c n h).2 (ix2 k l) := by
  rw [outsAt0_B m c ⟨n + 1, h'⟩ h0]
  dsimp only
  rw [next_stats]
  rfl

variable {m c} {W : Wts} {R : Fin 8192 → Row} (h : Args m c W R)
include h

/-- What point `t` loads is the images of its rows' values and of the weights. -/
theorem isReal_ld (t : Fin cfg0.N) : IsReal (ld m c t) W (fun r => R (gRow t r)) where
  p r k := by
    refine Eq.trans ?_ (h.p (gRow t r) k)
    show Wgrad.side (fun l => iblk m c 0 t (ix2 r l)) (fun l => iblk m c 1 t (ix2 r l)) (fun l => iblk m c 2 t (ix2 r l))
      (fun l => iblk m c 3 t (ix2 r l)) (fun l => iblk m c 4 t (ix2 r l)) (fun l => iblk m c 5 t (ix2 r l)) k = _
    rw [funext (blk0 m c t r), funext (blk1 m c t r), funext (blk2 m c t r), funext (blk3 m c t r), funext (blk4 m c t r),
      funext (blk5 m c t r)]
  w k l := by
    refine Eq.trans ?_ ((V_w m c k l).trans (h.w l k))
    show iblk m c 6 t (ix2 k l) = _
    blk_simp [iblk]
    refine congrArg _ ?_
    blk_ext [(index t).2.2.2.2.2.2.2.2.2.1]
  du r l := by
    refine Eq.trans ?_ (h.du (gRow t r) l)
    show iblk m c 7 t (ix2 r l) = _
    blk_simp [iblk]
    rw [V_main_arg7]
    refine congrArg _ ?_
    blk_ext [(index t).2.2.2.2.2.2.1]
    rfl
  x r l := by
    refine Eq.trans ?_ (h.x (gRow t r) l)
    show iblk m c 8 t (ix2 r l) = _
    blk_simp [iblk]
    rw [V_main_arg8]
    refine congrArg _ ?_
    blk_ext [(index t).2.2.2.2.2.2.2.1]
    rfl
  g l := by
    refine Eq.trans ?_ ((V_g m c l).trans (h.g l))
    show iblk m c 9 t (ix2 0 l) = _
    blk_simp [iblk]
    refine congrArg _ ?_
    blk_ext [(index t).2.2.2.2.2.2.2.2.2.2]

/-- The array of gradients. -/
theorem out_dx : (dats m 0 c).arrAt 10 cfg0.N = fun i => ((dx W (R (i 0)) (i 1) : ℝ) : EReal) := by
  refine (dats m 0 c).arrAt_eq_of_covers 10 _ (by decide +kernel) fun t hf y => ?_
  have e : (win0_10.blk t).view.emb y = ix2 (gRow t (y 0)) (y 1) := by
    blk_ext [(index t).2.2.2.2.2.2.2.2.1]
    rfl
  blk_simp
  rw [after0_10, e, dx_at]
  exact (congrArg _ (eq_ix2 y)).trans (dx_coe (isReal_ld h t) (y 0) (y 1))

omit h in
/-- A line that starts at zero and to which each point adds its rows' terms ends with the sum over all the rows. -/
theorem line_sum (s : (n : ℕ) → n < cfg0.N → EReal) (f : Fin 8192 → ℝ)
    (first : ∀ t : Fin cfg0.N, t.val % 16 = 0 → s t.val t.isLt = 0 + ((∑ r, f (gRow t r) : ℝ) : EReal))
    (next : ∀ n h h', (n + 1) % 16 ≠ 0 → s (n + 1) h' = s n h + ((∑ r, f (gRow ⟨n + 1, h'⟩ r) : ℝ) : EReal))
    (n : ℕ) (hn : n < cfg0.N) (h15 : n = 15) : s n hn = ((∑ r, f r : ℝ) : EReal) := by
  have hN : cfg0.N = 16 := N_0
  rw [← coe_sum]
  refine Cert.Wgrad.total (P := 16) (T := 512) (by decide) (by decide) s
    (fun n => if h : n < cfg0.N then ((∑ r, f (gRow ⟨n, h⟩ r) : ℝ) : EReal) else 0) (fun n h h0 => ?_) (fun n h h' h0 => ?_) 0
    (fun k => ((f k : ℝ) : EReal)) (fun j => ?_) n hn (by omega)
  · rw [dif_pos h]
    exact first ⟨n, h⟩ h0
  · rw [dif_pos h']
    exact next n h h' h0
  · have hj := j.isLt
    rw [dif_pos (by omega), ← coe_sum]
    refine Finset.sum_congr rfl fun k _ => congrArg (fun i => ((f i : ℝ) : EReal)) (Fin.ext ?_)
    show (16 * 0 + j.val) * 512 + k.val = j.val * 512 + k.val
    omega

/-- The lines after the last point. -/
theorem lines_last (n : ℕ) (hn : n < cfg0.N) (h15 : n = 15) (k : Fin 8) (l : Fin 1024) : (outsAt0 m c n hn).2 (ix2 k l)
    = lines (fun l => ((∑ r, tg W (R r) l : ℝ) : EReal)) (fun l => ((∑ r, tb W (R r) l : ℝ) : EReal)) k l := by
  unfold lines
  split_ifs with k0 k1
  · refine line_sum (fun n hn => (outsAt0 m c n hn).2 (ix2 k l)) (fun r => tg W (R r) l) (fun t h0 => ?_) (fun n h1 h' h0 => ?_) n hn h15
    · refine (lines_first m c t h0 k l).trans ?_
      rw [lines, if_pos k0, line0_coe (isReal_ld h t)]
      exact congrArg (· + _) (zeros_eq 0 l)
    · refine (lines_next m c n h1 h' h0 k l).trans ?_
      rw [if_pos k0, line0_coe (isReal_ld h _), show k = 0 from Fin.ext k0]
      rfl
  · refine line_sum (fun n hn => (outsAt0 m c n hn).2 (ix2 k l)) (fun r => tb W (R r) l) (fun t h0 => ?_) (fun n h1 h' h0 => ?_) n hn h15
    · refine (lines_first m c t h0 k l).trans ?_
      rw [lines, if_neg k0, if_pos k1, line1_coe (isReal_ld h t)]
      exact congrArg (· + _) (zeros_eq 1 l)
    · refine (lines_next m c n h1 h' h0 k l).trans ?_
      rw [if_neg k0, if_pos k1, line1_coe (isReal_ld h _), show k = 1 from Fin.ext k1]
      rfl
  · have hN : cfg0.N = 16 := N_0
    have key : ∀ n hn, (outsAt0 m c n hn).2 (ix2 k l) = 0 := fun n => by
      induction n with
      | zero => exact fun hn => (lines_first m c ⟨0, hn⟩ rfl k l).trans (by rw [lines, if_neg k0, if_neg k1])
      | succ n ih =>
        intro hn
        rw [lines_next m c n (by omega) hn (by omega) k l, if_neg k0, if_neg k1]
        exact ih _
    exact key n hn

/-- The array of statistics. -/
theorem out_stats : (dats m 0 c).arrAt 11 cfg0.N
    = fun i => lines (fun l => ((∑ r, tg W (R r) l : ℝ) : EReal)) (fun l => ((∑ r, tb W (R r) l : ℝ) : EReal)) (i 0) (i 1) := by
  refine (dats m 0 c).arrAt_eq_of_after_last 11 ⟨15, lt_of_lt_of_eq (by decide : 15 < 16) (show 16 = cfg0.N from N_0.symm)⟩ (by decide +kernel) _ fun j => ?_
  refine (congrFun (after0_11 m c ⟨15, lt_of_lt_of_eq (by decide : 15 < 16) (show 16 = cfg0.N from N_0.symm)⟩) _).trans ?_
  refine (congrArg _ (eq_ix2 j)).trans ((lines_last h 15 _ rfl (j 0) (j 1)).trans ?_)
  rfl

end Cert.ProjBwdIdeal.Back

end
-- ==== Proof.Back.Ref.lean ====
/-
  The reference of the projection's backward call over the extended reals, when its arguments are images of real numbers:
  its gradient and its statistics are, entry by entry, the images of the row's values and of their sums.
-/
module

public import proofs.«01_k».proof.Proof.Gen.RefProjBwdIdeal.Run
public import proofs.«01_k».proof.Proof.Back.Row

@[expose] public section

set_option maxRecDepth 16384

noncomputable section

namespace Cert.RefProjBwdIdeal.Back

open Cert.RefProjBwdIdeal Cert.RefProjBwdIdeal.Gen Cert.RefProjBwdIdeal.Value Cert.Back
open Cert.Mix hiding Wts Row
open Idealize.ShloMosaic Idealize.ShloMosaic.TcCoe

/-! ## The reference's terms, named -/

/-- A row's means, spread over a column, -/
def meansT (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_)) (broadcastInDim S8192x1 ![] bcast_S_S8192x1 (constant S_ .f32 0x44800000#32))

/-- a column spread over the rows, -/
def spread (v : FVec Ideal S8192x1 .f32) : FVec Ideal S8192x1024 .f32 := broadcastInDim S8192x1024 ![0, 1] bcast_S8192x1_S8192x1024_0_1 v

/-- the rows less their means, -/
def cenT (x : FVec Ideal S8192x1024 .f32) : FVec Ideal S8192x1024 .f32 := subf x (spread (meansT x))

/-- the variances plus epsilon. -/
def varT (x : FVec Ideal S8192x1024 .f32) : FVec Ideal S8192x1 .f32 :=
  addf (meansT (mulf (cenT x) (cenT x))) (broadcastInDim S8192x1 ![] bcast_S_S8192x1 (constant S_ .f32 0x3727C5AC#32))

/-- The gradients at the six projections side by side, -/
def projT (a0 a1 a2 a3 : FVec Ideal S8192x512 .bf16) (a4 a5 : FVec Ideal S8192x128 .bf16) : FVec Ideal S8192x2304 .f32 :=
  concatenate S8192x2304 1 [⟨S8192x512, extf .f32 a0 bitsLt_bf16_f32⟩, ⟨S8192x512, extf .f32 a1 bitsLt_bf16_f32⟩,
    ⟨S8192x512, extf .f32 a2 bitsLt_bf16_f32⟩, ⟨S8192x512, extf .f32 a3 bitsLt_bf16_f32⟩, ⟨S8192x128, extf .f32 a4 bitsLt_bf16_f32⟩,
    ⟨S8192x128, extf .f32 a5 bitsLt_bf16_f32⟩] concatenates_S8192x512_S8192x512_S8192x512_S8192x512_S8192x128_S8192x128_S8192x2304_d1

/-- the gradient at the norm's output, -/
def dhT (p : FVec Ideal S8192x2304 .f32) (w : FVec Ideal S1024x2304 .f32) (u : FVec Ideal S8192x1024 .f32) : FVec Ideal S8192x1024 .f32 :=
  addf (mulf (broadcastInDim S8192x1024 ![] bcast_S_S8192x1024 (constant S_ .f32 0x3F9837F0#32)) u)
    (Host.dotGeneral dot_S8192x2304_S1024x2304_S8192x1024_1_1_0_0_n_n none p w)

/-- the gradient at the normalised rows, -/
def dnT (d : FVec Ideal S8192x1024 .f32) (g : FVec Ideal S1024 .f32) : FVec Ideal S8192x1024 .f32 :=
  mulf d (broadcastInDim S8192x1024 ![0, 1] bcast_S1x1024_S8192x1024_0_1 (broadcastInDim S1x1024 ![1] bcast_S1024_S1x1024_1 g))

/-- its term through the rows, -/
def rowT (x n : FVec Ideal S8192x1024 .f32) : FVec Ideal S8192x1024 .f32 := mulf n (spread (Host.rsqrt (varT x)))

/-- its term through the variances, -/
def viaT (x n : FVec Ideal S8192x1024 .f32) : FVec Ideal S8192x1024 .f32 :=
  mulf (broadcastInDim S8192x1024 ![0] bcast_S8192_S8192x1024_0 (Host.reduceAdd (Host.divf (mulf (shapeCast _ (Host.reduceAdd (mulf (cenT x) n) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (varT x)) (varT x)))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) (cenT x))

/-- and both with the term through the means. -/
def dxT (x n : FVec Ideal S8192x1024 .f32) : FVec Ideal S8192x1024 .f32 :=
  addf (addf (rowT x n) (viaT x n)) (broadcastInDim S8192x1024 ![0] bcast_S8192_S8192x1024_0 (Host.reduceAdd (Host.divf (addf (shapeCast _ (Host.reduceAdd (Host.negf (rowT x n)) (constant S_ .f32 0x00000000#32) reducesTo_S8192x1024_S8192_d1 h_S_) shapeCasts_S8192_S8192x1) (shapeCast _ (Host.reduceAdd (Host.negf (viaT x n)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))

/-- The column sums of a matrix, reduced over the rows and then over an axis of length one. -/
def sumsT (x : FVec Ideal S8192x1024 .f32) : FVec Ideal S1024 .f32 :=
  Host.reduceAdd (shapeCast _ (Host.reduceAdd x (constant S_ .f32 0x00000000#32) reducesTo_S8192x1024_S1024_d0 h_S_) shapeCasts_S1024_S1x1024) (constant S_ .f32 0x00000000#32) reducesTo_S1x1024_S1024_d0 h_S_

/-- A row of zeros. -/
def zerosT : FVec Ideal S1024 .f32 := broadcastInDim S1024 ![] bcast_S_S1024 (constant S_ .f32 0x00000000#32)

/-- A vector as a row. -/
def lineT (v : FVec Ideal S1024 .f32) : FVec Ideal S1x1024 .f32 := broadcastInDim S1x1024 ![1] bcast_S1024_S1x1024_1 v

/-- The statistics array: the two sums and six rows of zeros, one under the other. -/
def statsT (x d : FVec Ideal S8192x1024 .f32) : FVec Ideal S8x1024 .f32 :=
  concatenate S8x1024 0 [⟨S1x1024, lineT (sumsT (mulf (rowT x (cenT x)) d))⟩, ⟨S1x1024, lineT (sumsT d)⟩, ⟨S1x1024, lineT zerosT⟩,
    ⟨S1x1024, lineT zerosT⟩, ⟨S1x1024, lineT zerosT⟩, ⟨S1x1024, lineT zerosT⟩, ⟨S1x1024, lineT zerosT⟩, ⟨S1x1024, lineT zerosT⟩]
    concatenates_S1x1024_S1x1024_S1x1024_S1x1024_S1x1024_S1x1024_S1x1024_S1x1024_S8x1024_d0

section Named

variable (m : (ℓ : Loc nD τ sig) → Buf (Elt Ideal) ℓ) (c : Dev nD)

/-- The gradient at the norm's output, from the arguments. -/
def dhM : FVec Ideal S8192x1024 .f32 :=
  dhT (projT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
    (m ((c.tc : Thread nD τ).loc main_arg6)) (m ((c.tc : Thread nD τ).loc main_arg7))

theorem out0_eq : res_out0 m c = dxT (m ((c.tc : Thread nD τ).loc main_arg8)) (dnT (dhM m c) (m ((c.tc : Thread nD τ).loc main_arg9))) := rfl

theorem out1_eq : res_out1 m c = statsT (m ((c.tc : Thread nD τ).loc main_arg8)) (dhM m c) := rfl

end Named

/-! ## Their entries -/

section Entries

variable {x n d u : FVec Ideal S8192x1024 .f32} {p : FVec Ideal S8192x2304 .f32} {w : FVec Ideal S1024x2304 .f32}
  {g : FVec Ideal S1024 .f32} {W : Wts} {R : Fin 8192 → Row}

theorem meansT_coe {f : Fin 8192 → Fin 1024 → ℝ} (hx : ∀ r l, x (ix2 r l) = ((f r l : ℝ) : EReal)) (r : Fin 8192) :
    meansT x (ix2 r 0) = ((mean (f r) : ℝ) : EReal) := by
  pointwise [meansT]
  simp only [hx, bits_1024, coe_sum, div_nat]
  rfl

theorem cenT_coe (hx : ∀ r l, x (ix2 r l) = (((R r).x l : ℝ) : EReal)) (r : Fin 8192) (l : Fin 1024) :
    cenT x (ix2 r l) = ((cen (R r).x l : ℝ) : EReal) := by
  pointwise [cenT, spread]
  rw [hx, meansT_coe hx, coe_sub']
  rfl

theorem varT_coe (hx : ∀ r l, x (ix2 r l) = (((R r).x l : ℝ) : EReal)) (r : Fin 8192) :
    varT x (ix2 r 0) = ((msq epsL (cen (R r).x) : ℝ) : EReal) := by
  have e : ∀ r l, (mulf (cenT x) (cenT x) : FVec Ideal S8192x1024 .f32) (ix2 r l) = ((cen (R r).x l * cen (R r).x l : ℝ) : EReal) := fun r l => by
    pointwise
    rw [cenT_coe hx, coe_mul']
  pointwise [varT]
  rw [meansT_coe e, bits_epsL, coe_add']
  rfl

theorem irsT_coe (hx : ∀ r l, x (ix2 r l) = (((R r).x l : ℝ) : EReal)) (r : Fin 8192) :
    (Host.rsqrt (varT x) : FVec Ideal S8192x1 .f32) (ix2 r 0) = ((irms epsL (cen (R r).x) : ℝ) : EReal) := by
  pointwise
  rw [varT_coe hx, rsqrt_pos (msq_pos epsL_pos _)]
  rfl

theorem dhT_coe (hp : ∀ r k, p (ix2 r k) = (((R r).dp k : ℝ) : EReal)) (hw : ∀ l k, w (ix2 l k) = ((W.w l k : ℝ) : EReal))
    (hu : ∀ r l, u (ix2 r l) = (((R r).du l : ℝ) : EReal)) (r : Fin 8192) (l : Fin 1024) :
    dhT p w u (ix2 r l) = ((dh W (R r) l : ℝ) : EReal) := by
  pointwise [dhT]
  simp only [hp, hw, hu, bits_alpha, coe_mul', coe_add', coe_sum]
  exact congrArg Real.toEReal (add_comm _ _)

theorem dnT_coe (hd : ∀ r l, d (ix2 r l) = ((dh W (R r) l : ℝ) : EReal)) (hg : ∀ l, g (ix1 l) = ((W.g l : ℝ) : EReal))
    (r : Fin 8192) (l : Fin 1024) : dnT d g (ix2 r l) = ((dn W (R r) l : ℝ) : EReal) := by
  pointwise [dnT]
  rw [hd, hg, coe_mul']
  rfl

theorem rowT_coe (hx : ∀ r l, x (ix2 r l) = (((R r).x l : ℝ) : EReal)) {f : Fin 8192 → Fin 1024 → ℝ}
    (hn : ∀ r l, n (ix2 r l) = ((f r l : ℝ) : EReal)) (r : Fin 8192) (l : Fin 1024) :
    rowT x n (ix2 r l) = ((f r l * irms epsL (cen (R r).x) : ℝ) : EReal) := by
  have e : rowT x n (ix2 r l) = n (ix2 r l) * (Host.rsqrt (varT x) : FVec Ideal S8192x1 .f32) (ix2 r 0) := by
    pointwise [rowT, spread]
  rw [e, hn, irsT_coe hx, coe_mul']

theorem viaT_coe (hx : ∀ r l, x (ix2 r l) = (((R r).x l : ℝ) : EReal)) {f : Fin 8192 → Fin 1024 → ℝ}
    (hn : ∀ r l, n (ix2 r l) = ((f r l : ℝ) : EReal)) (r : Fin 8192) (l : Fin 1024) :
    viaT x n (ix2 r l) = ((viaMsq epsL (cen (R r).x) (f r) l : ℝ) : EReal) := by
  have e : ∀ k : Fin 1, varT x (ix2 r k) = ((msq epsL (cen (R r).x) : ℝ) : EReal) := fun k => by
    rw [Subsingleton.elim k 0]; exact varT_coe hx r
  have e' : Ideal.rsqrt ((msq epsL (cen (R r).x) : ℝ) : EReal) = ((irms epsL (cen (R r).x) : ℝ) : EReal) := rsqrt_pos (msq_pos epsL_pos _)
  pointwise [viaT]
  simp only [cenT_coe hx, hn, e, e', div_msq epsL_pos, bits_neg_half, bits_two, bits_1024, coe_mul', coe_sum, div_nat,
    Finset.univ_unique, Finset.sum_singleton]
  rfl

theorem dxT_coe (hx : ∀ r l, x (ix2 r l) = (((R r).x l : ℝ) : EReal)) (hn : ∀ r l, n (ix2 r l) = ((dn W (R r) l : ℝ) : EReal))
    (r : Fin 8192) (l : Fin 1024) : dxT x n (ix2 r l) = ((dx W (R r) l : ℝ) : EReal) := by
  pointwise [dxT]
  simp only [rowT_coe hx hn, viaT_coe hx hn, bits_1024, coe_neg', coe_add', coe_sum, div_nat, Finset.univ_unique, Finset.sum_singleton]
  exact congrArg Real.toEReal (lnBack_eq epsL_pos (by norm_num) (R r).x (dn W (R r)) l)

theorem sumsT_coe {f : Fin 8192 → Fin 1024 → ℝ} (hx : ∀ r l, x (ix2 r l) = ((f r l : ℝ) : EReal)) (l : Fin 1024) :
    sumsT x (ix1 l) = ((∑ r, f r l : ℝ) : EReal) := by
  pointwise [sumsT]
  simp only [hx, coe_sum, Finset.univ_unique, Finset.sum_singleton]

theorem zerosT_eq (l : Fin 1024) : zerosT (ix1 l) = 0 := by
  pointwise [zerosT]

theorem statsT_coe (hx : ∀ r l, x (ix2 r l) = (((R r).x l : ℝ) : EReal)) (hd : ∀ r l, d (ix2 r l) = ((dh W (R r) l : ℝ) : EReal))
    (k : Fin 8) (l : Fin 1024) :
    statsT x d (ix2 k l) = lines (fun l => ((∑ r, tg W (R r) l : ℝ) : EReal)) (fun l => ((∑ r, tb W (R r) l : ℝ) : EReal)) k l := by
  have e : ∀ r l, (mulf (rowT x (cenT x)) d : FVec Ideal S8192x1024 .f32) (ix2 r l) = ((tg W (R r) l : ℝ) : EReal) := fun r l => by
    pointwise
    rw [rowT_coe hx (cenT_coe hx), hd, coe_mul']
    exact congrArg Real.toEReal (mul_comm _ _)
  fin_cases k
  · pointwise [statsT, lineT]
    exact sumsT_coe e l
  · pointwise [statsT, lineT]
    exact sumsT_coe hd l
  all_goals
    pointwise [statsT, lineT]
    exact zerosT_eq l

/-- The six gradients side by side, read at an entry. -/
theorem projT_eq (a0 a1 a2 a3 : FVec Ideal S8192x512 .bf16) (a4 a5 : FVec Ideal S8192x128 .bf16) (r : Fin 8192) (k : Fin 2304) :
    projT a0 a1 a2 a3 a4 a5 (ix2 r k) = Wgrad.side (fun l => a0 (ix2 r l)) (fun l => a1 (ix2 r l)) (fun l => a2 (ix2 r l))
      (fun l => a3 (ix2 r l)) (fun l => a4 (ix2 r l)) (fun l => a5 (ix2 r l)) k := by
  pointwise [projT]
  rfl

end Entries

end Cert.RefProjBwdIdeal.Back

end
-- ==== Proof.Back.Value.lean ====
/-
  The projection's backward call: for arguments whose every entry is finite, the kernel's two result arrays and the
  reference's are the same over the extended reals.
-/
module

public import proofs.«01_k».proof.Defs
public import proofs.«01_k».proof.Proof.Mix.Finite
public import proofs.«01_k».proof.Proof.Back.Arrays
public import proofs.«01_k».proof.Proof.Back.Ref
public import Idealize.ShloMosaic.Adequacy

@[expose] public section

set_option maxRecDepth 16384

noncomputable section

namespace Cert.Back

open Idealize.ShloMosaic Idealize.ShloMosaic.TcCoe Idealize.SL.Sem
open Cert.Mix hiding Wts Row pre_facts wts rows

/-- The shape relations the precondition's operations take. -/
theorem pre_facts : Cert.Pre_finite_proj.Facts where
  bcast_S_S8192x512 := by decide
  bcast_S_S8192x128 := by decide
  bcast_S_S1024x2304 := by decide
  bcast_S_S8192x1024 := by decide
  bcast_S_S1024 := by decide

theorem bits_inf16 : Ideal.ofBits .bf16 0x7F80#16 = (⊤ : EReal) := by
  simp [Ideal.ofBits, Ideal.ieee]

/-- One conjunct of the precondition on a sixteen-bit argument, read at an entry. -/
theorem coe_of_pre16 {s : Shape} (x : FVec Ideal s .bf16) (hb : (⟨0, ![]⟩ : Shape).BroadcastsInDim s (![] : Fin 0 → Fin s.rank))
    (h : cmpf .olt (Host.absf x) (broadcastInDim s ![] hb (constant (F := Ideal) ⟨0, ![]⟩ .bf16 0x7F80#16)) = fun _ => 1#1) (i : s.Idx) :
    x i = (((x i).toReal : ℝ) : EReal) :=
  coe_of_cmp (x i) (by rw [bits_inf, ← bits_inf16]; exact congrFun h i)

section

open Cert.ProjBwdIdeal

variable (m : (ℓ : Loc nD τ sig) → Buf (Elt Ideal) ℓ) (c : Dev nD)

/-- The weights that the arguments are the images of, -/
def wts : Wts where
  w l k := EReal.toReal (m ((c.tc : Thread nD τ).loc main_arg6) (ix2 l k))
  g l := EReal.toReal (m ((c.tc : Thread nD τ).loc main_arg9) (ix1 l))

/-- and the rows. -/
def rows (r : Fin 8192) : Row where
  dp k := EReal.toReal (Wgrad.side (fun l => m ((c.tc : Thread nD τ).loc main_arg0) (ix2 r l))
    (fun l => m ((c.tc : Thread nD τ).loc main_arg1) (ix2 r l)) (fun l => m ((c.tc : Thread nD τ).loc main_arg2) (ix2 r l))
    (fun l => m ((c.tc : Thread nD τ).loc main_arg3) (ix2 r l)) (fun l => m ((c.tc : Thread nD τ).loc main_arg4) (ix2 r l))
    (fun l => m ((c.tc : Thread nD τ).loc main_arg5) (ix2 r l)) k)
  du l := EReal.toReal (m ((c.tc : Thread nD τ).loc main_arg7) (ix2 r l))
  x l := EReal.toReal (m ((c.tc : Thread nD τ).loc main_arg8) (ix2 r l))

theorem args_of_pre (h : Cert.Pre_ProjBwdIdeal_finite_proj (hPre_finite_proj := pre_facts) m) :
    Cert.ProjBwdIdeal.Back.Args m c (wts m c) (rows m c) := by
  obtain ⟨h0, h1, h2, h3, h4, h5, h6, h7, h8, h9⟩ := h c
  exact
    { p := fun r k => side_coe (fun l => coe_of_pre16 _ pre_facts.bcast_S_S8192x512 h0 _) (fun l => coe_of_pre16 _ pre_facts.bcast_S_S8192x512 h1 _)
        (fun l => coe_of_pre16 _ pre_facts.bcast_S_S8192x512 h2 _) (fun l => coe_of_pre16 _ pre_facts.bcast_S_S8192x512 h3 _)
        (fun l => coe_of_pre16 _ pre_facts.bcast_S_S8192x128 h4 _) (fun l => coe_of_pre16 _ pre_facts.bcast_S_S8192x128 h5 _) k
      w := fun l k => coe_of_pre _ pre_facts.bcast_S_S1024x2304 h6 _
      du := fun r l => coe_of_pre _ pre_facts.bcast_S_S8192x1024 h7 _
      x := fun r l => coe_of_pre _ pre_facts.bcast_S_S8192x1024 h8 _
      g := fun l => coe_of_pre _ pre_facts.bcast_S_S1024 h9 _ }

end

section Reference

open Cert.RefProjBwdIdeal Cert.RefProjBwdIdeal.Gen Cert.RefProjBwdIdeal.Value Cert.RefProjBwdIdeal.Back

variable (m : (ℓ : Loc nD τ sig) → Buf (Elt Ideal) ℓ) (c : Dev nD) {W : Wts} {R : Fin 8192 → Row}
  (hp : ∀ r k, Wgrad.side (fun l => m ((c.tc : Thread nD τ).loc main_arg0) (ix2 r l)) (fun l => m ((c.tc : Thread nD τ).loc main_arg1) (ix2 r l))
    (fun l => m ((c.tc : Thread nD τ).loc main_arg2) (ix2 r l)) (fun l => m ((c.tc : Thread nD τ).loc main_arg3) (ix2 r l))
    (fun l => m ((c.tc : Thread nD τ).loc main_arg4) (ix2 r l)) (fun l => m ((c.tc : Thread nD τ).loc main_arg5) (ix2 r l)) k
    = (((R r).dp k : ℝ) : EReal))
  (hw : ∀ l k, m ((c.tc : Thread nD τ).loc main_arg6) (ix2 l k) = ((W.w l k : ℝ) : EReal))
  (hu : ∀ r l, m ((c.tc : Thread nD τ).loc main_arg7) (ix2 r l) = (((R r).du l : ℝ) : EReal))
  (hx : ∀ r l, m ((c.tc : Thread nD τ).loc main_arg8) (ix2 r l) = (((R r).x l : ℝ) : EReal))
  (hg : ∀ l, m ((c.tc : Thread nD τ).loc main_arg9) (ix1 l) = ((W.g l : ℝ) : EReal))
include hp hw hu

theorem dhM_coe (r : Fin 8192) (l : Fin 1024) : dhM m c (ix2 r l) = ((dh W (R r) l : ℝ) : EReal) :=
  dhT_coe (fun r k => (projT_eq _ _ _ _ _ _ r k).trans (hp r k)) hw hu r l

include hx

/-- The reference's statistics, -/
theorem ref_stats : res_out1 m c
    = fun i => lines (fun l => ((∑ r, tg W (R r) l : ℝ) : EReal)) (fun l => ((∑ r, tb W (R r) l : ℝ) : EReal)) (i 0) (i 1) := by
  funext i
  rw [out1_eq]
  exact (congrArg _ (eq_ix2 i)).trans (statsT_coe hx (dhM_coe m c hp hw hu) (i 0) (i 1))

include hg

/-- and its gradients. -/
theorem ref_dx : res_out0 m c = fun i => ((dx W (R (i 0)) (i 1) : ℝ) : EReal) := by
  funext i
  rw [out0_eq]
  exact (congrArg _ (eq_ix2 i)).trans (dxT_coe hx (dnT_coe (dhM_coe m c hp hw hu) hg) (i 0) (i 1))

end Reference

/-- The value claim. -/
theorem projBwd : Cert.algebraic_ProjBwdIdeal_RefProjBwdIdeal_pre_finite_proj (hProjBwdIdeal := Cert.ProjBwdIdeal.Gen.facts)
    (hRefProjBwdIdeal := Cert.RefProjBwdIdeal.Gen.facts) (hPre_finite_proj := pre_facts) := by
  intro m g m' g' hpre hag
  have hA := fun c => args_of_pre m c hpre
  refine ⟨fun c i => ((dx (wts m c) (rows m c (i 0)) (i 1) : ℝ) : EReal),
    fun c i => lines (fun l => ((∑ r, tg (wts m c) (rows m c r) l : ℝ) : EReal)) (fun l => ((∑ r, tb (wts m c) (rows m c r) l : ℝ) : EReal)) (i 0) (i 1), ?_, ?_⟩
  · exact (θ_run Cert.ProjBwdIdeal.defs _ _).mono (fun r h c => ⟨(h c).1.trans (Cert.ProjBwdIdeal.Back.out_dx (hA c)),
      (h c).2.1.trans (Cert.ProjBwdIdeal.Back.out_stats (hA c)), (h c).2.2⟩) (Cert.ProjBwdIdeal.Value.run_blocks (F := Ideal) m g)
  · refine (θ_run Cert.RefProjBwdIdeal.defs _ _).mono (fun r h c => ?_) (Cert.RefProjBwdIdeal.Value.run (F := Ideal) m' g')
    obtain ⟨e0, e1, e2, e3, e4, e5, e6, e7, e8, e9⟩ := hag c
    have a := hA c
    have hw := fun l k => (congrFun e6 (ix2 l k)).trans (a.w l k)
    have hu := fun r l => (congrFun e7 (ix2 r l)).trans (a.du r l)
    have hx := fun r l => (congrFun e8 (ix2 r l)).trans (a.x r l)
    have hg := fun l => (congrFun e9 (ix1 l)).trans (a.g l)
    exact ⟨(h c).1.trans (ref_dx m' c (W := wts m c) (R := rows m c) (by rw [e0, e1, e2, e3, e4, e5]; exact a.p) hw hu hx hg),
      (h c).2.1.trans (ref_stats m' c (W := wts m c) (R := rows m c) (by rw [e0, e1, e2, e3, e4, e5]; exact a.p) hw hu hx), (h c).2.2⟩

end Cert.Back

end
-- ==== Proof.Optim.Update.lean ====
/-
  One entry of AdamW's update over the extended reals: the gradient summed over the devices, the two new moments and the
  change of the weight, as functions of the entry's landed shards, its weight and its old moments.
-/
module

public import Idealize.ShloMosaic.Lib.Pointwise.Sums
public import Idealize.ShloMosaic.PureOps.Ideal

@[expose] public section

noncomputable section

namespace Cert.Optim

open Idealize.ShloMosaic

/-- What an entry's update reads: the eight devices' shards of its gradient, its weight and its two moments. -/
@[ext] structure Entry where
  shard : Fin 8 → EReal
  weight : EReal
  first : EReal
  second : EReal

namespace Entry

variable (e : Entry)

/-- The gradient. -/
def grad : EReal := ∑ d, e.shard d

/-- The kernels add the shards one after the other. -/
theorem grad_eq : e.grad
    = e.shard 0 + e.shard 1 + e.shard 2 + e.shard 3 + e.shard 4 + e.shard 5 + e.shard 6 + e.shard 7 := Fin.sum_univ_eight e.shard

/-- The new first moment: nine tenths of the old one and one tenth of the gradient, -/
def newFirst : EReal := Ideal.ofBits .f32 0x3F666666#32 * e.first + Ideal.ofBits .f32 0x3DCCCCCD#32 * e.grad

/-- the new second moment, of the gradient's square, -/
def newSecond : EReal := Ideal.ofBits .f32 0x3F7FBE77#32 * e.second + Ideal.ofBits .f32 0x3A83126F#32 * (e.grad * e.grad)

/-- and the change of the weight: the first moment over the root of the second, both with their bias removed, and the
    weight's decay, times the learning rate. -/
def change : EReal :=
  Ideal.ofBits .f32 0xBA83126F#32 * (Ideal.div (Ideal.div e.newFirst (Ideal.ofBits .f32 0x3F26BD02#32))
    (Ideal.sqrt (Ideal.div e.newSecond (Ideal.ofBits .f32 0x3C231ACC#32)) + Ideal.ofBits .f32 0x322BCC77#32)
    + Ideal.ofBits .f32 0x3C23D70A#32 * e.weight)

end Entry

end Cert.Optim

end
-- ==== Proof.Optim.In.lean ====
/-
  AdamW's call for the input projection's weight: over the extended reals the kernel leaves the update of the transposed
  weight's entries, and so does the reference.
-/
module

public import proofs.«01_k».proof.Defs
public import proofs.«01_k».proof.Proof.Optim.Update
public import proofs.«01_k».proof.Proof.Gen.AdamwInIdeal.Value
public import proofs.«01_k».proof.Proof.Gen.RefAdamwInIdeal.Run
public import Idealize.ShloMosaic.Lib.Pipeline.ValueKit.Basic
public import Idealize.ShloMosaic.Lib.Pipeline.ValueKit.Geometry
public import Idealize.ShloMosaic.Lib.Pointwise
public import Idealize.ShloMosaic.Lib.StableHlo.ReadAt
public import Idealize.ShloMosaic.Adequacy

@[expose] public section

set_option maxRecDepth 16384

noncomputable section

namespace Cert.AdamwInIdeal.Rows

open Cert.AdamwInIdeal Cert.AdamwInIdeal.Gen Cert.Optim
open Idealize.ShloMosaic Idealize.ShloMosaic.TcCoe Idealize.SL.Sem

theorem hz : (![0, 0] : Fin 2 → Nat) = fun _ => 0 := funext fun a => by fin_cases a <;> rfl

/-- An entry of a point's blocks, -/
abbrev entryOf (x : Vec Ideal S8x144x1024 .bf16) (w m v : Vec Ideal S144x1024 .f32) (r : Fin 144) (l : Fin 1024) : Entry :=
  ⟨fun d => x (ix3 d r l), w (ix2 r l), m (ix2 r l), v (ix2 r l)⟩

/-- and what the point stores of it. -/
theorem grad_at (x : Vec Ideal S8x144x1024 .bf16) (w m v : Vec Ideal S144x1024 .f32) (r : Fin 144) (l : Fin 1024) :
    k0_pay6 (F := Ideal) x w m v (ix2 r l) = (entryOf x w m v r l).grad := by
  rw [Entry.grad_eq]
  unfold k0_pay6
  pointwise [k0_pay4]

theorem point (x : Vec Ideal S8x144x1024 .bf16) (w m v : Vec Ideal S144x1024 .f32) (r : Fin 144) (l : Fin 1024) :
    out0_4 x w m v (ix2 r l) = (entryOf x w m v r l).grad ∧ out0_5 x w m v (ix2 r l) = (entryOf x w m v r l).change
      ∧ out0_6 x w m v (ix2 r l) = (entryOf x w m v r l).newFirst ∧ out0_7 x w m v (ix2 r l) = (entryOf x w m v r l).newSecond := by
  refine ⟨?_, ?_, ?_, ?_⟩
  · unfold out0_4
    rw [View.canon_unit_zero hz]
    exact grad_at x w m v r l
  · unfold out0_5
    rw [View.canon_unit_zero hz, View.ld_unit_zero (S := S144x1024) hz, View.ld_unit_zero (S := S144x1024) hz, View.ld_unit_zero (S := S144x1024) hz]
    pointwise [k0_pay3, k0_pay1, k0_pay2, k0_pay5]
    rw [grad_at]
    rfl
  · unfold out0_6
    rw [View.canon_unit_zero hz, View.ld_unit_zero (S := S144x1024) hz]
    pointwise [k0_pay1]
    rw [grad_at]
    rfl
  · unfold out0_7
    rw [View.canon_unit_zero hz, View.ld_unit_zero (S := S144x1024) hz]
    pointwise [k0_pay2]
    rw [grad_at]
    rfl

variable (m : (ℓ : Loc nD τ sig) → Buf (Elt Ideal) ℓ) (c : Dev nD)

/-- The arguments by the entry of the transposed weight. -/
def entry (r : Fin 288) (l : Fin 1024) : Entry :=
  ⟨fun d => m ((c.tc : Thread nD τ).loc main_arg0) (ix3 d r l), m ((c.tc : Thread nD τ).loc main_arg1) (ix2 l r),
    m ((c.tc : Thread nD τ).loc main_arg2) (ix2 l r), m ((c.tc : Thread nD τ).loc main_arg3) (ix2 l r)⟩

/-- The arrays the blocks are read from. -/
theorem staged (r : Fin 288) (l : Fin 1024) : V m c main_v0 (ix2 r l) = (entry m c r l).weight
    ∧ V m c main_v1 (ix2 r l) = (entry m c r l).first ∧ V m c main_v2 (ix2 r l) = (entry m c r l).second := by
  refine ⟨?_, ?_, ?_⟩ <;>
    · entry_read
      pointwise
      rfl

/-- The arrays' row that row `r` of the blocks of point `t` is. -/
def rowOf (t : Fin cfg0.N) (r : Fin 144) : Fin 288 := ⟨t.val * 144 + r.val, by
  have : t.val < 2 := lt_of_lt_of_eq t.isLt (show cfg0.N = 2 from N_0)
  omega⟩

/-- The blocks are numbered by the point, rows after rows. -/
theorem index : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The blocks' entries are the arrays'. -/
theorem blocks (t : Fin cfg0.N) (r : Fin 144) (l : Fin 1024) :
    entryOf (iblk m c 0 t) (iblk m c 1 t) (iblk m c 2 t) (iblk m c 3 t) r l = entry m c (rowOf t r) l := by
  obtain ⟨i0, i1, i2, i3, -⟩ := index t
  obtain ⟨s1, s2, s3⟩ := staged m c (rowOf t r) l
  have e0 : (fun d : Fin 8 => iblk m c 0 t (ix3 d r l)) = (entry m c (rowOf t r) l).shard := funext fun d => by
    blk_simp [iblk]
    rw [V_main_arg0]
    refine congrArg _ ?_
    blk_ext [i0]
    rfl
  have e1 : iblk m c 1 t (ix2 r l) = (entry m c (rowOf t r) l).weight := by
    refine Eq.trans ?_ s1
    blk_simp [iblk]
    refine congrArg _ ?_
    blk_ext [i1]
    rfl
  have e2 : iblk m c 2 t (ix2 r l) = (entry m c (rowOf t r) l).first := by
    refine Eq.trans ?_ s2
    blk_simp [iblk]
    refine congrArg _ ?_
    blk_ext [i2]
    rfl
  have e3 : iblk m c 3 t (ix2 r l) = (entry m c (rowOf t r) l).second := by
    refine Eq.trans ?_ s3
    blk_simp [iblk]
    refine congrArg _ ?_
    blk_ext [i3]
    rfl
  exact Entry.ext e0 e1 e2 e3

/-- What a point stores, of the arguments. -/
theorem stored (t : Fin cfg0.N) (r : Fin 144) (l : Fin 1024) :
    out0_4 (iblk m c 0 t) (iblk m c 1 t) (iblk m c 2 t) (iblk m c 3 t) (ix2 r l) = (entry m c (rowOf t r) l).grad
      ∧ out0_5 (iblk m c 0 t) (iblk m c 1 t) (iblk m c 2 t) (iblk m c 3 t) (ix2 r l) = (entry m c (rowOf t r) l).change
      ∧ out0_6 (iblk m c 0 t) (iblk m c 1 t) (iblk m c 2 t) (iblk m c 3 t) (ix2 r l) = (entry m c (rowOf t r) l).newFirst
      ∧ out0_7 (iblk m c 0 t) (iblk m c 1 t) (iblk m c 2 t) (iblk m c 3 t) (ix2 r l) = (entry m c (rowOf t r) l).newSecond := by
  rw [← blocks m c t r l]
  exact point _ _ _ _ r l

/-- The four results. -/
def grads : Buf (Elt Ideal) ((c : Thread nD τ).loc main_v3_0) := fun i => (entry m c (i 0) (i 1)).grad
def changes : Buf (Elt Ideal) ((c : Thread nD τ).loc main_v3_1) := fun i => (entry m c (i 0) (i 1)).change
def firsts : Buf (Elt Ideal) ((c : Thread nD τ).loc main_v3_2) := fun i => (entry m c (i 0) (i 1)).newFirst
def seconds : Buf (Elt Ideal) ((c : Thread nD τ).loc main_v3_3) := fun i => (entry m c (i 0) (i 1)).newSecond

theorem arr_grads : (dats m 0 c).arrAt 4 cfg0.N = grads m c := by
  refine (dats m 0 c).arrAt_eq_of_covers 4 _ (by decide +kernel) fun t hf y => ?_
  have e : (win0_4.blk t).view.emb y = ix2 (rowOf t (y 0)) (y 1) := by
    blk_ext [(index t).2.2.2.2.1]
    rfl
  blk_simp
  rw [after0_4, e]
  exact (congrArg _ (eq_ix2 y)).trans (stored m c t (y 0) (y 1)).1

theorem arr_changes : (dats m 0 c).arrAt 5 cfg0.N = changes m c := by
  refine (dats m 0 c).arrAt_eq_of_covers 5 _ (by decide +kernel) fun t hf y => ?_
  have e : (win0_5.blk t).view.emb y = ix2 (rowOf t (y 0)) (y 1) := by
    blk_ext [(index t).2.2.2.2.2.1]
    rfl
  blk_simp
  rw [after0_5, e]
  exact (congrArg _ (eq_ix2 y)).trans (stored m c t (y 0) (y 1)).2.1

theorem arr_firsts : (dats m 0 c).arrAt 6 cfg0.N = firsts m c := by
  refine (dats m 0 c).arrAt_eq_of_covers 6 _ (by decide +kernel) fun t hf y => ?_
  have e : (win0_6.blk t).view.emb y = ix2 (rowOf t (y 0)) (y 1) := by
    blk_ext [(index t).2.2.2.2.2.2.1]
    rfl
  blk_simp
  rw [after0_6, e]
  exact (congrArg _ (eq_ix2 y)).trans (stored m c t (y 0) (y 1)).2.2.1

theorem arr_seconds : (dats m 0 c).arrAt 7 cfg0.N = seconds m c := by
  refine (dats m 0 c).arrAt_eq_of_covers 7 _ (by decide +kernel) fun t hf y => ?_
  have e : (win0_7.blk t).view.emb y = ix2 (rowOf t (y 0)) (y 1) := by
    blk_ext [(index t).2.2.2.2.2.2.2]
    rfl
  blk_simp
  rw [after0_7, e]
  exact (congrArg _ (eq_ix2 y)).trans (stored m c t (y 0) (y 1)).2.2.2

end Cert.AdamwInIdeal.Rows

namespace Cert.Optim

open Idealize.ShloMosaic Idealize.ShloMosaic.TcCoe Idealize.SL.Sem
open Cert.RefAdamwInIdeal Cert.RefAdamwInIdeal.Gen

/-- AdamW of the input projection's weight: the value claim. -/
theorem input : Cert.algebraic_AdamwInIdeal_RefAdamwInIdeal (hAdamwInIdeal := Cert.AdamwInIdeal.Gen.facts)
    (hRefAdamwInIdeal := Cert.RefAdamwInIdeal.Gen.facts) := by
  intro m g m' g' _ hag
  refine ⟨fun c => Cert.AdamwInIdeal.Rows.grads m c, fun c => Cert.AdamwInIdeal.Rows.changes m c,
    fun c => Cert.AdamwInIdeal.Rows.firsts m c, fun c => Cert.AdamwInIdeal.Rows.seconds m c, ?_, ?_⟩
  · exact (θ_run Cert.AdamwInIdeal.defs _ _).mono
      (fun r h c => ⟨(h c).1.trans (Cert.AdamwInIdeal.Rows.arr_grads m c), (h c).2.1.trans (Cert.AdamwInIdeal.Rows.arr_changes m c),
        (h c).2.2.1.trans (Cert.AdamwInIdeal.Rows.arr_firsts m c), (h c).2.2.2.1.trans (Cert.AdamwInIdeal.Rows.arr_seconds m c), (h c).2.2.2.2⟩)
      (Cert.AdamwInIdeal.Value.run_blocks (F := Ideal) m g)
  · refine (θ_run Cert.RefAdamwInIdeal.defs _ _).mono
      (fun r h c => ⟨(h c).1.trans (funext fun i => ?_), (h c).2.1.trans (funext fun i => ?_), (h c).2.2.1.trans (funext fun i => ?_),
        (h c).2.2.2.1.trans (funext fun i => ?_), (h c).2.2.2.2⟩)
      (Cert.RefAdamwInIdeal.Value.run (F := Ideal) m' g')
    all_goals
      obtain ⟨e0, e1, e2, e3⟩ := hag c
      simp only [e0, e1, e2, e3]
      rw [eq_ix2 i]
      pointwise
      rfl

end Cert.Optim

end
-- ==== Proof.Optim.Out.lean ====
/-
  AdamW's call for the output projection's weight: over the extended reals the kernel leaves the update of the weight's
  entries, and so does the reference.
-/
module

public import proofs.«01_k».proof.Defs
public import proofs.«01_k».proof.Proof.Optim.Update
public import proofs.«01_k».proof.Proof.Gen.AdamwOutIdeal.Value
public import proofs.«01_k».proof.Proof.Gen.RefAdamwOutIdeal.Run
public import Idealize.ShloMosaic.Lib.Pipeline.ValueKit.Basic
public import Idealize.ShloMosaic.Lib.Pipeline.ValueKit.Geometry
public import Idealize.ShloMosaic.Lib.Pointwise
public import Idealize.ShloMosaic.Adequacy

@[expose] public section

set_option maxRecDepth 16384

noncomputable section

namespace Cert.AdamwOutIdeal.Rows

open Cert.AdamwOutIdeal Cert.AdamwOutIdeal.Gen Cert.Optim
open Idealize.ShloMosaic Idealize.ShloMosaic.TcCoe Idealize.SL.Sem

theorem hz : (![0, 0] : Fin 2 → Nat) = fun _ => 0 := funext fun a => by fin_cases a <;> rfl

/-- An entry of a point's blocks, -/
abbrev entryOf (x : Vec Ideal S8x128x1024 .bf16) (w m v : Vec Ideal S128x1024 .f32) (r : Fin 128) (l : Fin 1024) : Entry :=
  ⟨fun d => x (ix3 d r l), w (ix2 r l), m (ix2 r l), v (ix2 r l)⟩

/-- and what the point stores of it. -/
theorem grad_at (x : Vec Ideal S8x128x1024 .bf16) (w m v : Vec Ideal S128x1024 .f32) (r : Fin 128) (l : Fin 1024) :
    k0_pay5 (F := Ideal) x w m v (ix2 r l) = (entryOf x w m v r l).grad := by
  rw [Entry.grad_eq]
  unfold k0_pay5
  pointwise [k0_pay4]

theorem point (x : Vec Ideal S8x128x1024 .bf16) (w m v : Vec Ideal S128x1024 .f32) (r : Fin 128) (l : Fin 1024) :
    out0_4 x w m v (ix2 r l) = (entryOf x w m v r l).grad ∧ out0_5 x w m v (ix2 r l) = (entryOf x w m v r l).change
      ∧ out0_6 x w m v (ix2 r l) = (entryOf x w m v r l).newFirst ∧ out0_7 x w m v (ix2 r l) = (entryOf x w m v r l).newSecond := by
  refine ⟨?_, ?_, ?_, ?_⟩
  · unfold out0_4
    rw [View.canon_unit_zero hz]
    exact grad_at x w m v r l
  · unfold out0_5
    rw [View.canon_unit_zero hz, View.ld_unit_zero (S := S128x1024) hz, View.ld_unit_zero (S := S128x1024) hz, View.ld_unit_zero (S := S128x1024) hz]
    pointwise [k0_pay3, k0_pay1, k0_pay2]
    rw [grad_at]
    rfl
  · unfold out0_6
    rw [View.canon_unit_zero hz, View.ld_unit_zero (S := S128x1024) hz]
    pointwise [k0_pay1]
    rw [grad_at]
    rfl
  · unfold out0_7
    rw [View.canon_unit_zero hz, View.ld_unit_zero (S := S128x1024) hz]
    pointwise [k0_pay2]
    rw [grad_at]
    rfl

variable (m : (ℓ : Loc nD τ sig) → Buf (Elt Ideal) ℓ) (c : Dev nD)

/-- The arguments by the entry of the weight. -/
def entry (r : Fin 128) (l : Fin 1024) : Entry :=
  ⟨fun d => m ((c.tc : Thread nD τ).loc main_arg0) (ix3 d r l), m ((c.tc : Thread nD τ).loc main_arg1) (ix2 r l),
    m ((c.tc : Thread nD τ).loc main_arg2) (ix2 r l), m ((c.tc : Thread nD τ).loc main_arg3) (ix2 r l)⟩

/-- Every block is its whole array. -/
theorem index : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The blocks' entries are the arrays'. -/
theorem blocks (t : Fin cfg0.N) (r : Fin 128) (l : Fin 1024) :
    entryOf (iblk m c 0 t) (iblk m c 1 t) (iblk m c 2 t) (iblk m c 3 t) r l = entry m c r l := by
  obtain ⟨i0, i1, i2, i3, -⟩ := index t
  have e0 : (fun d : Fin 8 => iblk m c 0 t (ix3 d r l)) = (entry m c r l).shard := funext fun d => by
    blk_simp [iblk]
    rw [V_main_arg0]
    refine congrArg _ ?_
    blk_ext [i0]
  have e1 : iblk m c 1 t (ix2 r l) = (entry m c r l).weight := by
    blk_simp [iblk]
    rw [V_main_arg1]
    refine congrArg _ ?_
    blk_ext [i1]
  have e2 : iblk m c 2 t (ix2 r l) = (entry m c r l).first := by
    blk_simp [iblk]
    rw [V_main_arg2]
    refine congrArg _ ?_
    blk_ext [i2]
  have e3 : iblk m c 3 t (ix2 r l) = (entry m c r l).second := by
    blk_simp [iblk]
    rw [V_main_arg3]
    refine congrArg _ ?_
    blk_ext [i3]
  exact Entry.ext e0 e1 e2 e3

/-- What a point stores, of the arguments. -/
theorem stored (t : Fin cfg0.N) (r : Fin 128) (l : Fin 1024) :
    out0_4 (iblk m c 0 t) (iblk m c 1 t) (iblk m c 2 t) (iblk m c 3 t) (ix2 r l) = (entry m c r l).grad
      ∧ out0_5 (iblk m c 0 t) (iblk m c 1 t) (iblk m c 2 t) (iblk m c 3 t) (ix2 r l) = (entry m c r l).change
      ∧ out0_6 (iblk m c 0 t) (iblk m c 1 t) (iblk m c 2 t) (iblk m c 3 t) (ix2 r l) = (entry m c r l).newFirst
      ∧ out0_7 (iblk m c 0 t) (iblk m c 1 t) (iblk m c 2 t) (iblk m c 3 t) (ix2 r l) = (entry m c r l).newSecond := by
  rw [← blocks m c t r l]
  exact point _ _ _ _ r l

/-- The four results. -/
def grads : Buf (Elt Ideal) ((c : Thread nD τ).loc main_v0_0) := fun i => (entry m c (i 0) (i 1)).grad
def changes : Buf (Elt Ideal) ((c : Thread nD τ).loc main_v0_1) := fun i => (entry m c (i 0) (i 1)).change
def firsts : Buf (Elt Ideal) ((c : Thread nD τ).loc main_v0_2) := fun i => (entry m c (i 0) (i 1)).newFirst
def seconds : Buf (Elt Ideal) ((c : Thread nD τ).loc main_v0_3) := fun i => (entry m c (i 0) (i 1)).newSecond

theorem arr_grads : (dats m 0 c).arrAt 4 cfg0.N = grads m c := by
  refine (dats m 0 c).arrAt_eq_of_covers 4 _ (by decide +kernel) fun t hf y => ?_
  have e : (win0_4.blk t).view.emb y = ix2 (y 0) (y 1) := by
    blk_ext [(index t).2.2.2.2.1]
  blk_simp
  rw [after0_4, e]
  exact (congrArg _ (eq_ix2 y)).trans (stored m c t (y 0) (y 1)).1

theorem arr_changes : (dats m 0 c).arrAt 5 cfg0.N = changes m c := by
  refine (dats m 0 c).arrAt_eq_of_covers 5 _ (by decide +kernel) fun t hf y => ?_
  have e : (win0_5.blk t).view.emb y = ix2 (y 0) (y 1) := by
    blk_ext [(index t).2.2.2.2.2.1]
  blk_simp
  rw [after0_5, e]
  exact (congrArg _ (eq_ix2 y)).trans (stored m c t (y 0) (y 1)).2.1

theorem arr_firsts : (dats m 0 c).arrAt 6 cfg0.N = firsts m c := by
  refine (dats m 0 c).arrAt_eq_of_covers 6 _ (by decide +kernel) fun t hf y => ?_
  have e : (win0_6.blk t).view.emb y = ix2 (y 0) (y 1) := by
    blk_ext [(index t).2.2.2.2.2.2.1]
  blk_simp
  rw [after0_6, e]
  exact (congrArg _ (eq_ix2 y)).trans (stored m c t (y 0) (y 1)).2.2.1

theorem arr_seconds : (dats m 0 c).arrAt 7 cfg0.N = seconds m c := by
  refine (dats m 0 c).arrAt_eq_of_covers 7 _ (by decide +kernel) fun t hf y => ?_
  have e : (win0_7.blk t).view.emb y = ix2 (y 0) (y 1) := by
    blk_ext [(index t).2.2.2.2.2.2.2]
  blk_simp
  rw [after0_7, e]
  exact (congrArg _ (eq_ix2 y)).trans (stored m c t (y 0) (y 1)).2.2.2

end Cert.AdamwOutIdeal.Rows

namespace Cert.Optim

open Idealize.ShloMosaic Idealize.ShloMosaic.TcCoe Idealize.SL.Sem
open Cert.RefAdamwOutIdeal Cert.RefAdamwOutIdeal.Gen

/-- AdamW of the output projection's weight: the value claim. -/
theorem out : Cert.algebraic_AdamwOutIdeal_RefAdamwOutIdeal (hAdamwOutIdeal := Cert.AdamwOutIdeal.Gen.facts)
    (hRefAdamwOutIdeal := Cert.RefAdamwOutIdeal.Gen.facts) := by
  intro m g m' g' _ hag
  refine ⟨fun c => Cert.AdamwOutIdeal.Rows.grads m c, fun c => Cert.AdamwOutIdeal.Rows.changes m c,
    fun c => Cert.AdamwOutIdeal.Rows.firsts m c, fun c => Cert.AdamwOutIdeal.Rows.seconds m c, ?_, ?_⟩
  · exact (θ_run Cert.AdamwOutIdeal.defs _ _).mono
      (fun r h c => ⟨(h c).1.trans (Cert.AdamwOutIdeal.Rows.arr_grads m c), (h c).2.1.trans (Cert.AdamwOutIdeal.Rows.arr_changes m c),
        (h c).2.2.1.trans (Cert.AdamwOutIdeal.Rows.arr_firsts m c), (h c).2.2.2.1.trans (Cert.AdamwOutIdeal.Rows.arr_seconds m c), (h c).2.2.2.2⟩)
      (Cert.AdamwOutIdeal.Value.run_blocks (F := Ideal) m g)
  · refine (θ_run Cert.RefAdamwOutIdeal.defs _ _).mono
      (fun r h c => ⟨(h c).1.trans (funext fun i => ?_), (h c).2.1.trans (funext fun i => ?_), (h c).2.2.1.trans (funext fun i => ?_),
        (h c).2.2.2.1.trans (funext fun i => ?_), (h c).2.2.2.2⟩)
      (Cert.RefAdamwOutIdeal.Value.run (F := Ideal) m' g')
    all_goals
      obtain ⟨e0, e1, e2, e3⟩ := hag c
      simp only [e0, e1, e2, e3]
      obtain ⟨r, l, rfl⟩ : ∃ (r : Fin 128) (l : Fin 1024), i = ix2 r l := ⟨i 0, i 1, eq_ix2 i⟩
      pointwise
      rfl

end Cert.Optim

end
-- ==== Proof.Optim.GateUp.lean ====
/-
  AdamW's call for the weight of the gate and up projections: over the extended reals the kernel leaves the update of the transposed
  weight's entries, and so does the reference.
-/
module

public import proofs.«01_k».proof.Defs
public import proofs.«01_k».proof.Proof.Optim.Update
public import proofs.«01_k».proof.Proof.Gen.AdamwGateUpIdeal.Value
public import proofs.«01_k».proof.Proof.Gen.RefAdamwGateUpIdeal.Run
public import Idealize.ShloMosaic.Lib.Pipeline.ValueKit.Basic
public import Idealize.ShloMosaic.Lib.Pipeline.ValueKit.Geometry
public import Idealize.ShloMosaic.Lib.Pointwise
public import Idealize.ShloMosaic.Lib.StableHlo.ReadAt
public import Idealize.ShloMosaic.Adequacy

@[expose] public section

set_option maxRecDepth 16384

noncomputable section

namespace Cert.AdamwGateUpIdeal.Rows

open Cert.AdamwGateUpIdeal Cert.AdamwGateUpIdeal.Gen Cert.Optim
open Idealize.ShloMosaic Idealize.ShloMosaic.TcCoe Idealize.SL.Sem

theorem hz : (![0, 0] : Fin 2 → Nat) = fun _ => 0 := funext fun a => by fin_cases a <;> rfl

/-- An entry of a point's blocks, -/
abbrev entryOf (x : Vec Ideal S8x176x1024 .bf16) (w m v : Vec Ideal S176x1024 .f32) (r : Fin 176) (l : Fin 1024) : Entry :=
  ⟨fun d => x (ix3 d r l), w (ix2 r l), m (ix2 r l), v (ix2 r l)⟩

/-- and what the point stores of it. -/
theorem grad_at (x : Vec Ideal S8x176x1024 .bf16) (w m v : Vec Ideal S176x1024 .f32) (r : Fin 176) (l : Fin 1024) :
    k0_pay6 (F := Ideal) x w m v (ix2 r l) = (entryOf x w m v r l).grad := by
  rw [Entry.grad_eq]
  unfold k0_pay6
  pointwise [k0_pay4]

theorem point (x : Vec Ideal S8x176x1024 .bf16) (w m v : Vec Ideal S176x1024 .f32) (r : Fin 176) (l : Fin 1024) :
    out0_4 x w m v (ix2 r l) = (entryOf x w m v r l).grad ∧ out0_5 x w m v (ix2 r l) = (entryOf x w m v r l).change
      ∧ out0_6 x w m v (ix2 r l) = (entryOf x w m v r l).newFirst ∧ out0_7 x w m v (ix2 r l) = (entryOf x w m v r l).newSecond := by
  refine ⟨?_, ?_, ?_, ?_⟩
  · unfold out0_4
    rw [View.canon_unit_zero hz]
    exact grad_at x w m v r l
  · unfold out0_5
    rw [View.canon_unit_zero hz, View.ld_unit_zero (S := S176x1024) hz, View.ld_unit_zero (S := S176x1024) hz, View.ld_unit_zero (S := S176x1024) hz]
    pointwise [k0_pay3, k0_pay1, k0_pay2, k0_pay5]
    rw [grad_at]
    rfl
  · unfold out0_6
    rw [View.canon_unit_zero hz, View.ld_unit_zero (S := S176x1024) hz]
    pointwise [k0_pay1]
    rw [grad_at]
    rfl
  · unfold out0_7
    rw [View.canon_unit_zero hz, View.ld_unit_zero (S := S176x1024) hz]
    pointwise [k0_pay2]
    rw [grad_at]
    rfl

variable (m : (ℓ : Loc nD τ sig) → Buf (Elt Ideal) ℓ) (c : Dev nD)

/-- The arguments by the entry of the transposed weight. -/
def entry (r : Fin 704) (l : Fin 1024) : Entry :=
  ⟨fun d => m ((c.tc : Thread nD τ).loc main_arg0) (ix3 d r l), m ((c.tc : Thread nD τ).loc main_arg1) (ix2 l r),
    m ((c.tc : Thread nD τ).loc main_arg2) (ix2 l r), m ((c.tc : Thread nD τ).loc main_arg3) (ix2 l r)⟩

/-- The arrays the blocks are read from. -/
theorem staged (r : Fin 704) (l : Fin 1024) : V m c main_v0 (ix2 r l) = (entry m c r l).weight
    ∧ V m c main_v1 (ix2 r l) = (entry m c r l).first ∧ V m c main_v2 (ix2 r l) = (entry m c r l).second := by
  refine ⟨?_, ?_, ?_⟩ <;>
    · entry_read
      pointwise
      rfl

/-- The arrays' row that row `r` of the blocks of point `t` is. -/
def rowOf (t : Fin cfg0.N) (r : Fin 176) : Fin 704 := ⟨t.val * 176 + r.val, by
  have : t.val < 4 := lt_of_lt_of_eq t.isLt (show cfg0.N = 4 from N_0)
  omega⟩

/-- The blocks are numbered by the point, rows after rows. -/
theorem index : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The blocks' entries are the arrays'. -/
theorem blocks (t : Fin cfg0.N) (r : Fin 176) (l : Fin 1024) :
    entryOf (iblk m c 0 t) (iblk m c 1 t) (iblk m c 2 t) (iblk m c 3 t) r l = entry m c (rowOf t r) l := by
  obtain ⟨i0, i1, i2, i3, -⟩ := index t
  obtain ⟨s1, s2, s3⟩ := staged m c (rowOf t r) l
  have e0 : (fun d : Fin 8 => iblk m c 0 t (ix3 d r l)) = (entry m c (rowOf t r) l).shard := funext fun d => by
    blk_simp [iblk]
    rw [V_main_arg0]
    refine congrArg _ ?_
    blk_ext [i0]
    rfl
  have e1 : iblk m c 1 t (ix2 r l) = (entry m c (rowOf t r) l).weight := by
    refine Eq.trans ?_ s1
    blk_simp [iblk]
    refine congrArg _ ?_
    blk_ext [i1]
    rfl
  have e2 : iblk m c 2 t (ix2 r l) = (entry m c (rowOf t r) l).first := by
    refine Eq.trans ?_ s2
    blk_simp [iblk]
    refine congrArg _ ?_
    blk_ext [i2]
    rfl
  have e3 : iblk m c 3 t (ix2 r l) = (entry m c (rowOf t r) l).second := by
    refine Eq.trans ?_ s3
    blk_simp [iblk]
    refine congrArg _ ?_
    blk_ext [i3]
    rfl
  exact Entry.ext e0 e1 e2 e3

/-- What a point stores, of the arguments. -/
theorem stored (t : Fin cfg0.N) (r : Fin 176) (l : Fin 1024) :
    out0_4 (iblk m c 0 t) (iblk m c 1 t) (iblk m c 2 t) (iblk m c 3 t) (ix2 r l) = (entry m c (rowOf t r) l).grad
      ∧ out0_5 (iblk m c 0 t) (iblk m c 1 t) (iblk m c 2 t) (iblk m c 3 t) (ix2 r l) = (entry m c (rowOf t r) l).change
      ∧ out0_6 (iblk m c 0 t) (iblk m c 1 t) (iblk m c 2 t) (iblk m c 3 t) (ix2 r l) = (entry m c (rowOf t r) l).newFirst
      ∧ out0_7 (iblk m c 0 t) (iblk m c 1 t) (iblk m c 2 t) (iblk m c 3 t) (ix2 r l) = (entry m c (rowOf t r) l).newSecond := by
  rw [← blocks m c t r l]
  exact point _ _ _ _ r l

/-- The four results. -/
def grads : Buf (Elt Ideal) ((c : Thread nD τ).loc main_v3_0) := fun i => (entry m c (i 0) (i 1)).grad
def changes : Buf (Elt Ideal) ((c : Thread nD τ).loc main_v3_1) := fun i => (entry m c (i 0) (i 1)).change
def firsts : Buf (Elt Ideal) ((c : Thread nD τ).loc main_v3_2) := fun i => (entry m c (i 0) (i 1)).newFirst
def seconds : Buf (Elt Ideal) ((c : Thread nD τ).loc main_v3_3) := fun i => (entry m c (i 0) (i 1)).newSecond

theorem arr_grads : (dats m 0 c).arrAt 4 cfg0.N = grads m c := by
  refine (dats m 0 c).arrAt_eq_of_covers 4 _ (by decide +kernel) fun t hf y => ?_
  have e : (win0_4.blk t).view.emb y = ix2 (rowOf t (y 0)) (y 1) := by
    blk_ext [(index t).2.2.2.2.1]
    rfl
  blk_simp
  rw [after0_4, e]
  exact (congrArg _ (eq_ix2 y)).trans (stored m c t (y 0) (y 1)).1

theorem arr_changes : (dats m 0 c).arrAt 5 cfg0.N = changes m c := by
  refine (dats m 0 c).arrAt_eq_of_covers 5 _ (by decide +kernel) fun t hf y => ?_
  have e : (win0_5.blk t).view.emb y = ix2 (rowOf t (y 0)) (y 1) := by
    blk_ext [(index t).2.2.2.2.2.1]
    rfl
  blk_simp
  rw [after0_5, e]
  exact (congrArg _ (eq_ix2 y)).trans (stored m c t (y 0) (y 1)).2.1

theorem arr_firsts : (dats m 0 c).arrAt 6 cfg0.N = firsts m c := by
  refine (dats m 0 c).arrAt_eq_of_covers 6 _ (by decide +kernel) fun t hf y => ?_
  have e : (win0_6.blk t).view.emb y = ix2 (rowOf t (y 0)) (y 1) := by
    blk_ext [(index t).2.2.2.2.2.2.1]
    rfl
  blk_simp
  rw [after0_6, e]
  exact (congrArg _ (eq_ix2 y)).trans (stored m c t (y 0) (y 1)).2.2.1

theorem arr_seconds : (dats m 0 c).arrAt 7 cfg0.N = seconds m c := by
  refine (dats m 0 c).arrAt_eq_of_covers 7 _ (by decide +kernel) fun t hf y => ?_
  have e : (win0_7.blk t).view.emb y = ix2 (rowOf t (y 0)) (y 1) := by
    blk_ext [(index t).2.2.2.2.2.2.2]
    rfl
  blk_simp
  rw [after0_7, e]
  exact (congrArg _ (eq_ix2 y)).trans (stored m c t (y 0) (y 1)).2.2.2

end Cert.AdamwGateUpIdeal.Rows

namespace Cert.Optim

open Idealize.ShloMosaic Idealize.ShloMosaic.TcCoe Idealize.SL.Sem
open Cert.RefAdamwGateUpIdeal Cert.RefAdamwGateUpIdeal.Gen

/-- AdamW of the weight of the gate and up projections: the value claim. -/
theorem gateUp : Cert.algebraic_AdamwGateUpIdeal_RefAdamwGateUpIdeal (hAdamwGateUpIdeal := Cert.AdamwGateUpIdeal.Gen.facts)
    (hRefAdamwGateUpIdeal := Cert.RefAdamwGateUpIdeal.Gen.facts) := by
  intro m g m' g' _ hag
  refine ⟨fun c => Cert.AdamwGateUpIdeal.Rows.grads m c, fun c => Cert.AdamwGateUpIdeal.Rows.changes m c,
    fun c => Cert.AdamwGateUpIdeal.Rows.firsts m c, fun c => Cert.AdamwGateUpIdeal.Rows.seconds m c, ?_, ?_⟩
  · exact (θ_run Cert.AdamwGateUpIdeal.defs _ _).mono
      (fun r h c => ⟨(h c).1.trans (Cert.AdamwGateUpIdeal.Rows.arr_grads m c), (h c).2.1.trans (Cert.AdamwGateUpIdeal.Rows.arr_changes m c),
        (h c).2.2.1.trans (Cert.AdamwGateUpIdeal.Rows.arr_firsts m c), (h c).2.2.2.1.trans (Cert.AdamwGateUpIdeal.Rows.arr_seconds m c), (h c).2.2.2.2⟩)
      (Cert.AdamwGateUpIdeal.Value.run_blocks (F := Ideal) m g)
  · refine (θ_run Cert.RefAdamwGateUpIdeal.defs _ _).mono
      (fun r h c => ⟨(h c).1.trans (funext fun i => ?_), (h c).2.1.trans (funext fun i => ?_), (h c).2.2.1.trans (funext fun i => ?_),
        (h c).2.2.2.1.trans (funext fun i => ?_), (h c).2.2.2.2⟩)
      (Cert.RefAdamwGateUpIdeal.Value.run (F := Ideal) m' g')
    all_goals
      obtain ⟨e0, e1, e2, e3⟩ := hag c
      simp only [e0, e1, e2, e3]
      rw [eq_ix2 i]
      pointwise
      rfl

end Cert.Optim

end
-- ==== Proof.Optim.Down.lean ====
/-
  AdamW's call for the down projection's weight: over the extended reals the kernel leaves the update of the weight's
  entries, and so does the reference.
-/
module

public import proofs.«01_k».proof.Defs
public import proofs.«01_k».proof.Proof.Optim.Update
public import proofs.«01_k».proof.Proof.Gen.AdamwDownIdeal.Value
public import proofs.«01_k».proof.Proof.Gen.RefAdamwDownIdeal.Run
public import Idealize.ShloMosaic.Lib.Pipeline.ValueKit.Basic
public import Idealize.ShloMosaic.Lib.Pipeline.ValueKit.Geometry
public import Idealize.ShloMosaic.Lib.Pointwise
public import Idealize.ShloMosaic.Adequacy

@[expose] public section

set_option maxRecDepth 16384

noncomputable section

namespace Cert.AdamwDownIdeal.Rows

open Cert.AdamwDownIdeal Cert.AdamwDownIdeal.Gen Cert.Optim
open Idealize.ShloMosaic Idealize.ShloMosaic.TcCoe Idealize.SL.Sem

theorem hz : (![0, 0] : Fin 2 → Nat) = fun _ => 0 := funext fun a => by fin_cases a <;> rfl

/-- An entry of a point's blocks, -/
abbrev entryOf (x : Vec Ideal S8x176x1024 .bf16) (w m v : Vec Ideal S176x1024 .f32) (r : Fin 176) (l : Fin 1024) : Entry :=
  ⟨fun d => x (ix3 d r l), w (ix2 r l), m (ix2 r l), v (ix2 r l)⟩

/-- and what the point stores of it. -/
theorem grad_at (x : Vec Ideal S8x176x1024 .bf16) (w m v : Vec Ideal S176x1024 .f32) (r : Fin 176) (l : Fin 1024) :
    k0_pay5 (F := Ideal) x w m v (ix2 r l) = (entryOf x w m v r l).grad := by
  rw [Entry.grad_eq]
  unfold k0_pay5
  pointwise [k0_pay4]

theorem point (x : Vec Ideal S8x176x1024 .bf16) (w m v : Vec Ideal S176x1024 .f32) (r : Fin 176) (l : Fin 1024) :
    out0_4 x w m v (ix2 r l) = (entryOf x w m v r l).grad ∧ out0_5 x w m v (ix2 r l) = (entryOf x w m v r l).change
      ∧ out0_6 x w m v (ix2 r l) = (entryOf x w m v r l).newFirst ∧ out0_7 x w m v (ix2 r l) = (entryOf x w m v r l).newSecond := by
  refine ⟨?_, ?_, ?_, ?_⟩
  · unfold out0_4
    rw [View.canon_unit_zero hz]
    exact grad_at x w m v r l
  · unfold out0_5
    rw [View.canon_unit_zero hz, View.ld_unit_zero (S := S176x1024) hz, View.ld_unit_zero (S := S176x1024) hz, View.ld_unit_zero (S := S176x1024) hz]
    pointwise [k0_pay3, k0_pay1, k0_pay2]
    rw [grad_at]
    rfl
  · unfold out0_6
    rw [View.canon_unit_zero hz, View.ld_unit_zero (S := S176x1024) hz]
    pointwise [k0_pay1]
    rw [grad_at]
    rfl
  · unfold out0_7
    rw [View.canon_unit_zero hz, View.ld_unit_zero (S := S176x1024) hz]
    pointwise [k0_pay2]
    rw [grad_at]
    rfl

variable (m : (ℓ : Loc nD τ sig) → Buf (Elt Ideal) ℓ) (c : Dev nD)

/-- The arguments by the entry of the weight. -/
def entry (r : Fin 352) (l : Fin 1024) : Entry :=
  ⟨fun d => m ((c.tc : Thread nD τ).loc main_arg0) (ix3 d r l), m ((c.tc : Thread nD τ).loc main_arg1) (ix2 r l),
    m ((c.tc : Thread nD τ).loc main_arg2) (ix2 r l), m ((c.tc : Thread nD τ).loc main_arg3) (ix2 r l)⟩

/-- The arrays' row that row `r` of the blocks of point `t` is. -/
def rowOf (t : Fin cfg0.N) (r : Fin 176) : Fin 352 := ⟨t.val * 176 + r.val, by
  have : t.val < 2 := lt_of_lt_of_eq t.isLt (show cfg0.N = 2 from N_0)
  omega⟩

/-- The blocks are numbered by the point, rows after rows. -/
theorem index : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The blocks' entries are the arrays'. -/
theorem blocks (t : Fin cfg0.N) (r : Fin 176) (l : Fin 1024) :
    entryOf (iblk m c 0 t) (iblk m c 1 t) (iblk m c 2 t) (iblk m c 3 t) r l = entry m c (rowOf t r) l := by
  obtain ⟨i0, i1, i2, i3, -⟩ := index t
  have e0 : (fun d : Fin 8 => iblk m c 0 t (ix3 d r l)) = (entry m c (rowOf t r) l).shard := funext fun d => by
    blk_simp [iblk]
    rw [V_main_arg0]
    refine congrArg _ ?_
    blk_ext [i0]
    rfl
  have e1 : iblk m c 1 t (ix2 r l) = (entry m c (rowOf t r) l).weight := by
    blk_simp [iblk]
    rw [V_main_arg1]
    refine congrArg _ ?_
    blk_ext [i1]
    rfl
  have e2 : iblk m c 2 t (ix2 r l) = (entry m c (rowOf t r) l).first := by
    blk_simp [iblk]
    rw [V_main_arg2]
    refine congrArg _ ?_
    blk_ext [i2]
    rfl
  have e3 : iblk m c 3 t (ix2 r l) = (entry m c (rowOf t r) l).second := by
    blk_simp [iblk]
    rw [V_main_arg3]
    refine congrArg _ ?_
    blk_ext [i3]
    rfl
  exact Entry.ext e0 e1 e2 e3

/-- What a point stores, of the arguments. -/
theorem stored (t : Fin cfg0.N) (r : Fin 176) (l : Fin 1024) :
    out0_4 (iblk m c 0 t) (iblk m c 1 t) (iblk m c 2 t) (iblk m c 3 t) (ix2 r l) = (entry m c (rowOf t r) l).grad
      ∧ out0_5 (iblk m c 0 t) (iblk m c 1 t) (iblk m c 2 t) (iblk m c 3 t) (ix2 r l) = (entry m c (rowOf t r) l).change
      ∧ out0_6 (iblk m c 0 t) (iblk m c 1 t) (iblk m c 2 t) (iblk m c 3 t) (ix2 r l) = (entry m c (rowOf t r) l).newFirst
      ∧ out0_7 (iblk m c 0 t) (iblk m c 1 t) (iblk m c 2 t) (iblk m c 3 t) (ix2 r l) = (entry m c (rowOf t r) l).newSecond := by
  rw [← blocks m c t r l]
  exact point _ _ _ _ r l

/-- The four results. -/
def grads : Buf (Elt Ideal) ((c : Thread nD τ).loc main_v0_0) := fun i => (entry m c (i 0) (i 1)).grad
def changes : Buf (Elt Ideal) ((c : Thread nD τ).loc main_v0_1) := fun i => (entry m c (i 0) (i 1)).change
def firsts : Buf (Elt Ideal) ((c : Thread nD τ).loc main_v0_2) := fun i => (entry m c (i 0) (i 1)).newFirst
def seconds : Buf (Elt Ideal) ((c : Thread nD τ).loc main_v0_3) := fun i => (entry m c (i 0) (i 1)).newSecond

theorem arr_grads : (dats m 0 c).arrAt 4 cfg0.N = grads m c := by
  refine (dats m 0 c).arrAt_eq_of_covers 4 _ (by decide +kernel) fun t hf y => ?_
  have e : (win0_4.blk t).view.emb y = ix2 (rowOf t (y 0)) (y 1) := by
    blk_ext [(index t).2.2.2.2.1]
    rfl
  blk_simp
  rw [after0_4, e]
  exact (congrArg _ (eq_ix2 y)).trans (stored m c t (y 0) (y 1)).1

theorem arr_changes : (dats m 0 c).arrAt 5 cfg0.N = changes m c := by
  refine (dats m 0 c).arrAt_eq_of_covers 5 _ (by decide +kernel) fun t hf y => ?_
  have e : (win0_5.blk t).view.emb y = ix2 (rowOf t (y 0)) (y 1) := by
    blk_ext [(index t).2.2.2.2.2.1]
    rfl
  blk_simp
  rw [after0_5, e]
  exact (congrArg _ (eq_ix2 y)).trans (stored m c t (y 0) (y 1)).2.1

theorem arr_firsts : (dats m 0 c).arrAt 6 cfg0.N = firsts m c := by
  refine (dats m 0 c).arrAt_eq_of_covers 6 _ (by decide +kernel) fun t hf y => ?_
  have e : (win0_6.blk t).view.emb y = ix2 (rowOf t (y 0)) (y 1) := by
    blk_ext [(index t).2.2.2.2.2.2.1]
    rfl
  blk_simp
  rw [after0_6, e]
  exact (congrArg _ (eq_ix2 y)).trans (stored m c t (y 0) (y 1)).2.2.1

theorem arr_seconds : (dats m 0 c).arrAt 7 cfg0.N = seconds m c := by
  refine (dats m 0 c).arrAt_eq_of_covers 7 _ (by decide +kernel) fun t hf y => ?_
  have e : (win0_7.blk t).view.emb y = ix2 (rowOf t (y 0)) (y 1) := by
    blk_ext [(index t).2.2.2.2.2.2.2]
    rfl
  blk_simp
  rw [after0_7, e]
  exact (congrArg _ (eq_ix2 y)).trans (stored m c t (y 0) (y 1)).2.2.2

end Cert.AdamwDownIdeal.Rows

namespace Cert.Optim

open Idealize.ShloMosaic Idealize.ShloMosaic.TcCoe Idealize.SL.Sem
open Cert.RefAdamwDownIdeal Cert.RefAdamwDownIdeal.Gen

/-- AdamW of the down projection's weight: the value claim. -/
theorem down : Cert.algebraic_AdamwDownIdeal_RefAdamwDownIdeal (hAdamwDownIdeal := Cert.AdamwDownIdeal.Gen.facts)
    (hRefAdamwDownIdeal := Cert.RefAdamwDownIdeal.Gen.facts) := by
  intro m g m' g' _ hag
  refine ⟨fun c => Cert.AdamwDownIdeal.Rows.grads m c, fun c => Cert.AdamwDownIdeal.Rows.changes m c,
    fun c => Cert.AdamwDownIdeal.Rows.firsts m c, fun c => Cert.AdamwDownIdeal.Rows.seconds m c, ?_, ?_⟩
  · exact (θ_run Cert.AdamwDownIdeal.defs _ _).mono
      (fun r h c => ⟨(h c).1.trans (Cert.AdamwDownIdeal.Rows.arr_grads m c), (h c).2.1.trans (Cert.AdamwDownIdeal.Rows.arr_changes m c),
        (h c).2.2.1.trans (Cert.AdamwDownIdeal.Rows.arr_firsts m c), (h c).2.2.2.1.trans (Cert.AdamwDownIdeal.Rows.arr_seconds m c), (h c).2.2.2.2⟩)
      (Cert.AdamwDownIdeal.Value.run_blocks (F := Ideal) m g)
  · refine (θ_run Cert.RefAdamwDownIdeal.defs _ _).mono
      (fun r h c => ⟨(h c).1.trans (funext fun i => ?_), (h c).2.1.trans (funext fun i => ?_), (h c).2.2.1.trans (funext fun i => ?_),
        (h c).2.2.2.1.trans (funext fun i => ?_), (h c).2.2.2.2⟩)
      (Cert.RefAdamwDownIdeal.Value.run (F := Ideal) m' g')
    all_goals
      obtain ⟨e0, e1, e2, e3⟩ := hag c
      simp only [e0, e1, e2, e3]
      obtain ⟨r, l, rfl⟩ : ∃ (r : Fin 352) (l : Fin 1024), i = ix2 r l := ⟨i 0, i 1, eq_ix2 i⟩
      pointwise
      rfl

end Cert.Optim

end
-- ==== Proof.Optim.Small.lean ====
/-
  AdamW's call for the small parameters, packed in one array: over the extended reals the kernel leaves the update of the packed
  entries, and so does the reference.
-/
module

public import proofs.«01_k».proof.Defs
public import proofs.«01_k».proof.Proof.Optim.Update
public import proofs.«01_k».proof.Proof.Gen.AdamwSmallIdeal.Value
public import proofs.«01_k».proof.Proof.Gen.RefAdamwSmallIdeal.Run
public import Idealize.ShloMosaic.Lib.Pipeline.ValueKit.Basic
public import Idealize.ShloMosaic.Lib.Pipeline.ValueKit.Geometry
public import Idealize.ShloMosaic.Lib.Pointwise
public import Idealize.ShloMosaic.Adequacy

@[expose] public section

set_option maxRecDepth 16384

noncomputable section

namespace Cert.AdamwSmallIdeal.Rows

open Cert.AdamwSmallIdeal Cert.AdamwSmallIdeal.Gen Cert.Optim
open Idealize.ShloMosaic Idealize.ShloMosaic.TcCoe Idealize.SL.Sem

theorem hz : (![0, 0] : Fin 2 → Nat) = fun _ => 0 := funext fun a => by fin_cases a <;> rfl

/-- An entry of a point's blocks, -/
abbrev entryOf (x : Vec Ideal S8x8x1024 .f32) (w m v : Vec Ideal S8x1024 .f32) (r : Fin 8) (l : Fin 1024) : Entry :=
  ⟨fun d => x (ix3 d r l), w (ix2 r l), m (ix2 r l), v (ix2 r l)⟩

/-- and what the point stores of it. -/
theorem grad_at (x : Vec Ideal S8x8x1024 .f32) (w m v : Vec Ideal S8x1024 .f32) (r : Fin 8) (l : Fin 1024) :
    k0_pay6 (F := Ideal) x w m v (ix2 r l) = (entryOf x w m v r l).grad := by
  rw [Entry.grad_eq]
  unfold k0_pay6
  pointwise [k0_pay4]

theorem point (x : Vec Ideal S8x8x1024 .f32) (w m v : Vec Ideal S8x1024 .f32) (r : Fin 8) (l : Fin 1024) :
    out0_4 x w m v (ix2 r l) = (entryOf x w m v r l).grad ∧ out0_5 x w m v (ix2 r l) = (entryOf x w m v r l).change
      ∧ out0_6 x w m v (ix2 r l) = (entryOf x w m v r l).newFirst ∧ out0_7 x w m v (ix2 r l) = (entryOf x w m v r l).newSecond := by
  refine ⟨?_, ?_, ?_, ?_⟩
  · unfold out0_4
    rw [View.canon_unit_zero hz]
    exact grad_at x w m v r l
  · unfold out0_5 k0_pay7
    rw [View.canon_unit_zero hz, View.ld_unit_zero (S := S8x1024) hz, View.ld_unit_zero (S := S8x1024) hz, View.ld_unit_zero (S := S8x1024) hz]
    pointwise [k0_pay3, k0_pay1, k0_pay2, k0_pay5]
    rw [grad_at]
    rfl
  · unfold out0_6 k0_pay7
    rw [View.canon_unit_zero hz, View.ld_unit_zero (S := S8x1024) hz]
    pointwise [k0_pay1, k0_pay5]
    rw [grad_at]
    rfl
  · unfold out0_7
    rw [View.canon_unit_zero hz, View.ld_unit_zero (S := S8x1024) hz]
    pointwise [k0_pay2]
    rw [grad_at]
    rfl

variable (m : (ℓ : Loc nD τ sig) → Buf (Elt Ideal) ℓ) (c : Dev nD)

/-- The arguments by the entry of the packed array. -/
def entry (r : Fin 8) (l : Fin 1024) : Entry :=
  ⟨fun d => m ((c.tc : Thread nD τ).loc main_arg0) (ix3 d r l), m ((c.tc : Thread nD τ).loc main_arg1) (ix2 r l),
    m ((c.tc : Thread nD τ).loc main_arg2) (ix2 r l), m ((c.tc : Thread nD τ).loc main_arg3) (ix2 r l)⟩

/-- Every block is its whole array. -/
theorem index : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The blocks' entries are the arrays'. -/
theorem blocks (t : Fin cfg0.N) (r : Fin 8) (l : Fin 1024) :
    entryOf (iblk m c 0 t) (iblk m c 1 t) (iblk m c 2 t) (iblk m c 3 t) r l = entry m c r l := by
  obtain ⟨i0, i1, i2, i3, -⟩ := index t
  have e0 : (fun d : Fin 8 => iblk m c 0 t (ix3 d r l)) = (entry m c r l).shard := funext fun d => by
    blk_simp [iblk]
    rw [V_main_arg0]
    refine congrArg _ ?_
    blk_ext [i0]
  have e1 : iblk m c 1 t (ix2 r l) = (entry m c r l).weight := by
    blk_simp [iblk]
    rw [V_main_arg1]
    refine congrArg _ ?_
    blk_ext [i1]
  have e2 : iblk m c 2 t (ix2 r l) = (entry m c r l).first := by
    blk_simp [iblk]
    rw [V_main_arg2]
    refine congrArg _ ?_
    blk_ext [i2]
  have e3 : iblk m c 3 t (ix2 r l) = (entry m c r l).second := by
    blk_simp [iblk]
    rw [V_main_arg3]
    refine congrArg _ ?_
    blk_ext [i3]
  exact Entry.ext e0 e1 e2 e3

/-- What a point stores, of the arguments. -/
theorem stored (t : Fin cfg0.N) (r : Fin 8) (l : Fin 1024) :
    out0_4 (iblk m c 0 t) (iblk m c 1 t) (iblk m c 2 t) (iblk m c 3 t) (ix2 r l) = (entry m c r l).grad
      ∧ out0_5 (iblk m c 0 t) (iblk m c 1 t) (iblk m c 2 t) (iblk m c 3 t) (ix2 r l) = (entry m c r l).change
      ∧ out0_6 (iblk m c 0 t) (iblk m c 1 t) (iblk m c 2 t) (iblk m c 3 t) (ix2 r l) = (entry m c r l).newFirst
      ∧ out0_7 (iblk m c 0 t) (iblk m c 1 t) (iblk m c 2 t) (iblk m c 3 t) (ix2 r l) = (entry m c r l).newSecond := by
  rw [← blocks m c t r l]
  exact point _ _ _ _ r l

/-- The four results. -/
def grads : Buf (Elt Ideal) ((c : Thread nD τ).loc main_v0_0) := fun i => (entry m c (i 0) (i 1)).grad
def changes : Buf (Elt Ideal) ((c : Thread nD τ).loc main_v0_1) := fun i => (entry m c (i 0) (i 1)).change
def firsts : Buf (Elt Ideal) ((c : Thread nD τ).loc main_v0_2) := fun i => (entry m c (i 0) (i 1)).newFirst
def seconds : Buf (Elt Ideal) ((c : Thread nD τ).loc main_v0_3) := fun i => (entry m c (i 0) (i 1)).newSecond

theorem arr_grads : (dats m 0 c).arrAt 4 cfg0.N = grads m c := by
  refine (dats m 0 c).arrAt_eq_of_covers 4 _ (by decide +kernel) fun t hf y => ?_
  have e : (win0_4.blk t).view.emb y = ix2 (y 0) (y 1) := by
    blk_ext [(index t).2.2.2.2.1]
  blk_simp
  rw [after0_4, e]
  exact (congrArg _ (eq_ix2 y)).trans (stored m c t (y 0) (y 1)).1

theorem arr_changes : (dats m 0 c).arrAt 5 cfg0.N = changes m c := by
  refine (dats m 0 c).arrAt_eq_of_covers 5 _ (by decide +kernel) fun t hf y => ?_
  have e : (win0_5.blk t).view.emb y = ix2 (y 0) (y 1) := by
    blk_ext [(index t).2.2.2.2.2.1]
  blk_simp
  rw [after0_5, e]
  exact (congrArg _ (eq_ix2 y)).trans (stored m c t (y 0) (y 1)).2.1

theorem arr_firsts : (dats m 0 c).arrAt 6 cfg0.N = firsts m c := by
  refine (dats m 0 c).arrAt_eq_of_covers 6 _ (by decide +kernel) fun t hf y => ?_
  have e : (win0_6.blk t).view.emb y = ix2 (y 0) (y 1) := by
    blk_ext [(index t).2.2.2.2.2.2.1]
  blk_simp
  rw [after0_6, e]
  exact (congrArg _ (eq_ix2 y)).trans (stored m c t (y 0) (y 1)).2.2.1

theorem arr_seconds : (dats m 0 c).arrAt 7 cfg0.N = seconds m c := by
  refine (dats m 0 c).arrAt_eq_of_covers 7 _ (by decide +kernel) fun t hf y => ?_
  have e : (win0_7.blk t).view.emb y = ix2 (y 0) (y 1) := by
    blk_ext [(index t).2.2.2.2.2.2.2]
  blk_simp
  rw [after0_7, e]
  exact (congrArg _ (eq_ix2 y)).trans (stored m c t (y 0) (y 1)).2.2.2

end Cert.AdamwSmallIdeal.Rows

namespace Cert.Optim

open Idealize.ShloMosaic Idealize.ShloMosaic.TcCoe Idealize.SL.Sem
open Cert.RefAdamwSmallIdeal Cert.RefAdamwSmallIdeal.Gen

/-- AdamW of the small parameters, packed in one array: the value claim. -/
theorem small : Cert.algebraic_AdamwSmallIdeal_RefAdamwSmallIdeal (hAdamwSmallIdeal := Cert.AdamwSmallIdeal.Gen.facts)
    (hRefAdamwSmallIdeal := Cert.RefAdamwSmallIdeal.Gen.facts) := by
  intro m g m' g' _ hag
  refine ⟨fun c => Cert.AdamwSmallIdeal.Rows.grads m c, fun c => Cert.AdamwSmallIdeal.Rows.changes m c,
    fun c => Cert.AdamwSmallIdeal.Rows.firsts m c, fun c => Cert.AdamwSmallIdeal.Rows.seconds m c, ?_, ?_⟩
  · exact (θ_run Cert.AdamwSmallIdeal.defs _ _).mono
      (fun r h c => ⟨(h c).1.trans (Cert.AdamwSmallIdeal.Rows.arr_grads m c), (h c).2.1.trans (Cert.AdamwSmallIdeal.Rows.arr_changes m c),
        (h c).2.2.1.trans (Cert.AdamwSmallIdeal.Rows.arr_firsts m c), (h c).2.2.2.1.trans (Cert.AdamwSmallIdeal.Rows.arr_seconds m c), (h c).2.2.2.2⟩)
      (Cert.AdamwSmallIdeal.Value.run_blocks (F := Ideal) m g)
  · refine (θ_run Cert.RefAdamwSmallIdeal.defs _ _).mono
      (fun r h c => ⟨(h c).1.trans (funext fun i => ?_), (h c).2.1.trans (funext fun i => ?_), (h c).2.2.1.trans (funext fun i => ?_),
        (h c).2.2.2.1.trans (funext fun i => ?_), (h c).2.2.2.2⟩)
      (Cert.RefAdamwSmallIdeal.Value.run (F := Ideal) m' g')
    all_goals
      obtain ⟨e0, e1, e2, e3⟩ := hag c
      simp only [e0, e1, e2, e3]
      obtain ⟨r, l, rfl⟩ : ∃ (r : Fin 8) (l : Fin 1024), i = ix2 r l := ⟨i 0, i 1, eq_ix2 i⟩
      pointwise
      rfl

end Cert.Optim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Mix.Frame
public import proofs.«01_k».proof.Proof.Mix.Same
public import proofs.«01_k».proof.Proof.Mix.Value
public import proofs.«01_k».proof.Proof.Gen.WgradGateUp.Frame
public import proofs.«01_k».proof.Proof.Gen.WgradDown.Frame
public import proofs.«01_k».proof.Proof.Gen.WgradOut.Frame
public import proofs.«01_k».proof.Proof.Gen.WgradIn.Frame
public import proofs.«01_k».proof.Proof.Gen.LnProj.Frame
public import proofs.«01_k».proof.Proof.Gen.ProjBwd.Frame
public import proofs.«01_k».proof.Proof.Gen.AdamwIn.Frame
public import proofs.«01_k».proof.Proof.Gen.AdamwOut.Frame
public import proofs.«01_k».proof.Proof.Gen.AdamwGateUp.Frame
public import proofs.«01_k».proof.Proof.Gen.AdamwDown.Frame
public import proofs.«01_k».proof.Proof.Gen.AdamwSmall.Frame
public import proofs.«01_k».proof.Proof.Wgrad.GateUp
public import proofs.«01_k».proof.Proof.Wgrad.Down
public import proofs.«01_k».proof.Proof.Wgrad.Out
public import proofs.«01_k».proof.Proof.Wgrad.In
public import proofs.«01_k».proof.Proof.Proj.LnProj
public import proofs.«01_k».proof.Proof.Back.Value
public import proofs.«01_k».proof.Proof.Optim.In
public import proofs.«01_k».proof.Proof.Optim.Out
public import proofs.«01_k».proof.Proof.Optim.GateUp
public import proofs.«01_k».proof.Proof.Optim.Down
public import proofs.«01_k».proof.Proof.Optim.Small
public import Idealize.ShloMosaic.Adequacy
public import Idealize.ShloMosaic.Init

@[expose] public section

noncomputable section

namespace Cert.Proof

open Idealize.ShloMosaic Idealize.SL.Sem

set_option maxRecDepth 100000 in
set_option maxHeartbeats 8000000 in
/-- The kernel's run at the machine's own floats is the idealisation's run read at them: the two programs are one text. -/
theorem frame_kernel : Cert.quiescent_Kernel := fun m ρ _ => by
  have h := Cert.KernelIdeal.Mix.frame (F := Bits) m ρ
  rw [← Cert.Mix.defs_same, ← Cert.Mix.main_same] at h
  exact h

theorem frame_ideal : Cert.quiescent_KernelIdeal := fun m ρ _ => Cert.KernelIdeal.Mix.frame (F := Ideal) m ρ

theorem frame_reference : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- The other calls' kernels run to their end by their generated runs, at the machine's floats and over the extended reals, -/
theorem frame_WgradGateUp : Cert.quiescent_WgradGateUp := fun m ρ _ => Cert.WgradGateUp.Gen.frame (F := Bits) m ρ
theorem frame_WgradGateUpIdeal : Cert.quiescent_WgradGateUpIdeal := fun m ρ _ => Cert.WgradGateUpIdeal.Gen.frame (F := Ideal) m ρ
theorem frame_WgradDown : Cert.quiescent_WgradDown := fun m ρ _ => Cert.WgradDown.Gen.frame (F := Bits) m ρ
theorem frame_WgradDownIdeal : Cert.quiescent_WgradDownIdeal := fun m ρ _ => Cert.WgradDownIdeal.Gen.frame (F := Ideal) m ρ
theorem frame_WgradOut : Cert.quiescent_WgradOut := fun m ρ _ => Cert.WgradOut.Gen.frame (F := Bits) m ρ
theorem frame_WgradOutIdeal : Cert.quiescent_WgradOutIdeal := fun m ρ _ => Cert.WgradOutIdeal.Gen.frame (F := Ideal) m ρ
theorem frame_WgradIn : Cert.quiescent_WgradIn := fun m ρ _ => Cert.WgradIn.Gen.frame (F := Bits) m ρ
theorem frame_WgradInIdeal : Cert.quiescent_WgradInIdeal := fun m ρ _ => Cert.WgradInIdeal.Gen.frame (F := Ideal) m ρ
theorem frame_LnProj : Cert.quiescent_LnProj := fun m ρ _ => Cert.LnProj.Gen.frame (F := Bits) m ρ
theorem frame_LnProjIdeal : Cert.quiescent_LnProjIdeal := fun m ρ _ => Cert.LnProjIdeal.Gen.frame (F := Ideal) m ρ
theorem frame_ProjBwd : Cert.quiescent_ProjBwd := fun m ρ _ => Cert.ProjBwd.Gen.frame (F := Bits) m ρ
theorem frame_ProjBwdIdeal : Cert.quiescent_ProjBwdIdeal := fun m ρ _ => Cert.ProjBwdIdeal.Gen.frame (F := Ideal) m ρ
theorem frame_AdamwIn : Cert.quiescent_AdamwIn := fun m ρ _ => Cert.AdamwIn.Gen.frame (F := Bits) m ρ
theorem frame_AdamwInIdeal : Cert.quiescent_AdamwInIdeal := fun m ρ _ => Cert.AdamwInIdeal.Gen.frame (F := Ideal) m ρ
theorem frame_AdamwOut : Cert.quiescent_AdamwOut := fun m ρ _ => Cert.AdamwOut.Gen.frame (F := Bits) m ρ
theorem frame_AdamwOutIdeal : Cert.quiescent_AdamwOutIdeal := fun m ρ _ => Cert.AdamwOutIdeal.Gen.frame (F := Ideal) m ρ
theorem frame_AdamwGateUp : Cert.quiescent_AdamwGateUp := fun m ρ _ => Cert.AdamwGateUp.Gen.frame (F := Bits) m ρ
theorem frame_AdamwGateUpIdeal : Cert.quiescent_AdamwGateUpIdeal := fun m ρ _ => Cert.AdamwGateUpIdeal.Gen.frame (F := Ideal) m ρ
theorem frame_AdamwDown : Cert.quiescent_AdamwDown := fun m ρ _ => Cert.AdamwDown.Gen.frame (F := Bits) m ρ
theorem frame_AdamwDownIdeal : Cert.quiescent_AdamwDownIdeal := fun m ρ _ => Cert.AdamwDownIdeal.Gen.frame (F := Ideal) m ρ
theorem frame_AdamwSmall : Cert.quiescent_AdamwSmall := fun m ρ _ => Cert.AdamwSmall.Gen.frame (F := Bits) m ρ
theorem frame_AdamwSmallIdeal : Cert.quiescent_AdamwSmallIdeal := fun m ρ _ => Cert.AdamwSmallIdeal.Gen.frame (F := Ideal) m ρ

/-- and so do their references. -/
theorem frame_RefWgradGateUp : Cert.quiescent_RefWgradGateUpIdeal := fun m ρ _ =>
  (θ_run Cert.RefWgradGateUpIdeal.defs _ _).mono (fun r h => ⟨fun c => (h c).2, sem_eq_zero_of_no_sems (by decide) r.2⟩)
    (Cert.RefWgradGateUpIdeal.Value.run (F := Ideal) m ρ)
theorem frame_RefWgradDown : Cert.quiescent_RefWgradDownIdeal := fun m ρ _ =>
  (θ_run Cert.RefWgradDownIdeal.defs _ _).mono (fun r h => ⟨fun c => (h c).2, sem_eq_zero_of_no_sems (by decide) r.2⟩)
    (Cert.RefWgradDownIdeal.Value.run (F := Ideal) m ρ)
theorem frame_RefWgradOut : Cert.quiescent_RefWgradOutIdeal := fun m ρ _ =>
  (θ_run Cert.RefWgradOutIdeal.defs _ _).mono (fun r h => ⟨fun c => (h c).2, sem_eq_zero_of_no_sems (by decide) r.2⟩)
    (Cert.RefWgradOutIdeal.Value.run (F := Ideal) m ρ)
theorem frame_RefWgradIn : Cert.quiescent_RefWgradInIdeal := fun m ρ _ =>
  (θ_run Cert.RefWgradInIdeal.defs _ _).mono (fun r h => ⟨fun c => (h c).2, sem_eq_zero_of_no_sems (by decide) r.2⟩)
    (Cert.RefWgradInIdeal.Value.run (F := Ideal) m ρ)
theorem frame_RefLnProj : Cert.quiescent_RefLnProjIdeal := fun m ρ _ =>
  (θ_run Cert.RefLnProjIdeal.defs _ _).mono (fun r h => ⟨fun c => (h c).2.2, sem_eq_zero_of_no_sems (by decide) r.2⟩)
    (Cert.RefLnProjIdeal.Value.run (F := Ideal) m ρ)
theorem frame_RefProjBwd : Cert.quiescent_RefProjBwdIdeal := fun m ρ _ =>
  (θ_run Cert.RefProjBwdIdeal.defs _ _).mono (fun r h => ⟨fun c => (h c).2.2, sem_eq_zero_of_no_sems (by decide) r.2⟩)
    (Cert.RefProjBwdIdeal.Value.run (F := Ideal) m ρ)
theorem frame_RefAdamwIn : Cert.quiescent_RefAdamwInIdeal := fun m ρ _ =>
  (θ_run Cert.RefAdamwInIdeal.defs _ _).mono (fun r h => ⟨fun c => (h c).2.2.2.2, sem_eq_zero_of_no_sems (by decide) r.2⟩)
    (Cert.RefAdamwInIdeal.Value.run (F := Ideal) m ρ)
theorem frame_RefAdamwOut : Cert.quiescent_RefAdamwOutIdeal := fun m ρ _ =>
  (θ_run Cert.RefAdamwOutIdeal.defs _ _).mono (fun r h => ⟨fun c => (h c).2.2.2.2, sem_eq_zero_of_no_sems (by decide) r.2⟩)
    (Cert.RefAdamwOutIdeal.Value.run (F := Ideal) m ρ)
theorem frame_RefAdamwGateUp : Cert.quiescent_RefAdamwGateUpIdeal := fun m ρ _ =>
  (θ_run Cert.RefAdamwGateUpIdeal.defs _ _).mono (fun r h => ⟨fun c => (h c).2.2.2.2, sem_eq_zero_of_no_sems (by decide) r.2⟩)
    (Cert.RefAdamwGateUpIdeal.Value.run (F := Ideal) m ρ)
theorem frame_RefAdamwDown : Cert.quiescent_RefAdamwDownIdeal := fun m ρ _ =>
  (θ_run Cert.RefAdamwDownIdeal.defs _ _).mono (fun r h => ⟨fun c => (h c).2.2.2.2, sem_eq_zero_of_no_sems (by decide) r.2⟩)
    (Cert.RefAdamwDownIdeal.Value.run (F := Ideal) m ρ)
theorem frame_RefAdamwSmall : Cert.quiescent_RefAdamwSmallIdeal := fun m ρ _ =>
  (θ_run Cert.RefAdamwSmallIdeal.defs _ _).mono (fun r h => ⟨fun c => (h c).2.2.2.2, sem_eq_zero_of_no_sems (by decide) r.2⟩)
    (Cert.RefAdamwSmallIdeal.Value.run (F := Ideal) m ρ)

theorem claim : Cert.Claim := ⟨Cert.Kernel.Gen.facts, Cert.KernelIdeal.Gen.facts, Cert.ReferenceIdeal.Gen.facts,
  Cert.WgradGateUp.Gen.facts, Cert.WgradGateUpIdeal.Gen.facts, Cert.RefWgradGateUpIdeal.Gen.facts,
  Cert.WgradDown.Gen.facts, Cert.WgradDownIdeal.Gen.facts, Cert.RefWgradDownIdeal.Gen.facts,
  Cert.WgradOut.Gen.facts, Cert.WgradOutIdeal.Gen.facts, Cert.RefWgradOutIdeal.Gen.facts,
  Cert.WgradIn.Gen.facts, Cert.WgradInIdeal.Gen.facts, Cert.RefWgradInIdeal.Gen.facts,
  Cert.LnProj.Gen.facts, Cert.LnProjIdeal.Gen.facts, Cert.RefLnProjIdeal.Gen.facts,
  Cert.AdamwIn.Gen.facts, Cert.AdamwInIdeal.Gen.facts, Cert.RefAdamwInIdeal.Gen.facts,
  Cert.AdamwOut.Gen.facts, Cert.AdamwOutIdeal.Gen.facts, Cert.RefAdamwOutIdeal.Gen.facts,
  Cert.AdamwGateUp.Gen.facts, Cert.AdamwGateUpIdeal.Gen.facts, Cert.RefAdamwGateUpIdeal.Gen.facts,
  Cert.AdamwDown.Gen.facts, Cert.AdamwDownIdeal.Gen.facts, Cert.RefAdamwDownIdeal.Gen.facts,
  Cert.AdamwSmall.Gen.facts, Cert.AdamwSmallIdeal.Gen.facts, Cert.RefAdamwSmallIdeal.Gen.facts,
  Cert.ProjBwd.Gen.facts, Cert.ProjBwdIdeal.Gen.facts, Cert.RefProjBwdIdeal.Gen.facts,
  Cert.Mix.pre_facts, Cert.Back.pre_facts,
  frame_kernel, frame_ideal, fun m ρ _ => frame_ideal m ρ trivial, frame_reference, fun m ρ _ => frame_reference m ρ trivial,
  frame_WgradGateUp, frame_WgradGateUpIdeal, frame_RefWgradGateUp,
  frame_WgradDown, frame_WgradDownIdeal, frame_RefWgradDown,
  frame_WgradOut, frame_WgradOutIdeal, frame_RefWgradOut,
  frame_WgradIn, frame_WgradInIdeal, frame_RefWgradIn,
  frame_LnProj, frame_LnProjIdeal, frame_RefLnProj,
  frame_AdamwIn, frame_AdamwInIdeal, frame_RefAdamwIn,
  frame_AdamwOut, frame_AdamwOutIdeal, frame_RefAdamwOut,
  frame_AdamwGateUp, frame_AdamwGateUpIdeal, frame_RefAdamwGateUp,
  frame_AdamwDown, frame_AdamwDownIdeal, frame_RefAdamwDown,
  frame_AdamwSmall, frame_AdamwSmallIdeal, frame_RefAdamwSmall,
  frame_ProjBwd, frame_ProjBwdIdeal, fun m ρ _ => frame_ProjBwdIdeal m ρ trivial, frame_RefProjBwd,
  fun m ρ _ => frame_RefProjBwd m ρ trivial,
  trivial, Cert.Mix.algebraic,
  trivial, Cert.Wgrad.gateUp,
  trivial, Cert.Wgrad.down,
  trivial, Cert.Wgrad.out,
  trivial, Cert.Wgrad.input,
  trivial, Cert.Proj.lnProj,
  trivial, Cert.Optim.input,
  trivial, Cert.Optim.out,
  trivial, Cert.Optim.gateUp,
  trivial, Cert.Optim.down,
  trivial, Cert.Optim.small,
  trivial, Cert.Back.projBwd⟩

end Cert.Proof

end
